-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6)
      ∧ r.2.mem ((c.tc : Thread Cert.ProjS.nD Cert.ProjS.τ).loc Cert.ProjS.main_arg7) = m ((c.tc : Thread Cert.ProjS.nD Cert.ProjS.τ).loc Cert.ProjS.main_arg7)
      ∧ r.2.mem ((c.tc : Thread Cert.ProjS.nD Cert.ProjS.τ).loc Cert.ProjS.main_arg8) = m ((c.tc : Thread Cert.ProjS.nD Cert.ProjS.τ).loc Cert.ProjS.main_arg8))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
      ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
      ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6)
      ∧ r.2.mem ((c.tc : Thread Cert.ProjSRefIdeal.nD Cert.ProjSRefIdeal.τ).loc Cert.ProjSRefIdeal.main_arg7) = m ((c.tc : Thread Cert.ProjSRefIdeal.nD Cert.ProjSRefIdeal.τ).loc Cert.ProjSRefIdeal.main_arg7)
      ∧ r.2.mem ((c.tc : Thread Cert.ProjSRefIdeal.nD Cert.ProjSRefIdeal.τ).loc Cert.ProjSRefIdeal.main_arg8) = m ((c.tc : Thread Cert.ProjSRefIdeal.nD Cert.ProjSRefIdeal.τ).loc Cert.ProjSRefIdeal.main_arg8))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10)
      ∧ r.2.mem ((c.tc : Thread Cert.MergeS.nD Cert.MergeS.τ).loc Cert.MergeS.main_arg11) = m ((c.tc : Thread Cert.MergeS.nD Cert.MergeS.τ).loc Cert.MergeS.main_arg11))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10)
      ∧ r.2.mem ((c.tc : Thread Cert.MergeSIdeal.nD Cert.MergeSIdeal.τ).loc Cert.MergeSIdeal.main_arg11) = m ((c.tc : Thread Cert.MergeSIdeal.nD Cert.MergeSIdeal.τ).loc Cert.MergeSIdeal.main_arg11))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10)
      ∧ r.2.mem ((c.tc : Thread Cert.MergeSRefIdeal.nD Cert.MergeSRefIdeal.τ).loc Cert.MergeSRefIdeal.main_arg11) = m ((c.tc : Thread Cert.MergeSRefIdeal.nD Cert.MergeSRefIdeal.τ).loc Cert.MergeSRefIdeal.main_arg11))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def preserves_Mla_MlaIdeal : Prop :=
  IdealRules.named_const.Statement Cert.MlaIdeal.κ "mask" .f32 0xF149F2CA#32 ⊥

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v33) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v73_3)) (v1 : (c : Dev Cert.ProjIdeal.nD) → Buf (Elt Ideal) ((c.tc : Thread Cert.ProjIdeal.nD Cert.ProjIdeal.τ).loc Cert.ProjIdeal.main_v73_4)) (v2 : (c : Dev Cert.ProjIdeal.nD) → Buf (Elt Ideal) ((c.tc : Thread Cert.ProjIdeal.nD Cert.ProjIdeal.τ).loc Cert.ProjIdeal.main_v73_8)) (v3 : (c : Dev Cert.ProjIdeal.nD) → Buf (Elt Ideal) ((c.tc : Thread Cert.ProjIdeal.nD Cert.ProjIdeal.τ).loc Cert.ProjIdeal.main_v73_9)) (v4 : (c : Dev Cert.ProjIdeal.nD) → Buf (Elt Ideal) ((c.tc : Thread Cert.ProjIdeal.nD Cert.ProjIdeal.τ).loc Cert.ProjIdeal.main_v73_10)) (v5 : (c : Dev Cert.ProjIdeal.nD) → Buf (Elt Ideal) ((c.tc : Thread Cert.ProjIdeal.nD Cert.ProjIdeal.τ).loc Cert.ProjIdeal.main_v73_2)) (v6 : (c : Dev Cert.ProjIdeal.nD) → Buf (Elt Ideal) ((c.tc : Thread Cert.ProjIdeal.nD Cert.ProjIdeal.τ).loc Cert.ProjIdeal.main_v73_5)) (v7 : (c : Dev Cert.ProjIdeal.nD) → Buf (Elt Ideal) ((c.tc : Thread Cert.ProjIdeal.nD Cert.ProjIdeal.τ).loc Cert.ProjIdeal.main_v73_6)) (v8 : (c : Dev Cert.ProjIdeal.nD) → Buf (Elt Ideal) ((c.tc : Thread Cert.ProjIdeal.nD Cert.ProjIdeal.τ).loc Cert.ProjIdeal.main_v73_7)) (v9 : (c : Dev Cert.ProjIdeal.nD) → Buf (Elt Ideal) ((c.tc : Thread Cert.ProjIdeal.nD Cert.ProjIdeal.τ).loc Cert.ProjIdeal.main_v73_0)) (v10 : (c : Dev Cert.ProjIdeal.nD) → Buf (Elt Ideal) ((c.tc : Thread Cert.ProjIdeal.nD Cert.ProjIdeal.τ).loc Cert.ProjIdeal.main_v73_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v73_3) = v0 c
          ∧ r.2.mem ((c.tc : Thread Cert.ProjIdeal.nD Cert.ProjIdeal.τ).loc Cert.ProjIdeal.main_v73_4) = v1 c
          ∧ r.2.mem ((c.tc : Thread Cert.ProjIdeal.nD Cert.ProjIdeal.τ).loc Cert.ProjIdeal.main_v73_8) = v2 c
          ∧ r.2.mem ((c.tc : Thread Cert.ProjIdeal.nD Cert.ProjIdeal.τ).loc Cert.ProjIdeal.main_v73_9) = v3 c
          ∧ r.2.mem ((c.tc : Thread Cert.ProjIdeal.nD Cert.ProjIdeal.τ).loc Cert.ProjIdeal.main_v73_10) = v4 c
          ∧ r.2.mem ((c.tc : Thread Cert.ProjIdeal.nD Cert.ProjIdeal.τ).loc Cert.ProjIdeal.main_v73_2) = v5 c
          ∧ r.2.mem ((c.tc : Thread Cert.ProjIdeal.nD Cert.ProjIdeal.τ).loc Cert.ProjIdeal.main_v73_5) = v6 c
          ∧ r.2.mem ((c.tc : Thread Cert.ProjIdeal.nD Cert.ProjIdeal.τ).loc Cert.ProjIdeal.main_v73_6) = v7 c
          ∧ r.2.mem ((c.tc : Thread Cert.ProjIdeal.nD Cert.ProjIdeal.τ).loc Cert.ProjIdeal.main_v73_7) = v8 c
          ∧ r.2.mem ((c.tc : Thread Cert.ProjIdeal.nD Cert.ProjIdeal.τ).loc Cert.ProjIdeal.main_v73_0) = v9 c
          ∧ r.2.mem ((c.tc : Thread Cert.ProjIdeal.nD Cert.ProjIdeal.τ).loc Cert.ProjIdeal.main_v73_1) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v32) = v0 c
          ∧ r.2.mem ((c.tc : Thread Cert.ProjRefIdeal.nD Cert.ProjRefIdeal.τ).loc Cert.ProjRefIdeal.main_v68) = v1 c
          ∧ r.2.mem ((c.tc : Thread Cert.ProjRefIdeal.nD Cert.ProjRefIdeal.τ).loc Cert.ProjRefIdeal.main_v126) = v2 c
          ∧ r.2.mem ((c.tc : Thread Cert.ProjRefIdeal.nD Cert.ProjRefIdeal.τ).loc Cert.ProjRefIdeal.main_v128) = v3 c
          ∧ r.2.mem ((c.tc : Thread Cert.ProjRefIdeal.nD Cert.ProjRefIdeal.τ).loc Cert.ProjRefIdeal.main_v143) = v4 c
          ∧ r.2.mem ((c.tc : Thread Cert.ProjRefIdeal.nD Cert.ProjRefIdeal.τ).loc Cert.ProjRefIdeal.main_v144) = v5 c
          ∧ r.2.mem ((c.tc : Thread Cert.ProjRefIdeal.nD Cert.ProjRefIdeal.τ).loc Cert.ProjRefIdeal.main_v145) = v6 c
          ∧ r.2.mem ((c.tc : Thread Cert.ProjRefIdeal.nD Cert.ProjRefIdeal.τ).loc Cert.ProjRefIdeal.main_v146) = v7 c
          ∧ r.2.mem ((c.tc : Thread Cert.ProjRefIdeal.nD Cert.ProjRefIdeal.τ).loc Cert.ProjRefIdeal.main_v147) = v8 c
          ∧ r.2.mem ((c.tc : Thread Cert.ProjRefIdeal.nD Cert.ProjRefIdeal.τ).loc Cert.ProjRefIdeal.main_v148) = v9 c
          ∧ r.2.mem ((c.tc : Thread Cert.ProjRefIdeal.nD Cert.ProjRefIdeal.τ).loc Cert.ProjRefIdeal.main_v149) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)
      ∧ m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)
      ∧ m' ((c.tc : Thread Cert.ProjSRefIdeal.nD Cert.ProjSRefIdeal.τ).loc Cert.ProjSRefIdeal.main_arg8) = m ((c.tc : Thread Cert.ProjSIdeal.nD Cert.ProjSIdeal.τ).loc Cert.ProjSIdeal.main_arg8)) →
    ∃ (v0 : (c : Dev Cert.ProjSIdeal.nD) → Buf (Elt Ideal) ((c.tc : Thread Cert.ProjSIdeal.nD Cert.ProjSIdeal.τ).loc Cert.ProjSIdeal.main_v45_0)) (v1 : (c : Dev Cert.ProjSIdeal.nD) → Buf (Elt Ideal) ((c.tc : Thread Cert.ProjSIdeal.nD Cert.ProjSIdeal.τ).loc Cert.ProjSIdeal.main_v45_1)) (v2 : (c : Dev Cert.ProjSIdeal.nD) → Buf (Elt Ideal) ((c.tc : Thread Cert.ProjSIdeal.nD Cert.ProjSIdeal.τ).loc Cert.ProjSIdeal.main_v45_3)) (v3 : (c : Dev Cert.ProjSIdeal.nD) → Buf (Elt Ideal) ((c.tc : Thread Cert.ProjSIdeal.nD Cert.ProjSIdeal.τ).loc Cert.ProjSIdeal.main_v45_4)) (v4 : (c : Dev Cert.ProjSIdeal.nD) → Buf (Elt Ideal) ((c.tc : Thread Cert.ProjSIdeal.nD Cert.ProjSIdeal.τ).loc Cert.ProjSIdeal.main_v45_5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v45_0) = v0 c
          ∧ r.2.mem ((c.tc : Thread Cert.ProjSIdeal.nD Cert.ProjSIdeal.τ).loc Cert.ProjSIdeal.main_v45_1) = v1 c
          ∧ r.2.mem ((c.tc : Thread Cert.ProjSIdeal.nD Cert.ProjSIdeal.τ).loc Cert.ProjSIdeal.main_v45_3) = v2 c
          ∧ r.2.mem ((c.tc : Thread Cert.ProjSIdeal.nD Cert.ProjSIdeal.τ).loc Cert.ProjSIdeal.main_v45_4) = v3 c
          ∧ r.2.mem ((c.tc : Thread Cert.ProjSIdeal.nD Cert.ProjSIdeal.τ).loc Cert.ProjSIdeal.main_v45_5) = v4 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
          ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
          ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v32) = v0 c
          ∧ r.2.mem ((c.tc : Thread Cert.ProjSRefIdeal.nD Cert.ProjSRefIdeal.τ).loc Cert.ProjSRefIdeal.main_v69) = v1 c
          ∧ r.2.mem ((c.tc : Thread Cert.ProjSRefIdeal.nD Cert.ProjSRefIdeal.τ).loc Cert.ProjSRefIdeal.main_v17) = v2 c
          ∧ r.2.mem ((c.tc : Thread Cert.ProjSRefIdeal.nD Cert.ProjSRefIdeal.τ).loc Cert.ProjSRefIdeal.main_v18) = v3 c
          ∧ r.2.mem ((c.tc : Thread Cert.ProjSRefIdeal.nD Cert.ProjSRefIdeal.τ).loc Cert.ProjSRefIdeal.main_v74) = v4 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6)
          ∧ r.2.mem ((c.tc : Thread Cert.ProjSRefIdeal.nD Cert.ProjSRefIdeal.τ).loc Cert.ProjSRefIdeal.main_arg7) = m' ((c.tc : Thread Cert.ProjSRefIdeal.nD Cert.ProjSRefIdeal.τ).loc Cert.ProjSRefIdeal.main_arg7)
          ∧ r.2.mem ((c.tc : Thread Cert.ProjSRefIdeal.nD Cert.ProjSRefIdeal.τ).loc Cert.ProjSRefIdeal.main_arg8) = m' ((c.tc : Thread Cert.ProjSRefIdeal.nD Cert.ProjSRefIdeal.τ).loc Cert.ProjSRefIdeal.main_arg8))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)
      ∧ m' ((c.tc : Thread Cert.MergeSRefIdeal.nD Cert.MergeSRefIdeal.τ).loc Cert.MergeSRefIdeal.main_arg11) = m ((c.tc : Thread Cert.MergeSIdeal.nD Cert.MergeSIdeal.τ).loc Cert.MergeSIdeal.main_arg11)) →
    ∃ (v0 : (c : Dev Cert.MergeSIdeal.nD) → Buf (Elt Ideal) ((c.tc : Thread Cert.MergeSIdeal.nD Cert.MergeSIdeal.τ).loc Cert.MergeSIdeal.main_v0)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v0) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10)
          ∧ r.2.mem ((c.tc : Thread Cert.MergeSIdeal.nD Cert.MergeSIdeal.τ).loc Cert.MergeSIdeal.main_arg11) = m ((c.tc : Thread Cert.MergeSIdeal.nD Cert.MergeSIdeal.τ).loc Cert.MergeSIdeal.main_arg11))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v67) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10)
          ∧ r.2.mem ((c.tc : Thread Cert.MergeSRefIdeal.nD Cert.MergeSRefIdeal.τ).loc Cert.MergeSRefIdeal.main_arg11) = m' ((c.tc : Thread Cert.MergeSRefIdeal.nD Cert.MergeSRefIdeal.τ).loc Cert.MergeSRefIdeal.main_arg11))

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v42) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def Claim : Prop :=
  ∃ (hMla : Cert.Mla.Facts) (hMlaIdeal : Cert.MlaIdeal.Facts) (hMlaRefIdeal : Cert.MlaRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMergeS : Cert.MergeS.Facts) (hMergeSIdeal : Cert.MergeSIdeal.Facts) (hMergeSRefIdeal : Cert.MergeSRefIdeal.Facts) (hFox : Cert.Fox.Facts) (hFoxIdeal : Cert.FoxIdeal.Facts) (hFoxRefIdeal : Cert.FoxRefIdeal.Facts),
    quiescent_Mla (hMla := hMla)
    ∧ quiescent_MlaIdeal (hMlaIdeal := hMlaIdeal)
    ∧ quiescent_MlaRefIdeal (hMlaRefIdeal := hMlaRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_Fox (hFox := hFox)
    ∧ quiescent_FoxIdeal (hFoxIdeal := hFoxIdeal)
    ∧ quiescent_FoxRefIdeal (hFoxRefIdeal := hFoxRefIdeal)
    ∧ preserves_Mla_MlaIdeal
    ∧ algebraic_MlaIdeal_MlaRefIdeal (hMlaIdeal := hMlaIdeal) (hMlaRefIdeal := hMlaRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_MergeS_MergeSIdeal
    ∧ algebraic_MergeSIdeal_MergeSRefIdeal (hMergeSIdeal := hMergeSIdeal) (hMergeSRefIdeal := hMergeSRefIdeal)
    ∧ preserves_Fox_FoxIdeal
    ∧ algebraic_FoxIdeal_FoxRefIdeal (hFoxIdeal := hFoxIdeal) (hFoxRefIdeal := hFoxRefIdeal)
-- ==== Mla.lean ====
abbrev S16384x1024 : Shape := ⟨2, ![16384, 1024]⟩
abbrev S8x512x2048 : Shape := ⟨3, ![8, 512, 2048]⟩
abbrev S16384x512 : Shape := ⟨2, ![16384, 512]⟩
abbrev S512x256 : Shape := ⟨2, ![512, 256]⟩
abbrev S2048x256 : Shape := ⟨2, ![2048, 256]⟩
abbrev S1x128x2048 : Shape := ⟨3, ![1, 128, 2048]⟩
abbrev S512x128 : Shape := ⟨2, ![512, 128]⟩
abbrev S2x1x512 : Shape := ⟨3, ![2, 1, 512]⟩
abbrev S2x80x512 : Shape := ⟨3, ![2, 80, 512]⟩
abbrev S2x512x512 : Shape := ⟨3, ![2, 512, 512]⟩
abbrev S16x512 : Shape := ⟨2, ![16, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S80x512 : Shape := ⟨2, ![80, 512]⟩
abbrev S1x80x512 : Shape := ⟨3, ![1, 80, 512]⟩
abbrev S128x512 : Shape := ⟨2, ![128, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x512x2048, .bf16⟩
  | .hbm, ⟨3, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S1x128x2048, .bf16⟩
  | .local _ .vmem, ⟨5, _⟩ => ⟨S1x128x2048, .bf16⟩
  | .local _ .vmem, ⟨6, _⟩ => ⟨S512x128, .f32⟩
  | .local _ .vmem, ⟨7, _⟩ => ⟨S512x128, .f32⟩
  | .local _ .vmem, ⟨8, _⟩ => ⟨S2x1x512, .f32⟩
  | .local _ .vmem, ⟨9, _⟩ => ⟨S2x80x512, .f32⟩
  | .local _ .vmem, ⟨10, _⟩ => ⟨S2x512x512, .f32⟩
  | .local _ .vmem, ⟨11, _⟩ => ⟨S2x512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop (i : grid0.Coords) : Scf.Loop 32 :=
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_27 : BitVec 32 := 1#32
  ⟨c0_i32_25, v45, c1_i32_27⟩
def k0_mult2 (i : grid0.Coords) (k0_t1 : Fin (k0_t1_loop i).trips) : BitVec 32 :=
  let c2_i32_58 : BitVec 32 := 2#32
  let c0_i32_25 : BitVec 32 := 0#32
  let c1_i32_27 : BitVec 32 := 1#32
  let arg11 : BitVec 32 := Scf.iv c0_i32_25 c1_i32_27 k0_t1
  let v87 : BitVec 32 := Scalar.muli c2_i32_58 arg11
  let c1_i32_59 : BitVec 32 := 1#32
  let v88 : BitVec 32 := Scalar.addi v87 c1_i32_59
  let c512_i32 : BitVec 32 := 512#32
  let v89 : BitVec 32 := Scalar.muli v88 c512_i32
  v89
def k0_off1 (i : grid0.Coords) (k0_t1 : Fin (k0_t1_loop i).trips) (c1_i32_59 : BitVec 32) : Fin 2 → Nat :=
  let c2_i32_58 : BitVec 32 := 2#32
  let c0_i32_25 : BitVec 32 := 0#32
  let c1_i32_27 : BitVec 32 := 1#32
  let arg11 : BitVec 32 := Scf.iv c0_i32_25 c1_i32_27 k0_t1
  let v87 : BitVec 32 := Scalar.muli c2_i32_58 arg11
  let v88 : BitVec 32 := Scalar.addi v87 c1_i32_59
  let c512_i32 : BitVec 32 := 512#32
  let v89 : BitVec 32 := Scalar.muli v88 c512_i32
  let v90 : BitVec 32 := v89
  let v91 : Index := Scalar.indexCast v90
  let c0_60 : Index := 0#32
  ![v91.toNat, 0]
def k0_off2 (i : grid0.Coords) (k0_t1 : Fin (k0_t1_loop i).trips) (c1_i32_59 : BitVec 32) : Fin 2 → Nat :=
  let c2_i32_58 : BitVec 32 := 2#32
  let c0_i32_25 : BitVec 32 := 0#32
  let c1_i32_27 : BitVec 32 := 1#32
  let arg11 : BitVec 32 := Scf.iv c0_i32_25 c1_i32_27 k0_t1
  let v87 : BitVec 32 := Scalar.muli c2_i32_58 arg11
  let v88 : BitVec 32 := Scalar.addi v87 c1_i32_59
  let c512_i32 : BitVec 32 := 512#32
  let v89 : BitVec 32 := Scalar.muli v88 c512_i32
  let v90 : BitVec 32 := v89
  let v97 : Index := Scalar.indexCast v90
  let c128_65 : Index := 128#32
  ![v97.toNat, 128]
def k0_mult3 (i : grid0.Coords) (k0_t1 : Fin (k0_t1_loop i).trips) : BitVec 32 :=
  let c2_i32_70 : BitVec 32 := 2#32
  let c0_i32_25 : BitVec 32 := 0#32
  let c1_i32_27 : BitVec 32 := 1#32
  let arg11 : BitVec 32 := Scf.iv c0_i32_25 c1_i32_27 k0_t1
  let v103 : BitVec 32 := Scalar.muli c2_i32_70 arg11
  let c512_i32_71 : BitVec 32 := 512#32
  let v104 : BitVec 32 := Scalar.muli v103 c512_i32_71
  v104
def k0_off3 (i : grid0.Coords) (k0_t1 : Fin (k0_t1_loop i).trips) : Fin 3 → Nat :=
  let c0_79 : Index := 0#32
  let c0_80 : Index := 0#32
  let c2_i32_70 : BitVec 32 := 2#32
  let c0_i32_25 : BitVec 32 := 0#32
  let c1_i32_27 : BitVec 32 := 1#32
  let arg11 : BitVec 32 := Scf.iv c0_i32_25 c1_i32_27 k0_t1
  let v103 : BitVec 32 := Scalar.muli c2_i32_70 arg11
  let c512_i32_71 : BitVec 32 := 512#32
  let v104 : BitVec 32 := Scalar.muli v103 c512_i32_71
  let v105 : BitVec 32 := v104
  let v119 : Index := Scalar.indexCast v105
  ![0, 0, v119.toNat]
def k0_off4 (i : grid0.Coords) (k0_t1 : Fin (k0_t1_loop i).trips) : Fin 3 → Nat :=
  let c0_98 : Index := 0#32
  let c64_99 : Index := 64#32
  let c2_i32_70 : BitVec 32 := 2#32
  let c0_i32_25 : BitVec 32 := 0#32
  let c1_i32_27 : BitVec 32 := 1#32
  let arg11 : BitVec 32 := Scf.iv c0_i32_25 c1_i32_27 k0_t1
  let v103 : BitVec 32 := Scalar.muli c2_i32_70 arg11
  let c512_i32_71 : BitVec 32 := 512#32
  let v104 : BitVec 32 := Scalar.muli v103 c512_i32_71
  let v105 : BitVec 32 := v104
  let v148 : Index := Scalar.indexCast v105
  ![0, 64, v148.toNat]
def k0_mult4 (i : grid0.Coords) (k0_t1 : Fin (k0_t1_loop i).trips) : BitVec 32 :=
  let c2_i32_110 : BitVec 32 := 2#32
  let c0_i32_25 : BitVec 32 := 0#32
  let c1_i32_27 : BitVec 32 := 1#32
  let arg11 : BitVec 32 := Scf.iv c0_i32_25 c1_i32_27 k0_t1
  let v164 : BitVec 32 := Scalar.muli c2_i32_110 arg11
  let c2_i32_111 : BitVec 32 := 2#32
  let v165 : BitVec 32 := Scalar.addi v164 c2_i32_111
  let c512_i32_112 : BitVec 32 := 512#32
  let v166 : BitVec 32 := Scalar.muli v165 c512_i32_112
  v166
def k0_mult5 (i : grid0.Coords) (k0_t1 : Fin (k0_t1_loop i).trips) : BitVec 32 :=
  let c2_i32_123 : BitVec 32 := 2#32
  let c0_i32_25 : BitVec 32 := 0#32
  let c1_i32_27 : BitVec 32 := 1#32
  let arg11 : BitVec 32 := Scf.iv c0_i32_25 c1_i32_27 k0_t1
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  v182
def k0_off5 (i : grid0.Coords) (k0_t1 : Fin (k0_t1_loop i).trips) : Fin 3 → Nat :=
  let c0_133 : Index := 0#32
  let c0_134 : Index := 0#32
  let c2_i32_123 : BitVec 32 := 2#32
  let c0_i32_25 : BitVec 32 := 0#32
  let c1_i32_27 : BitVec 32 := 1#32
  let arg11 : BitVec 32 := Scf.iv c0_i32_25 c1_i32_27 k0_t1
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  let v183 : BitVec 32 := v182
  let v197 : Index := Scalar.indexCast v183
  ![0, 0, v197.toNat]
def k0_off6 (i : grid0.Coords) (k0_t1 : Fin (k0_t1_loop i).trips) : Fin 3 → Nat :=
  let c0_152 : Index := 0#32
  let c64_153 : Index := 64#32
  let c2_i32_123 : BitVec 32 := 2#32
  let c0_i32_25 : BitVec 32 := 0#32
  let c1_i32_27 : BitVec 32 := 1#32
  let arg11 : BitVec 32 := Scf.iv c0_i32_25 c1_i32_27 k0_t1
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  let v183 : BitVec 32 := v182
  let v226 : Index := Scalar.indexCast v183
  ![0, 64, v226.toNat]
@[reducible] def k0_t2_loop (i : grid0.Coords) : Scf.Loop 32 :=
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let v42 : BitVec 32 := Scalar.addi c0_i32_25 v41
  let c1_i32_28 : BitVec 32 := 1#32
  ⟨v45, v42, c1_i32_28⟩
def k0_mult6 (i : grid0.Coords) (k0_t2 : Fin (k0_t2_loop i).trips) : BitVec 32 :=
  let c2_i32_58 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v87 : BitVec 32 := Scalar.muli c2_i32_58 arg11
  let c1_i32_59 : BitVec 32 := 1#32
  let v88 : BitVec 32 := Scalar.addi v87 c1_i32_59
  let c512_i32 : BitVec 32 := 512#32
  let v89 : BitVec 32 := Scalar.muli v88 c512_i32
  v89
def k0_off7 (i : grid0.Coords) (k0_t2 : Fin (k0_t2_loop i).trips) (c1_i32_59 : BitVec 32) : Fin 2 → Nat :=
  let c2_i32_58 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v87 : BitVec 32 := Scalar.muli c2_i32_58 arg11
  let v88 : BitVec 32 := Scalar.addi v87 c1_i32_59
  let c512_i32 : BitVec 32 := 512#32
  let v89 : BitVec 32 := Scalar.muli v88 c512_i32
  let v90 : BitVec 32 := v89
  let v91 : Index := Scalar.indexCast v90
  let c0_60 : Index := 0#32
  ![v91.toNat, 0]
def k0_off8 (i : grid0.Coords) (k0_t2 : Fin (k0_t2_loop i).trips) (c1_i32_59 : BitVec 32) : Fin 2 → Nat :=
  let c2_i32_58 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v87 : BitVec 32 := Scalar.muli c2_i32_58 arg11
  let v88 : BitVec 32 := Scalar.addi v87 c1_i32_59
  let c512_i32 : BitVec 32 := 512#32
  let v89 : BitVec 32 := Scalar.muli v88 c512_i32
  let v90 : BitVec 32 := v89
  let v97 : Index := Scalar.indexCast v90
  let c128_65 : Index := 128#32
  ![v97.toNat, 128]
def k0_mult7 (i : grid0.Coords) (k0_t2 : Fin (k0_t2_loop i).trips) : BitVec 32 :=
  let c2_i32_70 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v103 : BitVec 32 := Scalar.muli c2_i32_70 arg11
  let c512_i32_71 : BitVec 32 := 512#32
  let v104 : BitVec 32 := Scalar.muli v103 c512_i32_71
  v104
def k0_off9 (i : grid0.Coords) (k0_t2 : Fin (k0_t2_loop i).trips) : Fin 3 → Nat :=
  let c0_79 : Index := 0#32
  let c0_80 : Index := 0#32
  let c2_i32_70 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v103 : BitVec 32 := Scalar.muli c2_i32_70 arg11
  let c512_i32_71 : BitVec 32 := 512#32
  let v104 : BitVec 32 := Scalar.muli v103 c512_i32_71
  let v105 : BitVec 32 := v104
  let v119 : Index := Scalar.indexCast v105
  ![0, 0, v119.toNat]
def k0_off10 (i : grid0.Coords) (k0_t2 : Fin (k0_t2_loop i).trips) : Fin 3 → Nat :=
  let c0_98 : Index := 0#32
  let c64_99 : Index := 64#32
  let c2_i32_70 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v103 : BitVec 32 := Scalar.muli c2_i32_70 arg11
  let c512_i32_71 : BitVec 32 := 512#32
  let v104 : BitVec 32 := Scalar.muli v103 c512_i32_71
  let v105 : BitVec 32 := v104
  let v148 : Index := Scalar.indexCast v105
  ![0, 64, v148.toNat]
def k0_mult8 (i : grid0.Coords) (k0_t2 : Fin (k0_t2_loop i).trips) : BitVec 32 :=
  let c2_i32_110 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v164 : BitVec 32 := Scalar.muli c2_i32_110 arg11
  let c2_i32_111 : BitVec 32 := 2#32
  let v165 : BitVec 32 := Scalar.addi v164 c2_i32_111
  let c512_i32_112 : BitVec 32 := 512#32
  let v166 : BitVec 32 := Scalar.muli v165 c512_i32_112
  v166
def k0_mult9 (i : grid0.Coords) (k0_t2 : Fin (k0_t2_loop i).trips) : BitVec 32 :=
  let c2_i32_123 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  v182
def k0_off11 (i : grid0.Coords) (k0_t2 : Fin (k0_t2_loop i).trips) : Fin 3 → Nat :=
  let c0_133 : Index := 0#32
  let c0_134 : Index := 0#32
  let c2_i32_123 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  let v183 : BitVec 32 := v182
  let v197 : Index := Scalar.indexCast v183
  ![0, 0, v197.toNat]
def k0_off12 (i : grid0.Coords) (k0_t2 : Fin (k0_t2_loop i).trips) : Fin 3 → Nat :=
  let c0_152 : Index := 0#32
  let c64_153 : Index := 64#32
  let c2_i32_123 : BitVec 32 := 2#32
  let c0_i32_25 : BitVec 32 := 0#32
  let arg2 : BitVec 32 := BitVec.ofNat 32 (i 2).val
  let c0_i32_19 : BitVec 32 := 0#32
  let v25 : BitVec 1 := Scalar.cmpi .sgt arg2 c0_i32_19
  let v26 : BitVec 32 := Scalar.extui v25
  let c0_i32_20 : BitVec 32 := 0#32
  let v27 : BitVec 1 := Scalar.cmpi .slt arg2 c0_i32_20
  let v28 : BitVec 32 := Scalar.extui v27
  let v29 : BitVec 32 := Scalar.subi v26 v28
  let c2_i32 : BitVec 32 := 2#32
  let c0_i32_21 : BitVec 32 := 0#32
  let v30 : BitVec 1 := Scalar.cmpi .sgt c2_i32 c0_i32_21
  let v31 : BitVec 32 := Scalar.extui v30
  let c0_i32_22 : BitVec 32 := 0#32
  let v32 : BitVec 1 := Scalar.cmpi .slt c2_i32 c0_i32_22
  let v33 : BitVec 32 := Scalar.extui v32
  let v34 : BitVec 32 := Scalar.subi v31 v33
  let v35 : BitVec 1 := Scalar.cmpi .ne v29 v34
  let v36 : BitVec 32 := Scalar.remsi arg2 c2_i32
  let c0_i32_23 : BitVec 32 := 0#32
  let v37 : BitVec 1 := Scalar.cmpi .ne v36 c0_i32_23
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_25
  let c1_i32_26 : BitVec 32 := 1#32
  let v43 : BitVec 32 := Scalar.divsi v41 c1_i32_26
  let v44 : BitVec 32 := Scalar.muli v43 c1_i32_26
  let v45 : BitVec 32 := Scalar.addi c0_i32_25 v44
  let c1_i32_28 : BitVec 32 := 1#32
  let arg11 : BitVec 32 := Scf.iv v45 c1_i32_28 k0_t2
  let v180 : BitVec 32 := Scalar.muli c2_i32_123 arg11
  let c1_i32_124 : BitVec 32 := 1#32
  let v181 : BitVec 32 := Scalar.addi v180 c1_i32_124
  let c512_i32_125 : BitVec 32 := 512#32
  let v182 : BitVec 32 := Scalar.muli v181 c512_i32_125
  let v183 : BitVec 32 := v182
  let v226 : Index := Scalar.indexCast v183
  ![0, 64, v226.toNat]
def k0_cond1 (i : grid0.Coords) : BitVec 1 :=
  let arg2 : BitVec 32 := BitVec.ofNat 32 (i 2).val
  let c2_i32_29 : BitVec 32 := 2#32
  let c0_i32_30 : BitVec 32 := 0#32
  let v46 : BitVec 1 := Scalar.cmpi .eq c2_i32_29 c0_i32_30
  let c1_i32_31 : BitVec 32 := 1#32
  let v47 : BitVec 32 := Scalar.select v46 c1_i32_31 c2_i32_29
  let v48 : BitVec 32 := Scalar.remsi arg2 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c1_i32_35 : BitVec 32 := 1#32
  let v56 : BitVec 1 := Scalar.cmpi .eq v55 c1_i32_35
  let v57 : BitVec 32 := Scalar.extui v56
  let c0_i32_36 : BitVec 32 := 0#32
  let v58 : BitVec 1 := Scalar.cmpi .ne v57 c0_i32_36
  v58

def k0_mult10 (i : grid0.Coords) : BitVec 32 :=
  let arg2 : BitVec 32 := BitVec.ofNat 32 (i 2).val
  let c512_i32 : BitVec 32 := 512#32
  let v87 : BitVec 32 := Scalar.muli arg2 c512_i32
  v87
def k0_off13 (i : grid0.Coords) : Fin 2 → Nat :=
  let arg2 : BitVec 32 := BitVec.ofNat 32 (i 2).val
  let c512_i32 : BitVec 32 := 512#32
  let v87 : BitVec 32 := Scalar.muli arg2 c512_i32
  let v88 : BitVec 32 := v87
  let v89 : Index := Scalar.indexCast v88
  let c0_58 : Index := 0#32
  ![v89.toNat, 0]
def k0_off14 (i : grid0.Coords) : Fin 2 → Nat :=
  let arg2 : BitVec 32 := BitVec.ofNat 32 (i 2).val
  let c512_i32 : BitVec 32 := 512#32
  let v87 : BitVec 32 := Scalar.muli arg2 c512_i32
  let v88 : BitVec 32 := v87
  let v95 : Index := Scalar.indexCast v88
  let c128_63 : Index := 128#32
  ![v95.toNat, 128]
def k0_mult11 (i : grid0.Coords) : BitVec 32 :=
  let arg2 : BitVec 32 := BitVec.ofNat 32 (i 2).val
  let c1_i32_68 : BitVec 32 := 1#32
  let v101 : BitVec 32 := Scalar.subi arg2 c1_i32_68
  let c512_i32_69 : BitVec 32 := 512#32
  let v102 : BitVec 32 := Scalar.muli v101 c512_i32_69
  v102
def k0_off15 (i : grid0.Coords) : Fin 3 → Nat :=
  let c0_77 : Index := 0#32
  let c0_78 : Index := 0#32
  let arg2 : BitVec 32 := BitVec.ofNat 32 (i 2).val
  let c1_i32_68 : BitVec 32 := 1#32
  let v101 : BitVec 32 := Scalar.subi arg2 c1_i32_68
  let c512_i32_69 : BitVec 32 := 512#32
  let v102 : BitVec 32 := Scalar.muli v101 c512_i32_69
  let v103 : BitVec 32 := v102
  let v117 : Index := Scalar.indexCast v103
  ![0, 0, v117.toNat]
def k0_off16 (i : grid0.Coords) : Fin 3 → Nat :=
  let c0_96 : Index := 0#32
  let c64_97 : Index := 64#32
  let arg2 : BitVec 32 := BitVec.ofNat 32 (i 2).val
  let c1_i32_68 : BitVec 32 := 1#32
  let v101 : BitVec 32 := Scalar.subi arg2 c1_i32_68
  let c512_i32_69 : BitVec 32 := 512#32
  let v102 : BitVec 32 := Scalar.muli v101 c512_i32_69
  let v103 : BitVec 32 := v102
  let v146 : Index := Scalar.indexCast v103
  ![0, 64, v146.toNat]
def k0_mult12 (i : grid0.Coords) : BitVec 32 :=
  let arg2 : BitVec 32 := BitVec.ofNat 32 (i 2).val
  let c512_i32_108 : BitVec 32 := 512#32
  let v162 : BitVec 32 := Scalar.muli arg2 c512_i32_108
  v162
def k0_off17 (i : grid0.Coords) : Fin 3 → Nat :=
  let c0_117 : Index := 0#32
  let c0_118 : Index := 0#32
  let arg2 : BitVec 32 := BitVec.ofNat 32 (i 2).val
  let c512_i32_108 : BitVec 32 := 512#32
  let v162 : BitVec 32 := Scalar.muli arg2 c512_i32_108
  let v163 : BitVec 32 := v162
  let v182 : Index := Scalar.indexCast v163
  ![0, 0, v182.toNat]
def k0_off18 (i : grid0.Coords) : Fin 3 → Nat :=
  let c0_137 : Index := 0#32
  let c64_138 : Index := 64#32
  let arg2 : BitVec 32 := BitVec.ofNat 32 (i 2).val
  let c512_i32_108 : BitVec 32 := 512#32
  let v162 : BitVec 32 := Scalar.muli arg2 c512_i32_108
  let v163 : BitVec 32 := v162
  let v216 : Index := Scalar.indexCast v163
  ![0, 64, v216.toNat]
def k0_cond2 (i : grid0.Coords) : BitVec 1 :=
  let arg2 : BitVec 32 := BitVec.ofNat 32 (i 2).val
  let c2_i32_37 : BitVec 32 := 2#32
  let c0_i32_38 : BitVec 32 := 0#32
  let v59 : BitVec 1 := Scalar.cmpi .eq c2_i32_37 c0_i32_38
  let c1_i32_39 : BitVec 32 := 1#32
  let v60 : BitVec 32 := Scalar.select v59 c1_i32_39 c2_i32_37
  let v61 : BitVec 32 := Scalar.remsi arg2 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let c0_i32_43 : BitVec 32 := 0#32
  let v69 : BitVec 1 := Scalar.cmpi .eq v68 c0_i32_43
  let v70 : BitVec 32 := Scalar.extui v69
  let c0_i32_44 : BitVec 32 := 0#32
  let v71 : BitVec 1 := Scalar.cmpi .ne v70 c0_i32_44
  v71

def k0_mult13 (i : grid0.Coords) : BitVec 32 :=
  let arg2 : BitVec 32 := BitVec.ofNat 32 (i 2).val
  let c512_i32 : BitVec 32 := 512#32
  let v87 : BitVec 32 := Scalar.muli arg2 c512_i32
  v87
def k0_off19 (i : grid0.Coords) : Fin 3 → Nat :=
  let c0_66 : Index := 0#32
  let c0_67 : Index := 0#32
  let arg2 : BitVec 32 := BitVec.ofNat 32 (i 2).val
  let c512_i32 : BitVec 32 := 512#32
  let v87 : BitVec 32 := Scalar.muli arg2 c512_i32
  let v88 : BitVec 32 := v87
  let v107 : Index := Scalar.indexCast v88
  ![0, 0, v107.toNat]
def k0_off20 (i : grid0.Coords) : Fin 3 → Nat :=
  let c0_86 : Index := 0#32
  let c64_87 : Index := 64#32
  let arg2 : BitVec 32 := BitVec.ofNat 32 (i 2).val
  let c512_i32 : BitVec 32 := 512#32
  let v87 : BitVec 32 := Scalar.muli arg2 c512_i32
  let v88 : BitVec 32 := v87
  let v141 : Index := Scalar.indexCast v88
  ![0, 64, v141.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S16384x1024 : Shape := ⟨2, ![16384, 1024]⟩
abbrev S8x512x2048 : Shape := ⟨3, ![8, 512, 2048]⟩
abbrev S8x2048x8x128 : Shape := ⟨4, ![8, 2048, 8, 128]⟩
abbrev S8x8x64x2048 : Shape := ⟨4, ![8, 8, 64, 2048]⟩
abbrev S8x2048x8x64 : Shape := ⟨4, ![8, 2048, 8, 64]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x2048x8 : Shape := ⟨3, ![8, 2048, 8]⟩
abbrev S8x2048x8x1 : Shape := ⟨4, ![8, 2048, 8, 1]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x512x2048, .bf16⟩
  | .hbm, ⟨3, _⟩ => ⟨S16384x1024, .f32⟩
  | .hbm, ⟨4, _⟩ => ⟨S8x2048x8x128, .f32⟩
  | .hbm, ⟨5, _⟩ => ⟨S16384x1024, .f32⟩
  | .hbm, ⟨6, _⟩ => ⟨S8x2048x8x128, .f32⟩
  | .hbm, ⟨7, _⟩ => ⟨S8x512x2048, .f32⟩
  | .hbm, ⟨8, _⟩ => ⟨S8x8x64x2048, .f32⟩
  | .hbm, ⟨9, _⟩ => ⟨S8x2048x8x64, .f32⟩
  | .hbm, ⟨10, _⟩ => ⟨S8x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S8x8x2048x1, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S8x8x2048, .f32⟩
  | .hbm, ⟨35, _⟩ => ⟨S8x2048x8, .f32⟩
  | .hbm, ⟨36, _⟩ => ⟨S8x2048x8x1, .f32⟩
  | .hbm, ⟨37, _⟩ => ⟨S8x8x2048x2048, .bf16⟩
  | .hbm, ⟨38, _⟩ => ⟨S8x8x2048x2048, .f32⟩
  | .hbm, ⟨39, _⟩ => ⟨S8x8x64x2048, .f32⟩
  | .hbm, ⟨40, _⟩ => ⟨S8x2048x8x64, .f32⟩
  | .hbm, ⟨41, _⟩ => ⟨S8x2048x8x64, .f32⟩
  | .hbm, ⟨42, _⟩ => ⟨S8x2048x8x64, .f32⟩
  | .hbm, ⟨43, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Merge.lean ====
abbrev S16384x1024 : Shape := ⟨2, ![16384, 1024]⟩
abbrev S16384x256 : Shape := ⟨2, ![16384, 256]⟩
abbrev S16384x512 : Shape := ⟨2, ![16384, 512]⟩
abbrev S1x1024 : Shape := ⟨2, ![1, 1024]⟩
abbrev S1024x3072 : Shape := ⟨2, ![1024, 3072]⟩
abbrev S512x1024 : Shape := ⟨2, ![512, 1024]⟩
abbrev S1024x1024 : Shape := ⟨2, ![1024, 1024]⟩
abbrev S256x1024 : Shape := ⟨2, ![256, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x3072 : Shape := ⟨2, ![512, 3072]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x512, .f32⟩
  | .hbm, ⟨4, _⟩ => ⟨S1x1024, .f32⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S16384x256 : Shape := ⟨2, ![16384, 256]⟩
abbrev S16384x512 : Shape := ⟨2, ![16384, 512]⟩
abbrev S1x1024 : Shape := ⟨2, ![1, 1024]⟩
abbrev S1024x3072 : Shape := ⟨2, ![1024, 3072]⟩
abbrev S512x1024 : Shape := ⟨2, ![512, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x512, .f32⟩
  | .hbm, ⟨4, _⟩ => ⟨S1x1024, .f32⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x3072, .f32⟩
  | .hbm, ⟨28, _⟩ => ⟨S16384x3072, .f32⟩
  | .hbm, ⟨29, _⟩ => ⟨S16384x512, .f32⟩
  | .hbm, ⟨30, _⟩ => ⟨S16384x512, .f32⟩
  | .hbm, ⟨31, _⟩ => ⟨S16384x1024, .f32⟩
  | .hbm, ⟨32, _⟩ => ⟨S16384x1024, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S512x1024, .f32⟩
  | .hbm, ⟨44, _⟩ => ⟨S16384x1024, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S512x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S1024x1024, .f32⟩
  | .hbm, ⟨77, _⟩ => ⟨S16384x1024, .f32⟩
  | .hbm, ⟨78, _⟩ => ⟨S16384x1024, .f32⟩
  | .hbm, ⟨79, _⟩ => ⟨S1024x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384x1024, .f32⟩
  | .hbm, ⟨88, _⟩ => ⟨S16384x1024, .f32⟩
  | .hbm, ⟨89, _⟩ => ⟨S256x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S1024x5032 : Shape := ⟨2, ![1024, 5032]⟩
abbrev S1x256 : Shape := ⟨2, ![1, 256]⟩
abbrev S1x128 : Shape := ⟨2, ![1, 128]⟩
abbrev S256x768 : Shape := ⟨2, ![256, 768]⟩
abbrev S128x8x64 : Shape := ⟨3, ![128, 8, 64]⟩
abbrev S8 : Shape := ⟨1, ![8]⟩
abbrev S3x128x512 : Shape := ⟨3, ![3, 128, 512]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x8 : Shape := ⟨2, ![1024, 8]⟩
abbrev S1024x1024 : Shape := ⟨2, ![1024, 1024]⟩
abbrev S1024x16 : Shape := ⟨2, ![1024, 16]⟩
abbrev S_ : Shape := ⟨0, ![]⟩
abbrev S1024x2304 : Shape := ⟨2, ![1024, 2304]⟩
abbrev S1024x3072 : Shape := ⟨2, ![1024, 3072]⟩
abbrev S256x8x96 : Shape := ⟨3, ![256, 8, 96]⟩
abbrev S256x8x64 : Shape := ⟨3, ![256, 8, 64]⟩
abbrev S256x8x16 : Shape := ⟨3, ![256, 8, 16]⟩
abbrev S256x8x32 : Shape := ⟨3, ![256, 8, 32]⟩
abbrev S256x8x128 : Shape := ⟨3, ![256, 8, 128]⟩
abbrev S256x1024 : Shape := ⟨2, ![256, 1024]⟩
abbrev S128x8x32 : Shape := ⟨3, ![128, 8, 32]⟩
abbrev S128x8x128 : Shape := ⟨3, ![128, 8, 128]⟩
abbrev S128x1024 : Shape := ⟨2, ![128, 1024]⟩
abbrev S128x512 : Shape := ⟨2, ![128, 512]⟩
abbrev S1x8 : Shape := ⟨2, ![1, 8]⟩
abbrev S512x128 : Shape := ⟨2, ![512, 128]⟩
abbrev S2048x1 : Shape := ⟨2, ![2048, 1]⟩
abbrev S2048x128 : Shape := ⟨2, ![2048, 128]⟩
abbrev S8x512x2048 : Shape := ⟨3, ![8, 512, 2048]⟩
abbrev S16384x128 : Shape := ⟨2, ![16384, 128]⟩
abbrev S16384x32 : Shape := ⟨2, ![16384, 32]⟩
abbrev S16384x512 : Shape := ⟨2, ![16384, 512]⟩
abbrev S16384x8 : Shape := ⟨2, ![16384, 8]⟩
abbrev S512x1024 : Shape := ⟨2, ![512, 1024]⟩
abbrev S1x512x512 : Shape := ⟨3, ![1, 512, 512]⟩
abbrev S512x32 : Shape := ⟨2, ![512, 32]⟩
abbrev S512x512 : Shape := ⟨2, ![512, 512]⟩
abbrev S512x8 : Shape := ⟨2, ![512, 8]⟩
abbrev S8x128 : Shape := ⟨2, ![8, 128]⟩
abbrev S512 : Shape := ⟨1, ![512]⟩
abbrev S512x1 : Shape := ⟨2, ![512, 1]⟩
abbrev S512x2304 : Shape := ⟨2, ![512, 2304]⟩
abbrev S512x256 : Shape := ⟨2, ![512, 256]⟩
abbrev S1x128x512 : Shape := ⟨3, ![1, 128, 512]⟩

abbrev nBuf : Space → Nat
  | .hbm => 141
  | .vmem => 42
  | .smem => 0
  | _ => 0

abbrev hbmTy0_0 (i : Nat) : BufTy := match i % 128 with
  | 0 => ⟨S16384x1024, .f32⟩
  | 1 => ⟨S1x1024, .f32⟩
  | 2 => ⟨S1024x5032, .f32⟩
  | 3 => ⟨S1x256, .f32⟩
  | 4 => ⟨S1x128, .f32⟩
  | 5 => ⟨S256x768, .f32⟩
  | 6 => ⟨S128x8x64, .f32⟩
  | 7 => ⟨S128x8x64, .f32⟩
  | 8 => ⟨S8, .f32⟩
  | 9 => ⟨S3x128x512, .bf16⟩
  | 10 => ⟨S1024x256, .f32⟩
  | 11 => ⟨S1024x128, .f32⟩
  | 12 => ⟨S1024x32, .f32⟩
  | 13 => ⟨S1024x512, .f32⟩
  | 14 => ⟨S1024x512, .f32⟩
  | 15 => ⟨S1024x512, .f32⟩
  | 16 => ⟨S1024x8, .f32⟩
  | 17 => ⟨S1024x512, .f32⟩
  | 18 => ⟨S1024x512, .f32⟩
  | 19 => ⟨S1024x1024, .f32⟩
  | 20 => ⟨S1024x1024, .f32⟩
  | 21 => ⟨S1024x16, .f32⟩
  | 22 => ⟨S1024x16, .f32⟩
  | 23 => ⟨S1024x32, .f32⟩
  | 24 => ⟨S_, .i32⟩
  | 25 => ⟨S_, .f32⟩
  | 26 => ⟨S1024x128, .f32⟩
  | 27 => ⟨S1024x32, .f32⟩
  | 28 => ⟨S_, .i32⟩
  | 29 => ⟨S_, .f32⟩
  | 30 => ⟨S1024x128, .f32⟩
  | 31 => ⟨S_, .i32⟩
  | 32 => ⟨S_, .f32⟩
  | 33 => ⟨S1024x128, .f32⟩
  | 34 => ⟨S1024x2304, .f32⟩
  | 35 => ⟨S1024x3072, .f32⟩
  | 36 => ⟨S256x8x96, .f32⟩
  | 37 => ⟨S256x8x64, .f32⟩
  | 38 => ⟨S256x8x16, .f32⟩
  | 39 => ⟨S256x8x16, .f32⟩
  | 40 => ⟨S_, .f32⟩
  | 41 => ⟨S256x8x32, .f32⟩
  | 42 => ⟨S256x8x128, .f32⟩
  | 43 => ⟨S256x1024, .f32⟩
  | 44 => ⟨S_, .f32⟩
  | 45 => ⟨S256x8x64, .f32⟩
  | 46 => ⟨S256x8x128, .f32⟩
  | 47 => ⟨S256x1024, .f32⟩
  | 48 => ⟨S_, .f32⟩
  | 49 => ⟨S128x8x32, .f32⟩
  | 50 => ⟨S128x8x128, .f32⟩
  | 51 => ⟨S128x1024, .f32⟩
  | 52 => ⟨S128x512, .f32⟩
  | 53 => ⟨S1x8, .f32⟩
  | 54 => ⟨S_, .i32⟩
  | 55 => ⟨S_, .f32⟩
  | 56 => ⟨S1x128, .f32⟩
  | 57 => ⟨S1024x1024, .f32⟩
  | 58 => ⟨S1024x1024, .f32⟩
  | 59 => ⟨S1024x2304, .bf16⟩
  | 60 => ⟨S1024x3072, .bf16⟩
  | 61 => ⟨S256x1024, .bf16⟩
  | 62 => ⟨S256x1024, .bf16⟩
  | 63 => ⟨S128x1024, .bf16⟩
  | 64 => ⟨S128x512, .bf16⟩
  | 65 => ⟨S1024x1024, .bf16⟩
  | 66 => ⟨S512x128, .bf16⟩
  | 67 => ⟨S2048x1, .i32⟩
  | 68 => ⟨S2048x1, .f32⟩
  | 69 => ⟨S2048x128, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S2048x128, .i32⟩
  | 77 => ⟨S2048x128, .i32⟩
  | 78 => ⟨S_, .i32⟩
  | 79 => ⟨S2048x128, .i32⟩
  | 80 => ⟨S2048x128, .i1⟩
  | 81 => ⟨S_, .i32⟩
  | 82 => ⟨S2048x128, .i32⟩
  | 83 => ⟨S2048x128, .i1⟩
  | 84 => ⟨S_, .i32⟩
  | 85 => ⟨S_, .i1⟩
  | 86 => ⟨S2048x128, .i1⟩
  | 87 => ⟨S2048x128, .i1⟩
  | 88 => ⟨S2048x128, .i1⟩
  | 89 => ⟨S2048x128, .i32⟩
  | 90 => ⟨S2048x128, .i32⟩
  | 91 => ⟨S2048x128, .i32⟩
  | 92 => ⟨S2048x128, .f32⟩
  | 93 => ⟨S_, .f32⟩
  | 94 => ⟨S2048x128, .f32⟩
  | 95 => ⟨S2048x128, .f32⟩
  | 96 => ⟨S_, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S_, .i32⟩
  | 105 => ⟨S2048x128, .i32⟩
  | 106 => ⟨S2048x128, .i1⟩
  | 107 => ⟨S_, .i32⟩
  | 108 => ⟨S2048x128, .i32⟩
  | 109 => ⟨S2048x128, .i1⟩
  | 110 => ⟨S_, .f32⟩
  | 111 => ⟨S_, .f32⟩
  | 112 => ⟨S2048x128, .f32⟩
  | 113 => ⟨S2048x128, .f32⟩
  | 114 => ⟨S2048x128, .f32⟩
  | 115 => ⟨S2048x128, .f32⟩
  | 116 => ⟨S2048x128, .f32⟩
  | 117 => ⟨S_, .i32⟩
  | 118 => ⟨S2048x128, .i32⟩
  | 119 => ⟨S2048x128, .i1⟩
  | 120 => ⟨S2048x128, .f32⟩
  | 121 => ⟨S_, .i32⟩
  | 122 => ⟨S2048x128, .i32⟩
  | 123 => ⟨S2048x128, .i1⟩
  | 124 => ⟨S_, .f32⟩
  | 125 => ⟨S_, .f32⟩
  | 126 => ⟨S2048x128, .f32⟩
  | 127 => ⟨S2048x128, .f32⟩
  | _ => ⟨S16384x1024, .f32⟩

abbrev hbmTy0_1 (i : Nat) : BufTy := match i % 128 with
  | 0 => ⟨S2048x128, .f32⟩
  | 1 => ⟨S16384x1024, .bf16⟩
  | 2 => ⟨S16384x1024, .bf16⟩
  | 3 => ⟨S8x512x2048, .bf16⟩
  | 4 => ⟨S16384x128, .f32⟩
  | 5 => ⟨S16384x32, .f32⟩
  | 6 => ⟨S16384x512, .bf16⟩
  | 7 => ⟨S16384x512, .bf16⟩
  | 8 => ⟨S8x512x2048, .bf16⟩
  | 9 => ⟨S8x512x2048, .f32⟩
  | 10 => ⟨S8x512x2048, .f32⟩
  | 11 => ⟨S16384x8, .f32⟩
  | 12 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x2304, .bf16⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S128x1024, .bf16⟩
  | .local _ .vmem, ⟨13, _⟩ => ⟨S512x128, .bf16⟩
  | .local _ .vmem, ⟨14, _⟩ => ⟨S1x128, .f32⟩
  | .local _ .vmem, ⟨15, _⟩ => ⟨S1024x1024, .bf16⟩
  | .local _ .vmem, ⟨16, _⟩ => ⟨S3x128x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x512x512, .bf16⟩
  | .local _ .vmem, ⟨22, _⟩ => ⟨S1x512x512, .bf16⟩
  | .local _ .vmem, ⟨23, _⟩ => ⟨S512x128, .f32⟩
  | .local _ .vmem, ⟨24, _⟩ => ⟨S512x128, .f32⟩
  | .local _ .vmem, ⟨25, _⟩ => ⟨S512x32, .f32⟩
  | .local _ .vmem, ⟨26, _⟩ => ⟨S512x32, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S512x8, .f32⟩
  | .local _ .vmem, ⟨38, _⟩ => ⟨S512x8, .f32⟩
  | .local _ .vmem, ⟨39, _⟩ => ⟨S512x512, .bf16⟩
  | .local _ .vmem, ⟨40, _⟩ => ⟨S512x512, .bf16⟩
  | .local _ .vmem, ⟨41, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_call1_v0 : Ref sig .tc := ⟨.hbm, 29, rfl⟩
abbrev main_v16 : Ref sig .tc := ⟨.hbm, 30, rfl⟩
abbrev main_c_1 : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_call3_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_call4_v0 : Ref sig .tc := ⟨.hbm, 71, rfl⟩
abbrev main_call4_c : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_c_1 : Ref sig .tc := ⟨.hbm, 78, rfl⟩
abbrev main_call4_v5 : Ref sig .tc := ⟨.hbm, 79, rfl⟩
abbrev main_call4_v6 : Ref sig .tc := ⟨.hbm, 80, rfl⟩
abbrev main_call4_c_2 : Ref sig .tc := ⟨.hbm, 81, rfl⟩
abbrev main_call4_v7 : Ref sig .tc := ⟨.hbm, 82, rfl⟩
abbrev main_call4_v8 : Ref sig .tc := ⟨.hbm, 83, rfl⟩
abbrev main_call4_c_3 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_v49 : Ref sig .tc := ⟨.hbm, 91, rfl⟩
abbrev main_v50 : Ref sig .tc := ⟨.hbm, 92, rfl⟩
abbrev main_cst_7 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_9 : Ref sig .tc := ⟨.hbm, 104, rfl⟩
abbrev main_v60 : Ref sig .tc := ⟨.hbm, 105, rfl⟩
abbrev main_v61 : Ref sig .tc := ⟨.hbm, 106, rfl⟩
abbrev main_c_10 : Ref sig .tc := ⟨.hbm, 107, rfl⟩
abbrev main_v62 : Ref sig .tc := ⟨.hbm, 108, rfl⟩
abbrev main_v63 : Ref sig .tc := ⟨.hbm, 109, rfl⟩
abbrev main_cst_11 : Ref sig .tc := ⟨.hbm, 110, rfl⟩
abbrev main_cst_12 : Ref sig .tc := ⟨.hbm, 111, rfl⟩
abbrev main_call5_v0 : Ref sig .tc := ⟨.hbm, 112, rfl⟩
abbrev main_call5_v1 : Ref sig .tc := ⟨.hbm, 113, rfl⟩
abbrev main_v64 : Ref sig .tc := ⟨.hbm, 114, rfl⟩
abbrev main_call6_v0 : Ref sig .tc := ⟨.hbm, 115, rfl⟩
abbrev main_v65 : Ref sig .tc := ⟨.hbm, 116, rfl⟩
abbrev main_c_13 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_14 : Ref sig .tc := ⟨.hbm, 121, rfl⟩
abbrev main_v69 : Ref sig .tc := ⟨.hbm, 122, rfl⟩
abbrev main_v70 : Ref sig .tc := ⟨.hbm, 123, rfl⟩
abbrev main_cst_15 : Ref sig .tc := ⟨.hbm, 124, rfl⟩
abbrev main_call7_v0 : Ref sig .tc := ⟨.hbm, 125, rfl⟩
abbrev main_call7_v1 : Ref sig .tc := ⟨.hbm, 126, rfl⟩
abbrev main_v71 : Ref sig .tc := ⟨.hbm, 127, rfl⟩
abbrev main_v72 : Ref sig .tc := ⟨.hbm, 128, rfl⟩
abbrev main_v73_0 : Ref sig .tc := ⟨.hbm, 129, rfl⟩
abbrev main_v73_1 : Ref sig .tc := ⟨.hbm, 130, rfl⟩
abbrev main_v73_2 : Ref sig .tc := ⟨.hbm, 131, rfl⟩
abbrev main_v73_3 : Ref sig .tc := ⟨.hbm, 132, rfl⟩
abbrev main_v73_4 : Ref sig .tc := ⟨.hbm, 133, rfl⟩
abbrev main_v73_5 : Ref sig .tc := ⟨.hbm, 134, rfl⟩
abbrev main_v73_6 : Ref sig .tc := ⟨.hbm, 135, rfl⟩
abbrev main_v73_7 : Ref sig .tc := ⟨.hbm, 136, rfl⟩
abbrev main_v73_8 : Ref sig .tc := ⟨.hbm, 137, rfl⟩
abbrev main_v73_9 : Ref sig .tc := ⟨.hbm, 138, rfl⟩
abbrev main_v73_10 : Ref sig .tc := ⟨.hbm, 139, rfl⟩
abbrev main_v73_11 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S512x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ProjRefIdeal.lean ====
abbrev S16384x1024 : Shape := ⟨2, ![16384, 1024]⟩
abbrev S1x1024 : Shape := ⟨2, ![1, 1024]⟩
abbrev S1024x5032 : Shape := ⟨2, ![1024, 5032]⟩
abbrev S1x256 : Shape := ⟨2, ![1, 256]⟩
abbrev S1x128 : Shape := ⟨2, ![1, 128]⟩
abbrev S256x768 : Shape := ⟨2, ![256, 768]⟩
abbrev S128x8x64 : Shape := ⟨3, ![128, 8, 64]⟩
abbrev S8 : Shape := ⟨1, ![8]⟩
abbrev S_ : Shape := ⟨0, ![]⟩
abbrev S16384 : Shape := ⟨1, ![16384]⟩
abbrev S16384x1 : Shape := ⟨2, ![16384, 1]⟩
abbrev S16384x5032 : Shape := ⟨2, ![16384, 5032]⟩
abbrev S16384x256 : Shape := ⟨2, ![16384, 256]⟩
abbrev S16384x128 : Shape := ⟨2, ![16384, 128]⟩
abbrev S16384x32 : Shape := ⟨2, ![16384, 32]⟩
abbrev S16384x512 : Shape := ⟨2, ![16384, 512]⟩
abbrev S16384x8 : Shape := ⟨2, ![16384, 8]⟩
abbrev S16384x3072 : Shape := ⟨2, ![16384, 3072]⟩
abbrev S2048 : Shape := ⟨1, ![2048]⟩
abbrev S8x2048x1x32 : Shape := ⟨4, ![8, 2048, 1, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x1x16 : Shape := ⟨4, ![8, 2048, 1, 16]⟩
abbrev S1x2048x1x16 : Shape := ⟨4, ![1, 2048, 1, 16]⟩
abbrev S16384x768 : Shape := ⟨2, ![16384, 768]⟩
abbrev S8x2048x8x96 : Shape := ⟨4, ![8, 2048, 8, 96]⟩
abbrev S8x2048x8x32 : Shape := ⟨4, ![8, 2048, 8, 32]⟩
abbrev S8x2048x8x16 : Shape := ⟨4, ![8, 2048, 8, 16]⟩
abbrev S8x2048x8x64 : Shape := ⟨4, ![8, 2048, 8, 64]⟩
abbrev S8x2048x8x128 : Shape := ⟨4, ![8, 2048, 8, 128]⟩
abbrev S16384x1x32 : Shape := ⟨3, ![16384, 1, 32]⟩
abbrev S16384x8x32 : Shape := ⟨3, ![16384, 8, 32]⟩
abbrev S16384x8x64 : Shape := ⟨3, ![16384, 8, 64]⟩
abbrev S16384x8x96 : Shape := ⟨3, ![16384, 8, 96]⟩
abbrev S16384x8x128 : Shape := ⟨3, ![16384, 8, 128]⟩
abbrev S8x2048x512 : Shape := ⟨3, ![8, 2048, 512]⟩
abbrev S8x512x2048 : Shape := ⟨3, ![8, 512, 2048]⟩
abbrev S1x8 : Shape := ⟨2, ![1, 8]⟩

abbrev nBuf : Space → Nat
  | .hbm => 194
  | .vmem => 0
  | .smem => 0
  | _ => 0

abbrev hbmTy0_0 (i : Nat) : BufTy := match i % 128 with
  | 0 => ⟨S16384x1024, .f32⟩
  | 1 => ⟨S1x1024, .f32⟩
  | 2 => ⟨S1024x5032, .f32⟩
  | 3 => ⟨S1x256, .f32⟩
  | 4 => ⟨S1x128, .f32⟩
  | 5 => ⟨S256x768, .f32⟩
  | 6 => ⟨S128x8x64, .f32⟩
  | 7 => ⟨S128x8x64, .f32⟩
  | 8 => ⟨S8, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S16384x1024, .f32⟩
  | 24 => ⟨S16384x5032, .f32⟩
  | 25 => ⟨S16384x256, .f32⟩
  | 26 => ⟨S16384x128, .f32⟩
  | 27 => ⟨S16384x32, .f32⟩
  | 28 => ⟨S16384x512, .f32⟩
  | 29 => ⟨S16384x512, .f32⟩
  | 30 => ⟨S16384x512, .f32⟩
  | 31 => ⟨S16384x8, .f32⟩
  | 32 => ⟨S16384x3072, .f32⟩
  | 33 => ⟨S16384x128, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1, .f32⟩
  | 44 => ⟨S16384x128, .f32⟩
  | 45 => ⟨S16384x128, .f32⟩
  | 46 => ⟨S16384x128, .f32⟩
  | 47 => ⟨S16384x128, .f32⟩
  | 48 => ⟨S2048, .i32⟩
  | 49 => ⟨S8x2048x1x32, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S2048, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S2048x16, .f32⟩
  | 65 => ⟨S2048x1x16, .f32⟩
  | 66 => ⟨S2048x16, .f32⟩
  | 67 => ⟨S2048x1x16, .f32⟩
  | 68 => ⟨S8x2048x1x16, .f32⟩
  | 69 => ⟨S8x2048x1x16, .f32⟩
  | 70 => ⟨S1x2048x1x16, .f32⟩
  | 71 => ⟨S8x2048x1x16, .f32⟩
  | 72 => ⟨S8x2048x1x16, .f32⟩
  | 73 => ⟨S1x2048x1x16, .f32⟩
  | 74 => ⟨S8x2048x1x16, .f32⟩
  | 75 => ⟨S8x2048x1x16, .f32⟩
  | 76 => ⟨S8x2048x1x16, .f32⟩
  | 77 => ⟨S1x2048x1x16, .f32⟩
  | 78 => ⟨S8x2048x1x16, .f32⟩
  | 79 => ⟨S8x2048x1x16, .f32⟩
  | 80 => ⟨S1x2048x1x16, .f32⟩
  | 81 => ⟨S8x2048x1x16, .f32⟩
  | 82 => ⟨S8x2048x1x16, .f32⟩
  | 83 => ⟨S8x2048x1x16, .f32⟩
  | 84 => ⟨S8x2048x1x32, .f32⟩
  | 85 => ⟨S16384x32, .f32⟩
  | 86 => ⟨S16384x256, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x256, .f32⟩
  | 98 => ⟨S16384x256, .f32⟩
  | 99 => ⟨S16384x256, .f32⟩
  | 100 => ⟨S16384x256, .f32⟩
  | 101 => ⟨S16384x768, .f32⟩
  | 102 => ⟨S8x2048x8x96, .f32⟩
  | 103 => ⟨S8x2048x8x32, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S16, .f32⟩
  | 112 => ⟨S2048, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S2048x1x16, .f32⟩
  | 120 => ⟨S2048x16, .f32⟩
  | 121 => ⟨S2048x1x16, .f32⟩
  | 122 => ⟨S8x2048x8x16, .f32⟩
  | 123 => ⟨S8x2048x8x16, .f32⟩
  | 124 => ⟨S1x2048x1x16, .f32⟩
  | 125 => ⟨S8x2048x8x16, .f32⟩
  | 126 => ⟨S8x2048x8x16, .f32⟩
  | 127 => ⟨S1x2048x1x16, .f32⟩
  | _ => ⟨S16384x1024, .f32⟩

abbrev hbmTy0_1 (i : Nat) : BufTy := match i % 128 with
  | 0 => ⟨S8x2048x8x16, .f32⟩
  | 1 => ⟨S8x2048x8x16, .f32⟩
  | 2 => ⟨S8x2048x8x16, .f32⟩
  | 3 => ⟨S1x2048x1x16, .f32⟩
  | 4 => ⟨S8x2048x8x16, .f32⟩
  | 5 => ⟨S8x2048x8x16, .f32⟩
  | 6 => ⟨S1x2048x1x16, .f32⟩
  | 7 => ⟨S8x2048x8x16, .f32⟩
  | 8 => ⟨S8x2048x8x16, .f32⟩
  | 9 => ⟨S8x2048x8x16, .f32⟩
  | 10 => ⟨S8x2048x8x32, .f32⟩
  | 11 => ⟨S8x2048x8x64, .f32⟩
  | 12 => ⟨S8x2048x8x96, .f32⟩
  | 13 => ⟨S_, .i32⟩
  | 14 => ⟨S_, .f32⟩
  | 15 => ⟨S8x2048x8x128, .f32⟩
  | 16 => ⟨S16384x1x32, .f32⟩
  | 17 => ⟨S16384x8x32, .f32⟩
  | 18 => ⟨S16384x8x64, .f32⟩
  | 19 => ⟨S16384x8x96, .f32⟩
  | 20 => ⟨S_, .i32⟩
  | 21 => ⟨S_, .f32⟩
  | 22 => ⟨S16384x8x128, .f32⟩
  | 23 => ⟨S8x2048x512, .f32⟩
  | 24 => ⟨S8x512x2048, .f32⟩
  | 25 => ⟨S8x2048x512, .f32⟩
  | 26 => ⟨S8x512x2048, .f32⟩
  | 27 => ⟨S16384x8x64, .f32⟩
  | 28 => ⟨S8x2048x512, .f32⟩
  | 29 => ⟨S8x512x2048, .f32⟩
  | 30 => ⟨S_, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S_, .f32⟩
  | 37 => ⟨S8x2048x8x128, .f32⟩
  | 38 => ⟨S8x2048x8x128, .f32⟩
  | 39 => ⟨S16384x1024, .f32⟩
  | 40 => ⟨S16384x1024, .f32⟩
  | 41 => ⟨S1x8, .f32⟩
  | 42 => ⟨S16384x8, .f32⟩
  | 43 => ⟨S16384x8, .f32⟩
  | 44 => ⟨S16384x8, .f32⟩
  | 45 => ⟨S_, .f32⟩
  | 46 => ⟨S16384x8, .f32⟩
  | 47 => ⟨S16384x8, .f32⟩
  | 48 => ⟨S16384x8, .f32⟩
  | 49 => ⟨S16384x8, .f32⟩
  | 50 => ⟨S16384x8, .i1⟩
  | 51 => ⟨S16384x8, .f32⟩
  | 52 => ⟨S16384x8, .f32⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S8x512x2048, .bf16⟩
  | 61 => ⟨S16384x512, .bf16⟩
  | 62 => ⟨S16384x512, .bf16⟩
  | 63 => ⟨S8x512x2048, .bf16⟩
  | 64 => ⟨S16384x1024, .bf16⟩
  | 65 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_c : Ref sig .tc := ⟨.hbm, 141, rfl⟩
abbrev main_call0_v0 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_c_12 : Ref sig .tc := ⟨.hbm, 148, rfl⟩
abbrev main_call1_v0 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_13 : Ref sig .tc := ⟨.hbm, 158, rfl⟩
abbrev main_v132 : Ref sig .tc := ⟨.hbm, 159, rfl⟩
abbrev main_v133 : Ref sig .tc := ⟨.hbm, 160, rfl⟩
abbrev main_cst_14 : Ref sig .tc := ⟨.hbm, 161, rfl⟩
abbrev main_v134 : Ref sig .tc := ⟨.hbm, 162, rfl⟩
abbrev main_v135 : Ref sig .tc := ⟨.hbm, 163, rfl⟩
abbrev main_cst_15 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_call2_v0 : Ref sig .tc := ⟨.hbm, 172, rfl⟩
abbrev main_call2_call0_cst : Ref sig .tc := ⟨.hbm, 173, rfl⟩
abbrev main_call2_call0_v0 : Ref sig .tc := ⟨.hbm, 174, rfl⟩
abbrev main_call2_call0_v1 : Ref sig .tc := ⟨.hbm, 175, rfl⟩
abbrev main_call2_call0_v2 : Ref sig .tc := ⟨.hbm, 176, rfl⟩
abbrev main_call2_call0_v3 : Ref sig .tc := ⟨.hbm, 177, rfl⟩
abbrev main_call2_call0_v4 : Ref sig .tc := ⟨.hbm, 178, rfl⟩
abbrev main_call2_call0_v5 : Ref sig .tc := ⟨.hbm, 179, rfl⟩
abbrev main_call2_call0_v6 : Ref sig .tc := ⟨.hbm, 180, rfl⟩
abbrev main_call2_call0_v7 : Ref sig .tc := ⟨.hbm, 181, rfl⟩
abbrev main_call2_call0_v8 : Ref sig .tc := ⟨.hbm, 182, rfl⟩
abbrev main_call2_call0_v9 : Ref sig .tc := ⟨.hbm, 183, rfl⟩
abbrev main_call2_call0_v10 : Ref sig .tc := ⟨.hbm, 184, rfl⟩
abbrev main_call2_call0_v11 : Ref sig .tc := ⟨.hbm, 185, rfl⟩
abbrev main_call2_v1 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩

abbrev nD : Nat := 1
abbrev τ : Topo := Topo.v7x

variable {F : FTy → Type} [FloatOps F]
-- ==== ProjS.lean ====
abbrev S128x1024 : Shape := ⟨2, ![128, 1024]⟩
abbrev S1x1024 : Shape := ⟨2, ![1, 1024]⟩
abbrev S1024x5032 : Shape := ⟨2, ![1024, 5032]⟩
abbrev S1x256 : Shape := ⟨2, ![1, 256]⟩
abbrev S1x128 : Shape := ⟨2, ![1, 128]⟩
abbrev S256x768 : Shape := ⟨2, ![256, 768]⟩
abbrev S128x8x64 : Shape := ⟨3, ![128, 8, 64]⟩
abbrev S8 : Shape := ⟨1, ![8]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x8 : Shape := ⟨2, ![1024, 8]⟩
abbrev S1024x1024 : Shape := ⟨2, ![1024, 1024]⟩
abbrev S1024x16 : Shape := ⟨2, ![1024, 16]⟩
abbrev S_ : Shape := ⟨0, ![]⟩
abbrev S1024x2304 : Shape := ⟨2, ![1024, 2304]⟩
abbrev S1024x3072 : Shape := ⟨2, ![1024, 3072]⟩
abbrev S256x8x96 : Shape := ⟨3, ![256, 8, 96]⟩
abbrev S256x8x64 : Shape := ⟨3, ![256, 8, 64]⟩
abbrev S256x8x16 : Shape := ⟨3, ![256, 8, 16]⟩
abbrev S256x8x32 : Shape := ⟨3, ![256, 8, 32]⟩
abbrev S256x8x128 : Shape := ⟨3, ![256, 8, 128]⟩
abbrev S256x1024 : Shape := ⟨2, ![256, 1024]⟩
abbrev S128x8x32 : Shape := ⟨3, ![128, 8, 32]⟩
abbrev S128x8x128 : Shape := ⟨3, ![128, 8, 128]⟩
abbrev S128x512 : Shape := ⟨2, ![128, 512]⟩
abbrev S1x8 : Shape := ⟨2, ![1, 8]⟩
abbrev S128x128 : Shape := ⟨2, ![128, 128]⟩
abbrev S128x32 : Shape := ⟨2, ![128, 32]⟩
abbrev S8x128x256 : Shape := ⟨3, ![8, 128, 256]⟩
abbrev S128x1 : Shape := ⟨2, ![128, 1]⟩
abbrev S128 : Shape := ⟨1, ![128]⟩
abbrev S128x2304 : Shape := ⟨2, ![128, 2304]⟩
abbrev S128x256 : Shape := ⟨2, ![128, 256]⟩
abbrev S1x128x128 : Shape := ⟨3, ![1, 128, 128]⟩

abbrev nBuf : Space → Nat
  | .hbm => 72
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1024x5032, .f32⟩
  | .hbm, ⟨3, _⟩ => ⟨S1x256, .f32⟩
  | .hbm, ⟨4, _⟩ => ⟨S1x128, .f32⟩
  | .hbm, ⟨5, _⟩ => ⟨S256x768, .f32⟩
  | .hbm, ⟨6, _⟩ => ⟨S128x8x64, .f32⟩
  | .hbm, ⟨7, _⟩ => ⟨S128x8x64, .f32⟩
  | .hbm, ⟨8, _⟩ => ⟨S8, .f32⟩
  | .hbm, ⟨9, _⟩ => ⟨S1024x256, .f32⟩
  | .hbm, ⟨10, _⟩ => ⟨S1024x128, .f32⟩
  | .hbm, ⟨11, _⟩ => ⟨S1024x32, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x8, .f32⟩
  | .hbm, ⟨16, _⟩ => ⟨S1024x512, .f32⟩
  | .hbm, ⟨17, _⟩ => ⟨S1024x512, .f32⟩
  | .hbm, ⟨18, _⟩ => ⟨S1024x1024, .f32⟩
  | .hbm, ⟨19, _⟩ => ⟨S1024x1024, .f32⟩
  | .hbm, ⟨20, _⟩ => ⟨S1024x16, .f32⟩
  | .hbm, ⟨21, _⟩ => ⟨S1024x16, .f32⟩
  | .hbm, ⟨22, _⟩ => ⟨S1024x32, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x32, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1024x2304, .f32⟩
  | .hbm, ⟨34, _⟩ => ⟨S1024x3072, .f32⟩
  | .hbm, ⟨35, _⟩ => ⟨S256x8x96, .f32⟩
  | .hbm, ⟨36, _⟩ => ⟨S256x8x64, .f32⟩
  | .hbm, ⟨37, _⟩ => ⟨S256x8x16, .f32⟩
  | .hbm, ⟨38, _⟩ => ⟨S256x8x16, .f32⟩
  | .hbm, ⟨39, _⟩ => ⟨S_, .f32⟩
  | .hbm, ⟨40, _⟩ => ⟨S256x8x32, .f32⟩
  | .hbm, ⟨41, _⟩ => ⟨S256x8x128, .f32⟩
  | .hbm, ⟨42, _⟩ => ⟨S256x1024, .f32⟩
  | .hbm, ⟨43, _⟩ => ⟨S_, .f32⟩
  | .hbm, ⟨44, _⟩ => ⟨S256x8x64, .f32⟩
  | .hbm, ⟨45, _⟩ => ⟨S256x8x128, .f32⟩
  | .hbm, ⟨46, _⟩ => ⟨S256x1024, .f32⟩
  | .hbm, ⟨47, _⟩ => ⟨S_, .f32⟩
  | .hbm, ⟨48, _⟩ => ⟨S128x8x32, .f32⟩
  | .hbm, ⟨49, _⟩ => ⟨S128x8x128, .f32⟩
  | .hbm, ⟨50, _⟩ => ⟨S128x1024, .f32⟩
  | .hbm, ⟨51, _⟩ => ⟨S128x512, .f32⟩
  | .hbm, ⟨52, _⟩ => ⟨S1x8, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S1024x1024, .f32⟩
  | .hbm, ⟨57, _⟩ => ⟨S1024x1024, .f32⟩
  | .hbm, ⟨58, _⟩ => ⟨S1024x2304, .bf16⟩
  | .hbm, ⟨59, _⟩ => ⟨S1024x3072, .bf16⟩
  | .hbm, ⟨60, _⟩ => ⟨S256x1024, .bf16⟩
  | .hbm, ⟨61, _⟩ => ⟨S256x1024, .bf16⟩
  | .hbm, ⟨62, _⟩ => ⟨S128x1024, .bf16⟩
  | .hbm, ⟨63, _⟩ => ⟨S128x512, .bf16⟩
  | .hbm, ⟨64, _⟩ => ⟨S1024x1024, .bf16⟩
  | .hbm, ⟨65, _⟩ => ⟨S128x128, .f32⟩
  | .hbm, ⟨66, _⟩ => ⟨S128x32, .f32⟩
  | .hbm, ⟨67, _⟩ => ⟨S128x512, .f32⟩
  | .hbm, ⟨68, _⟩ => ⟨S128x512, .f32⟩
  | .hbm, ⟨69, _⟩ => ⟨S128x512, .f32⟩
  | .hbm, ⟨70, _⟩ => ⟨S128x128, .f32⟩
  | .hbm, ⟨71, _⟩ => ⟨S8x128x256, .f32⟩
  | .local _ .vmem, ⟨0, _⟩ => ⟨S128x1024, .f32⟩
  | .local _ .vmem, ⟨1, _⟩ => ⟨S1x1024, .f32⟩
  | .local _ .vmem, ⟨2, _⟩ => ⟨S1024x2304, .bf16⟩
  | .local _ .vmem, ⟨3, _⟩ => ⟨S1x256, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S128x1024, .bf16⟩
  | .local _ .vmem, ⟨8, _⟩ => ⟨S1x128, .f32⟩
  | .local _ .vmem, ⟨9, _⟩ => ⟨S128x128, .f32⟩
  | .local _ .vmem, ⟨10, _⟩ => ⟨S128x32, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x128, .f32⟩
  | .local _ .vmem, ⟨15, _⟩ => ⟨S8x128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_c_1 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_call3_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v45_2 : Ref sig .tc := ⟨.hbm, 67, rfl⟩
abbrev main_v45_3 : Ref sig .tc := ⟨.hbm, 68, rfl⟩
abbrev main_v45_4 : Ref sig .tc := ⟨.hbm, 69, rfl⟩
abbrev main_v45_5 : Ref sig .tc := ⟨.hbm, 70, rfl⟩
abbrev main_v45_6 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ProjSRefIdeal.lean ====
abbrev S128x1024 : Shape := ⟨2, ![128, 1024]⟩
abbrev S1x1024 : Shape := ⟨2, ![1, 1024]⟩
abbrev S1024x5032 : Shape := ⟨2, ![1024, 5032]⟩
abbrev S1x256 : Shape := ⟨2, ![1, 256]⟩
abbrev S1x128 : Shape := ⟨2, ![1, 128]⟩
abbrev S256x768 : Shape := ⟨2, ![256, 768]⟩
abbrev S128x8x64 : Shape := ⟨3, ![128, 8, 64]⟩
abbrev S8 : Shape := ⟨1, ![8]⟩
abbrev S_ : Shape := ⟨0, ![]⟩
abbrev S128 : Shape := ⟨1, ![128]⟩
abbrev S128x1 : Shape := ⟨2, ![128, 1]⟩
abbrev S128x5032 : Shape := ⟨2, ![128, 5032]⟩
abbrev S128x256 : Shape := ⟨2, ![128, 256]⟩
abbrev S128x128 : Shape := ⟨2, ![128, 128]⟩
abbrev S128x32 : Shape := ⟨2, ![128, 32]⟩
abbrev S128x512 : Shape := ⟨2, ![128, 512]⟩
abbrev S128x8 : Shape := ⟨2, ![128, 8]⟩
abbrev S128x3072 : Shape := ⟨2, ![128, 3072]⟩
abbrev S1 : Shape := ⟨1, ![1]⟩
abbrev S128x1x1x32 : Shape := ⟨4, ![128, 1, 1, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x1x16 : Shape := ⟨4, ![128, 1, 1, 16]⟩
abbrev S1x1x1x16 : Shape := ⟨4, ![1, 1, 1, 16]⟩
abbrev S1x8 : Shape := ⟨2, ![1, 8]⟩

abbrev nBuf : Space → Nat
  | .hbm => 110
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1024x5032, .f32⟩
  | .hbm, ⟨3, _⟩ => ⟨S1x256, .f32⟩
  | .hbm, ⟨4, _⟩ => ⟨S1x128, .f32⟩
  | .hbm, ⟨5, _⟩ => ⟨S256x768, .f32⟩
  | .hbm, ⟨6, _⟩ => ⟨S128x8x64, .f32⟩
  | .hbm, ⟨7, _⟩ => ⟨S128x8x64, .f32⟩
  | .hbm, ⟨8, _⟩ => ⟨S8, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x5032, .f32⟩
  | .hbm, ⟨25, _⟩ => ⟨S128x256, .f32⟩
  | .hbm, ⟨26, _⟩ => ⟨S128x128, .f32⟩
  | .hbm, ⟨27, _⟩ => ⟨S128x32, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x8, .f32⟩
  | .hbm, ⟨32, _⟩ => ⟨S128x3072, .f32⟩
  | .hbm, ⟨33, _⟩ => ⟨S128x128, .f32⟩
  | .hbm, ⟨34, _⟩ => ⟨S_, .f32⟩
  | .hbm, ⟨35, _⟩ => ⟨S128, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S128x1x1x32, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S1, .f32⟩
  | .hbm, ⟨62, _⟩ => ⟨S1x1, .f32⟩
  | .hbm, ⟨63, _⟩ => ⟨S1x16, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S1x1x16, .f32⟩
  | .hbm, ⟨68, _⟩ => ⟨S1x16, .f32⟩
  | .hbm, ⟨69, _⟩ => ⟨S1x1x16, .f32⟩
  | .hbm, ⟨70, _⟩ => ⟨S128x1x1x16, .f32⟩
  | .hbm, ⟨71, _⟩ => ⟨S128x1x1x16, .f32⟩
  | .hbm, ⟨72, _⟩ => ⟨S1x1x1x16, .f32⟩
  | .hbm, ⟨73, _⟩ => ⟨S128x1x1x16, .f32⟩
  | .hbm, ⟨74, _⟩ => ⟨S128x1x1x16, .f32⟩
  | .hbm, ⟨75, _⟩ => ⟨S1x1x1x16, .f32⟩
  | .hbm, ⟨76, _⟩ => ⟨S128x1x1x16, .f32⟩
  | .hbm, ⟨77, _⟩ => ⟨S128x1x1x16, .f32⟩
  | .hbm, ⟨78, _⟩ => ⟨S128x1x1x16, .f32⟩
  | .hbm, ⟨79, _⟩ => ⟨S1x1x1x16, .f32⟩
  | .hbm, ⟨80, _⟩ => ⟨S128x1x1x16, .f32⟩
  | .hbm, ⟨81, _⟩ => ⟨S128x1x1x16, .f32⟩
  | .hbm, ⟨82, _⟩ => ⟨S1x1x1x16, .f32⟩
  | .hbm, ⟨83, _⟩ => ⟨S128x1x1x16, .f32⟩
  | .hbm, ⟨84, _⟩ => ⟨S128x1x1x16, .f32⟩
  | .hbm, ⟨85, _⟩ => ⟨S128x1x1x16, .f32⟩
  | .hbm, ⟨86, _⟩ => ⟨S128x1x1x32, .f32⟩
  | .hbm, ⟨87, _⟩ => ⟨S128x32, .f32⟩
  | .hbm, ⟨88, _⟩ => ⟨S1x8, .f32⟩
  | .hbm, ⟨89, _⟩ => ⟨S128x8, .f32⟩
  | .hbm, ⟨90, _⟩ => ⟨S128x8, .f32⟩
  | .hbm, ⟨91, _⟩ => ⟨S_, .i32⟩
  | .hbm, ⟨92, _⟩ => ⟨S_, .f32⟩
  | .hbm, ⟨93, _⟩ => ⟨S128x128, .f32⟩
  | .hbm, ⟨94, _⟩ => ⟨S128x128, .f32⟩
  | .hbm, ⟨95, _⟩ => ⟨S_, .f32⟩
  | .hbm, ⟨96, _⟩ => ⟨S128x128, .f32⟩
  | .hbm, ⟨97, _⟩ => ⟨S128x128, .f32⟩
  | .hbm, ⟨98, _⟩ => ⟨S128x128, .f32⟩
  | .hbm, ⟨99, _⟩ => ⟨S128x128, .f32⟩
  | .hbm, ⟨100, _⟩ => ⟨S128x128, .i1⟩
  | .hbm, ⟨101, _⟩ => ⟨S128x128, .f32⟩
  | .hbm, ⟨102, _⟩ => ⟨S128x128, .f32⟩
  | .hbm, ⟨103, _⟩ => ⟨S128x128, .f32⟩
  | .hbm, ⟨104, _⟩ => ⟨S128x128, .f32⟩
  | .hbm, ⟨105, _⟩ => ⟨S128x128, .f32⟩
  | .hbm, ⟨106, _⟩ => ⟨S128x128, .f32⟩
  | .hbm, ⟨107, _⟩ => ⟨S128x128, .f32⟩
  | .hbm, ⟨108, _⟩ => ⟨S128x128, .f32⟩
  | .hbm, ⟨109, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_7 : Ref sig .tc := ⟨.hbm, 91, rfl⟩
abbrev main_call0_v0 : Ref sig .tc := ⟨.hbm, 92, rfl⟩
abbrev main_v73 : Ref sig .tc := ⟨.hbm, 93, rfl⟩
abbrev main_call1_v0 : Ref sig .tc := ⟨.hbm, 94, rfl⟩
abbrev main_call1_call0_cst : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_call0_v2 : Ref sig .tc := ⟨.hbm, 98, rfl⟩
abbrev main_call1_call0_v3 : Ref sig .tc := ⟨.hbm, 99, rfl⟩
abbrev main_call1_call0_v4 : Ref sig .tc := ⟨.hbm, 100, rfl⟩
abbrev main_call1_call0_v5 : Ref sig .tc := ⟨.hbm, 101, rfl⟩
abbrev main_call1_call0_v6 : Ref sig .tc := ⟨.hbm, 102, rfl⟩
abbrev main_call1_call0_v7 : Ref sig .tc := ⟨.hbm, 103, rfl⟩
abbrev main_call1_call0_v8 : Ref sig .tc := ⟨.hbm, 104, rfl⟩
abbrev main_call1_call0_v9 : Ref sig .tc := ⟨.hbm, 105, rfl⟩
abbrev main_call1_call0_v10 : Ref sig .tc := ⟨.hbm, 106, rfl⟩
abbrev main_call1_call0_v11 : Ref sig .tc := ⟨.hbm, 107, rfl⟩
abbrev main_call1_v1 : Ref sig .tc := ⟨.hbm, 108, rfl⟩
abbrev main_v74 : Ref sig .tc := ⟨.hbm, 109, rfl⟩

abbrev nD : Nat := 1
abbrev τ : Topo := Topo.v7x

variable {F : FTy → Type} [FloatOps F]
-- ==== MergeS.lean ====
abbrev S128x1024 : Shape := ⟨2, ![128, 1024]⟩
abbrev S128x256 : Shape := ⟨2, ![128, 256]⟩
abbrev S128x512 : Shape := ⟨2, ![128, 512]⟩
abbrev S1x1024 : Shape := ⟨2, ![1, 1024]⟩
abbrev S1024x3072 : Shape := ⟨2, ![1024, 3072]⟩
abbrev S512x1024 : Shape := ⟨2, ![512, 1024]⟩
abbrev S1024x1024 : Shape := ⟨2, ![1024, 1024]⟩
abbrev S256x1024 : Shape := ⟨2, ![256, 1024]⟩
abbrev S128 : Shape := ⟨1, ![128]⟩
abbrev S128x1 : Shape := ⟨2, ![128, 1]⟩
abbrev S128x3072 : Shape := ⟨2, ![128, 3072]⟩

abbrev nBuf : Space → Nat
  | .hbm => 13
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x512, .f32⟩
  | .hbm, ⟨3, _⟩ => ⟨S128x512, .f32⟩
  | .hbm, ⟨4, _⟩ => ⟨S1x1024, .f32⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S128x256, .f32⟩
  | .local _ .vmem, ⟨2, _⟩ => ⟨S128x512, .f32⟩
  | .local _ .vmem, ⟨3, _⟩ => ⟨S128x512, .f32⟩
  | .local _ .vmem, ⟨4, _⟩ => ⟨S1x1024, .f32⟩
  | .local _ .vmem, ⟨5, _⟩ => ⟨S1024x3072, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== MergeSRefIdeal.lean ====
abbrev S128x1024 : Shape := ⟨2, ![128, 1024]⟩
abbrev S128x256 : Shape := ⟨2, ![128, 256]⟩
abbrev S128x512 : Shape := ⟨2, ![128, 512]⟩
abbrev S1x1024 : Shape := ⟨2, ![1, 1024]⟩
abbrev S1024x3072 : Shape := ⟨2, ![1024, 3072]⟩
abbrev S512x1024 : Shape := ⟨2, ![512, 1024]⟩
abbrev S1024x1024 : Shape := ⟨2, ![1024, 1024]⟩
abbrev S256x1024 : Shape := ⟨2, ![256, 1024]⟩
abbrev S_ : Shape := ⟨0, ![]⟩
abbrev S128 : Shape := ⟨1, ![128]⟩
abbrev S128x1 : Shape := ⟨2, ![128, 1]⟩
abbrev S128x3072 : Shape := ⟨2, ![128, 3072]⟩

abbrev nBuf : Space → Nat
  | .hbm => 108
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x512, .f32⟩
  | .hbm, ⟨3, _⟩ => ⟨S128x512, .f32⟩
  | .hbm, ⟨4, _⟩ => ⟨S1x1024, .f32⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S128x1024, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S1024x3072, .f32⟩
  | .hbm, ⟨28, _⟩ => ⟨S128x3072, .f32⟩
  | .hbm, ⟨29, _⟩ => ⟨S128x512, .f32⟩
  | .hbm, ⟨30, _⟩ => ⟨S128x512, .f32⟩
  | .hbm, ⟨31, _⟩ => ⟨S128x1024, .f32⟩
  | .hbm, ⟨32, _⟩ => ⟨S128x1024, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S512x1024, .f32⟩
  | .hbm, ⟨44, _⟩ => ⟨S128x1024, .f32⟩
  | .hbm, ⟨45, _⟩ => ⟨S128x512, .f32⟩
  | .hbm, ⟨46, _⟩ => ⟨S128x512, .f32⟩
  | .hbm, ⟨47, _⟩ => ⟨S_, .f32⟩
  | .hbm, ⟨48, _⟩ => ⟨S128x512, .f32⟩
  | .hbm, ⟨49, _⟩ => ⟨S128x512, .f32⟩
  | .hbm, ⟨50, _⟩ => ⟨S_, .f32⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S512x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S128x1024, .f32⟩
  | .hbm, ⟨68, _⟩ => ⟨S_, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S1024x1024, .f32⟩
  | .hbm, ⟨77, _⟩ => ⟨S128x1024, .f32⟩
  | .hbm, ⟨78, _⟩ => ⟨S128x1024, .f32⟩
  | .hbm, ⟨79, _⟩ => ⟨S1024x1024, .f32⟩
  | .hbm, ⟨80, _⟩ => ⟨S128x1024, .f32⟩
  | .hbm, ⟨81, _⟩ => ⟨S128x1024, .f32⟩
  | .hbm, ⟨82, _⟩ => ⟨S128x1024, .f32⟩
  | .hbm, ⟨83, _⟩ => ⟨S_, .f32⟩
  | .hbm, ⟨84, _⟩ => ⟨S128x1024, .f32⟩
  | .hbm, ⟨85, _⟩ => ⟨S128x1024, .f32⟩
  | .hbm, ⟨86, _⟩ => ⟨S_, .f32⟩
  | .hbm, ⟨87, _⟩ => ⟨S128x1024, .f32⟩
  | .hbm, ⟨88, _⟩ => ⟨S128x1024, .f32⟩
  | .hbm, ⟨89, _⟩ => ⟨S256x1024, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S_, .f32⟩
  | .hbm, ⟨95, _⟩ => ⟨S128, .f32⟩
  | .hbm, ⟨96, _⟩ => ⟨S128x1, .f32⟩
  | .hbm, ⟨97, _⟩ => ⟨S_, .f32⟩
  | .hbm, ⟨98, _⟩ => ⟨S128x1, .f32⟩
  | .hbm, ⟨99, _⟩ => ⟨S128x1, .f32⟩
  | .hbm, ⟨100, _⟩ => ⟨S_, .f32⟩
  | .hbm, ⟨101, _⟩ => ⟨S128x1, .f32⟩
  | .hbm, ⟨102, _⟩ => ⟨S128x1, .f32⟩
  | .hbm, ⟨103, _⟩ => ⟨S128x1, .f32⟩
  | .hbm, ⟨104, _⟩ => ⟨S128x1024, .f32⟩
  | .hbm, ⟨105, _⟩ => ⟨S128x1024, .f32⟩
  | .hbm, ⟨106, _⟩ => ⟨S128x1024, .f32⟩
  | .hbm, ⟨107, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]
-- ==== Fox.lean ====
abbrev S16384x512 : Shape := ⟨2, ![16384, 512]⟩
abbrev S8x512x2048 : Shape := ⟨3, ![8, 512, 2048]⟩
abbrev S512x128 : Shape := ⟨2, ![512, 128]⟩
abbrev S2048x128 : Shape := ⟨2, ![2048, 128]⟩
abbrev S1x128x2048 : Shape := ⟨3, ![1, 128, 2048]⟩
abbrev S2x1x512 : Shape := ⟨3, ![2, 1, 512]⟩
abbrev S2x80x512 : Shape := ⟨3, ![2, 80, 512]⟩
abbrev S2x512x512 : Shape := ⟨3, ![2, 512, 512]⟩
abbrev S512x256 : Shape := ⟨2, ![512, 256]⟩
abbrev S16x512 : Shape := ⟨2, ![16, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S80x512 : Shape := ⟨2, ![80, 512]⟩
abbrev S1x80x512 : Shape := ⟨3, ![1, 80, 512]⟩
abbrev S128x512 : Shape := ⟨2, ![128, 512]⟩

abbrev nBuf : Space → Nat
  | .hbm => 5
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x512x2048, .bf16⟩
  | .hbm, ⟨3, _⟩ => ⟨S16384x512, .bf16⟩
  | .hbm, ⟨4, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S1x128x2048, .bf16⟩
  | .local _ .vmem, ⟨5, _⟩ => ⟨S1x128x2048, .bf16⟩
  | .local _ .vmem, ⟨6, _⟩ => ⟨S2048x128, .bf16⟩
  | .local _ .vmem, ⟨7, _⟩ => ⟨S2048x128, .bf16⟩
  | .local _ .vmem, ⟨8, _⟩ => ⟨S512x128, .f32⟩
  | .local _ .vmem, ⟨9, _⟩ => ⟨S512x128, .f32⟩
  | .local _ .vmem, ⟨10, _⟩ => ⟨S2x1x512, .f32⟩
  | .local _ .vmem, ⟨11, _⟩ => ⟨S2x80x512, .f32⟩
  | .local _ .vmem, ⟨12, _⟩ => ⟨S2x512x512, .f32⟩
  | .local _ .vmem, ⟨13, _⟩ => ⟨S2x512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32_16 : BitVec 32 := 0#32
  c0_i32_16
@[reducible] def k0_t1_loop (i : grid0.Coords) : Scf.Loop 32 :=
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_36 : BitVec 32 := 1#32
  ⟨c0_i32_34, v77, c1_i32_36⟩
def k0_mult2 (i : grid0.Coords) (k0_t1 : Fin (k0_t1_loop i).trips) : BitVec 32 :=
  let c2_i32_67 : BitVec 32 := 2#32
  let c0_i32_34 : BitVec 32 := 0#32
  let c1_i32_36 : BitVec 32 := 1#32
  let arg12 : BitVec 32 := Scf.iv c0_i32_34 c1_i32_36 k0_t1
  let v119 : BitVec 32 := Scalar.muli c2_i32_67 arg12
  let c1_i32_68 : BitVec 32 := 1#32
  let v120 : BitVec 32 := Scalar.addi v119 c1_i32_68
  let c512_i32 : BitVec 32 := 512#32
  let v121 : BitVec 32 := Scalar.muli v120 c512_i32
  v121
def k0_off1 (i : grid0.Coords) (k0_t1 : Fin (k0_t1_loop i).trips) (c1_i32_68 : BitVec 32) : Fin 2 → Nat :=
  let c2_i32_67 : BitVec 32 := 2#32
  let c0_i32_34 : BitVec 32 := 0#32
  let c1_i32_36 : BitVec 32 := 1#32
  let arg12 : BitVec 32 := Scf.iv c0_i32_34 c1_i32_36 k0_t1
  let v119 : BitVec 32 := Scalar.muli c2_i32_67 arg12
  let v120 : BitVec 32 := Scalar.addi v119 c1_i32_68
  let c512_i32 : BitVec 32 := 512#32
  let v121 : BitVec 32 := Scalar.muli v120 c512_i32
  let v122 : BitVec 32 := v121
  let v123 : Index := Scalar.indexCast v122
  let c0_69 : Index := 0#32
  ![v123.toNat, 0]
def k0_mult3 (i : grid0.Coords) (k0_t1 : Fin (k0_t1_loop i).trips) : BitVec 32 :=
  let c2_i32_81 : BitVec 32 := 2#32
  let c0_i32_34 : BitVec 32 := 0#32
  let c1_i32_36 : BitVec 32 := 1#32
  let arg12 : BitVec 32 := Scf.iv c0_i32_34 c1_i32_36 k0_t1
  let v141 : BitVec 32 := Scalar.muli c2_i32_81 arg12
  let c512_i32_82 : BitVec 32 := 512#32
  let v142 : BitVec 32 := Scalar.muli v141 c512_i32_82
  v142
def k0_off2 (i : grid0.Coords) (k0_t1 : Fin (k0_t1_loop i).trips) : Fin 3 → Nat :=
  let c0_90 : Index := 0#32
  let c0_91 : Index := 0#32
  let c2_i32_81 : BitVec 32 := 2#32
  let c0_i32_34 : BitVec 32 := 0#32
  let c1_i32_36 : BitVec 32 := 1#32
  let arg12 : BitVec 32 := Scf.iv c0_i32_34 c1_i32_36 k0_t1
  let v141 : BitVec 32 := Scalar.muli c2_i32_81 arg12
  let c512_i32_82 : BitVec 32 := 512#32
  let v142 : BitVec 32 := Scalar.muli v141 c512_i32_82
  let v143 : BitVec 32 := v142
  let v157 : Index := Scalar.indexCast v143
  ![0, 0, v157.toNat]
def k0_off3 (i : grid0.Coords) (k0_t1 : Fin (k0_t1_loop i).trips) : Fin 3 → Nat :=
  let c0_109 : Index := 0#32
  let c64_110 : Index := 64#32
  let c2_i32_81 : BitVec 32 := 2#32
  let c0_i32_34 : BitVec 32 := 0#32
  let c1_i32_36 : BitVec 32 := 1#32
  let arg12 : BitVec 32 := Scf.iv c0_i32_34 c1_i32_36 k0_t1
  let v141 : BitVec 32 := Scalar.muli c2_i32_81 arg12
  let c512_i32_82 : BitVec 32 := 512#32
  let v142 : BitVec 32 := Scalar.muli v141 c512_i32_82
  let v143 : BitVec 32 := v142
  let v186 : Index := Scalar.indexCast v143
  ![0, 64, v186.toNat]
def k0_mult4 (i : grid0.Coords) (k0_t1 : Fin (k0_t1_loop i).trips) : BitVec 32 :=
  let c2_i32_121 : BitVec 32 := 2#32
  let c0_i32_34 : BitVec 32 := 0#32
  let c1_i32_36 : BitVec 32 := 1#32
  let arg12 : BitVec 32 := Scf.iv c0_i32_34 c1_i32_36 k0_t1
  let v202 : BitVec 32 := Scalar.muli c2_i32_121 arg12
  let c2_i32_122 : BitVec 32 := 2#32
  let v203 : BitVec 32 := Scalar.addi v202 c2_i32_122
  let c512_i32_123 : BitVec 32 := 512#32
  let v204 : BitVec 32 := Scalar.muli v203 c512_i32_123
  v204
def k0_mult5 (i : grid0.Coords) (k0_t1 : Fin (k0_t1_loop i).trips) : BitVec 32 :=
  let c2_i32_136 : BitVec 32 := 2#32
  let c0_i32_34 : BitVec 32 := 0#32
  let c1_i32_36 : BitVec 32 := 1#32
  let arg12 : BitVec 32 := Scf.iv c0_i32_34 c1_i32_36 k0_t1
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  v226
def k0_off4 (i : grid0.Coords) (k0_t1 : Fin (k0_t1_loop i).trips) : Fin 3 → Nat :=
  let c0_146 : Index := 0#32
  let c0_147 : Index := 0#32
  let c2_i32_136 : BitVec 32 := 2#32
  let c0_i32_34 : BitVec 32 := 0#32
  let c1_i32_36 : BitVec 32 := 1#32
  let arg12 : BitVec 32 := Scf.iv c0_i32_34 c1_i32_36 k0_t1
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  let v227 : BitVec 32 := v226
  let v241 : Index := Scalar.indexCast v227
  ![0, 0, v241.toNat]
def k0_off5 (i : grid0.Coords) (k0_t1 : Fin (k0_t1_loop i).trips) : Fin 3 → Nat :=
  let c0_165 : Index := 0#32
  let c64_166 : Index := 64#32
  let c2_i32_136 : BitVec 32 := 2#32
  let c0_i32_34 : BitVec 32 := 0#32
  let c1_i32_36 : BitVec 32 := 1#32
  let arg12 : BitVec 32 := Scf.iv c0_i32_34 c1_i32_36 k0_t1
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  let v227 : BitVec 32 := v226
  let v270 : Index := Scalar.indexCast v227
  ![0, 64, v270.toNat]
@[reducible] def k0_t2_loop (i : grid0.Coords) : Scf.Loop 32 :=
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let v74 : BitVec 32 := Scalar.addi c0_i32_34 v73
  let c1_i32_37 : BitVec 32 := 1#32
  ⟨v77, v74, c1_i32_37⟩
def k0_mult6 (i : grid0.Coords) (k0_t2 : Fin (k0_t2_loop i).trips) : BitVec 32 :=
  let c2_i32_67 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v119 : BitVec 32 := Scalar.muli c2_i32_67 arg12
  let c1_i32_68 : BitVec 32 := 1#32
  let v120 : BitVec 32 := Scalar.addi v119 c1_i32_68
  let c512_i32 : BitVec 32 := 512#32
  let v121 : BitVec 32 := Scalar.muli v120 c512_i32
  v121
def k0_off6 (i : grid0.Coords) (k0_t2 : Fin (k0_t2_loop i).trips) (c1_i32_68 : BitVec 32) : Fin 2 → Nat :=
  let c2_i32_67 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v119 : BitVec 32 := Scalar.muli c2_i32_67 arg12
  let v120 : BitVec 32 := Scalar.addi v119 c1_i32_68
  let c512_i32 : BitVec 32 := 512#32
  let v121 : BitVec 32 := Scalar.muli v120 c512_i32
  let v122 : BitVec 32 := v121
  let v123 : Index := Scalar.indexCast v122
  let c0_69 : Index := 0#32
  ![v123.toNat, 0]
def k0_mult7 (i : grid0.Coords) (k0_t2 : Fin (k0_t2_loop i).trips) : BitVec 32 :=
  let c2_i32_81 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v141 : BitVec 32 := Scalar.muli c2_i32_81 arg12
  let c512_i32_82 : BitVec 32 := 512#32
  let v142 : BitVec 32 := Scalar.muli v141 c512_i32_82
  v142
def k0_off7 (i : grid0.Coords) (k0_t2 : Fin (k0_t2_loop i).trips) : Fin 3 → Nat :=
  let c0_90 : Index := 0#32
  let c0_91 : Index := 0#32
  let c2_i32_81 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v141 : BitVec 32 := Scalar.muli c2_i32_81 arg12
  let c512_i32_82 : BitVec 32 := 512#32
  let v142 : BitVec 32 := Scalar.muli v141 c512_i32_82
  let v143 : BitVec 32 := v142
  let v157 : Index := Scalar.indexCast v143
  ![0, 0, v157.toNat]
def k0_off8 (i : grid0.Coords) (k0_t2 : Fin (k0_t2_loop i).trips) : Fin 3 → Nat :=
  let c0_109 : Index := 0#32
  let c64_110 : Index := 64#32
  let c2_i32_81 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v141 : BitVec 32 := Scalar.muli c2_i32_81 arg12
  let c512_i32_82 : BitVec 32 := 512#32
  let v142 : BitVec 32 := Scalar.muli v141 c512_i32_82
  let v143 : BitVec 32 := v142
  let v186 : Index := Scalar.indexCast v143
  ![0, 64, v186.toNat]
def k0_mult8 (i : grid0.Coords) (k0_t2 : Fin (k0_t2_loop i).trips) : BitVec 32 :=
  let c2_i32_121 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v202 : BitVec 32 := Scalar.muli c2_i32_121 arg12
  let c2_i32_122 : BitVec 32 := 2#32
  let v203 : BitVec 32 := Scalar.addi v202 c2_i32_122
  let c512_i32_123 : BitVec 32 := 512#32
  let v204 : BitVec 32 := Scalar.muli v203 c512_i32_123
  v204
def k0_mult9 (i : grid0.Coords) (k0_t2 : Fin (k0_t2_loop i).trips) : BitVec 32 :=
  let c2_i32_136 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  v226
def k0_off9 (i : grid0.Coords) (k0_t2 : Fin (k0_t2_loop i).trips) : Fin 3 → Nat :=
  let c0_146 : Index := 0#32
  let c0_147 : Index := 0#32
  let c2_i32_136 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  let v227 : BitVec 32 := v226
  let v241 : Index := Scalar.indexCast v227
  ![0, 0, v241.toNat]
def k0_off10 (i : grid0.Coords) (k0_t2 : Fin (k0_t2_loop i).trips) : Fin 3 → Nat :=
  let c0_165 : Index := 0#32
  let c64_166 : Index := 64#32
  let c2_i32_136 : BitVec 32 := 2#32
  let c0_i32_34 : BitVec 32 := 0#32
  let arg2 : BitVec 32 := BitVec.ofNat 32 (i 2).val
  let c0_i32_28 : BitVec 32 := 0#32
  let v57 : BitVec 1 := Scalar.cmpi .sgt arg2 c0_i32_28
  let v58 : BitVec 32 := Scalar.extui v57
  let c0_i32_29 : BitVec 32 := 0#32
  let v59 : BitVec 1 := Scalar.cmpi .slt arg2 c0_i32_29
  let v60 : BitVec 32 := Scalar.extui v59
  let v61 : BitVec 32 := Scalar.subi v58 v60
  let c2_i32 : BitVec 32 := 2#32
  let c0_i32_30 : BitVec 32 := 0#32
  let v62 : BitVec 1 := Scalar.cmpi .sgt c2_i32 c0_i32_30
  let v63 : BitVec 32 := Scalar.extui v62
  let c0_i32_31 : BitVec 32 := 0#32
  let v64 : BitVec 1 := Scalar.cmpi .slt c2_i32 c0_i32_31
  let v65 : BitVec 32 := Scalar.extui v64
  let v66 : BitVec 32 := Scalar.subi v63 v65
  let v67 : BitVec 1 := Scalar.cmpi .ne v61 v66
  let v68 : BitVec 32 := Scalar.remsi arg2 c2_i32
  let c0_i32_32 : BitVec 32 := 0#32
  let v69 : BitVec 1 := Scalar.cmpi .ne v68 c0_i32_32
  let v70 : BitVec 1 := Scalar.andi v67 v69
  let v56 : BitVec 32 := Scalar.divsi arg2 c2_i32
  let c1_i32 : BitVec 32 := 1#32
  let v71 : BitVec 32 := Scalar.subi v56 c1_i32
  let v72 : BitVec 32 := Scalar.select v70 v71 v56
  let v73 : BitVec 32 := Scalar.subi v72 c0_i32_34
  let c1_i32_35 : BitVec 32 := 1#32
  let v75 : BitVec 32 := Scalar.divsi v73 c1_i32_35
  let v76 : BitVec 32 := Scalar.muli v75 c1_i32_35
  let v77 : BitVec 32 := Scalar.addi c0_i32_34 v76
  let c1_i32_37 : BitVec 32 := 1#32
  let arg12 : BitVec 32 := Scf.iv v77 c1_i32_37 k0_t2
  let v224 : BitVec 32 := Scalar.muli c2_i32_136 arg12
  let c1_i32_137 : BitVec 32 := 1#32
  let v225 : BitVec 32 := Scalar.addi v224 c1_i32_137
  let c512_i32_138 : BitVec 32 := 512#32
  let v226 : BitVec 32 := Scalar.muli v225 c512_i32_138
  let v227 : BitVec 32 := v226
  let v270 : Index := Scalar.indexCast v227
  ![0, 64, v270.toNat]
def k0_cond1 (i : grid0.Coords) : BitVec 1 :=
  let arg2 : BitVec 32 := BitVec.ofNat 32 (i 2).val
  let c2_i32_38 : BitVec 32 := 2#32
  let c0_i32_39 : BitVec 32 := 0#32
  let v78 : BitVec 1 := Scalar.cmpi .eq c2_i32_38 c0_i32_39
  let c1_i32_40 : BitVec 32 := 1#32
  let v79 : BitVec 32 := Scalar.select v78 c1_i32_40 c2_i32_38
  let v80 : BitVec 32 := Scalar.remsi arg2 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c1_i32_44 : BitVec 32 := 1#32
  let v88 : BitVec 1 := Scalar.cmpi .eq v87 c1_i32_44
  let v89 : BitVec 32 := Scalar.extui v88
  let c0_i32_45 : BitVec 32 := 0#32
  let v90 : BitVec 1 := Scalar.cmpi .ne v89 c0_i32_45
  v90

def k0_mult10 (i : grid0.Coords) : BitVec 32 :=
  let arg2 : BitVec 32 := BitVec.ofNat 32 (i 2).val
  let c512_i32 : BitVec 32 := 512#32
  let v119 : BitVec 32 := Scalar.muli arg2 c512_i32
  v119
def k0_off11 (i : grid0.Coords) : Fin 2 → Nat :=
  let arg2 : BitVec 32 := BitVec.ofNat 32 (i 2).val
  let c512_i32 : BitVec 32 := 512#32
  let v119 : BitVec 32 := Scalar.muli arg2 c512_i32
  let v120 : BitVec 32 := v119
  let v121 : Index := Scalar.indexCast v120
  let c0_67 : Index := 0#32
  ![v121.toNat, 0]
def k0_mult11 (i : grid0.Coords) : BitVec 32 :=
  let arg2 : BitVec 32 := BitVec.ofNat 32 (i 2).val
  let c1_i32_79 : BitVec 32 := 1#32
  let v139 : BitVec 32 := Scalar.subi arg2 c1_i32_79
  let c512_i32_80 : BitVec 32 := 512#32
  let v140 : BitVec 32 := Scalar.muli v139 c512_i32_80
  v140
def k0_off12 (i : grid0.Coords) : Fin 3 → Nat :=
  let c0_88 : Index := 0#32
  let c0_89 : Index := 0#32
  let arg2 : BitVec 32 := BitVec.ofNat 32 (i 2).val
  let c1_i32_79 : BitVec 32 := 1#32
  let v139 : BitVec 32 := Scalar.subi arg2 c1_i32_79
  let c512_i32_80 : BitVec 32 := 512#32
  let v140 : BitVec 32 := Scalar.muli v139 c512_i32_80
  let v141 : BitVec 32 := v140
  let v155 : Index := Scalar.indexCast v141
  ![0, 0, v155.toNat]
def k0_off13 (i : grid0.Coords) : Fin 3 → Nat :=
  let c0_107 : Index := 0#32
  let c64_108 : Index := 64#32
  let arg2 : BitVec 32 := BitVec.ofNat 32 (i 2).val
  let c1_i32_79 : BitVec 32 := 1#32
  let v139 : BitVec 32 := Scalar.subi arg2 c1_i32_79
  let c512_i32_80 : BitVec 32 := 512#32
  let v140 : BitVec 32 := Scalar.muli v139 c512_i32_80
  let v141 : BitVec 32 := v140
  let v184 : Index := Scalar.indexCast v141
  ![0, 64, v184.toNat]
def k0_mult12 (i : grid0.Coords) : BitVec 32 :=
  let arg2 : BitVec 32 := BitVec.ofNat 32 (i 2).val
  let c512_i32_119 : BitVec 32 := 512#32
  let v200 : BitVec 32 := Scalar.muli arg2 c512_i32_119
  v200
def k0_off14 (i : grid0.Coords) : Fin 3 → Nat :=
  let c0_128 : Index := 0#32
  let c0_129 : Index := 0#32
  let arg2 : BitVec 32 := BitVec.ofNat 32 (i 2).val
  let c512_i32_119 : BitVec 32 := 512#32
  let v200 : BitVec 32 := Scalar.muli arg2 c512_i32_119
  let v201 : BitVec 32 := v200
  let v220 : Index := Scalar.indexCast v201
  ![0, 0, v220.toNat]
def k0_off15 (i : grid0.Coords) : Fin 3 → Nat :=
  let c0_148 : Index := 0#32
  let c64_149 : Index := 64#32
  let arg2 : BitVec 32 := BitVec.ofNat 32 (i 2).val
  let c512_i32_119 : BitVec 32 := 512#32
  let v200 : BitVec 32 := Scalar.muli arg2 c512_i32_119
  let v201 : BitVec 32 := v200
  let v254 : Index := Scalar.indexCast v201
  ![0, 64, v254.toNat]
def k0_cond2 (i : grid0.Coords) : BitVec 1 :=
  let arg2 : BitVec 32 := BitVec.ofNat 32 (i 2).val
  let c2_i32_46 : BitVec 32 := 2#32
  let c0_i32_47 : BitVec 32 := 0#32
  let v91 : BitVec 1 := Scalar.cmpi .eq c2_i32_46 c0_i32_47
  let c1_i32_48 : BitVec 32 := 1#32
  let v92 : BitVec 32 := Scalar.select v91 c1_i32_48 c2_i32_46
  let v93 : BitVec 32 := Scalar.remsi arg2 v92
  let c0_i32_50 : BitVec 32 := 0#32
  let v95 : BitVec 1 := Scalar.cmpi .slt v93 c0_i32_50
  let c0_i32_51 : BitVec 32 := 0#32
  let v96 : BitVec 1 := Scalar.cmpi .slt v92 c0_i32_51
  let v97 : BitVec 1 := Scalar.xori v95 v96
  let c0_i32_49 : BitVec 32 := 0#32
  let v94 : BitVec 1 := Scalar.cmpi .ne v93 c0_i32_49
  let v98 : BitVec 1 := Scalar.andi v97 v94
  let v99 : BitVec 32 := Scalar.addi v93 v92
  let v100 : BitVec 32 := Scalar.select v98 v99 v93
  let c0_i32_52 : BitVec 32 := 0#32
  let v101 : BitVec 1 := Scalar.cmpi .eq v100 c0_i32_52
  let v102 : BitVec 32 := Scalar.extui v101
  let c0_i32_53 : BitVec 32 := 0#32
  let v103 : BitVec 1 := Scalar.cmpi .ne v102 c0_i32_53
  v103

def k0_mult13 (i : grid0.Coords) : BitVec 32 :=
  let arg2 : BitVec 32 := BitVec.ofNat 32 (i 2).val
  let c512_i32 : BitVec 32 := 512#32
  let v119 : BitVec 32 := Scalar.muli arg2 c512_i32
  v119
def k0_off16 (i : grid0.Coords) : Fin 3 → Nat :=
  let c0_75 : Index := 0#32
  let c0_76 : Index := 0#32
  let arg2 : BitVec 32 := BitVec.ofNat 32 (i 2).val
  let c512_i32 : BitVec 32 := 512#32
  let v119 : BitVec 32 := Scalar.muli arg2 c512_i32
  let v120 : BitVec 32 := v119
  let v139 : Index := Scalar.indexCast v120
  ![0, 0, v139.toNat]
def k0_off17 (i : grid0.Coords) : Fin 3 → Nat :=
  let c0_95 : Index := 0#32
  let c64_96 : Index := 64#32
  let arg2 : BitVec 32 := BitVec.ofNat 32 (i 2).val
  let c512_i32 : BitVec 32 := 512#32
  let v119 : BitVec 32 := Scalar.muli arg2 c512_i32
  let v120 : BitVec 32 := v119
  let v173 : Index := Scalar.indexCast v120
  ![0, 64, v173.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16384x512 : Shape := ⟨2, ![16384, 512]⟩
abbrev S8x512x2048 : Shape := ⟨3, ![8, 512, 2048]⟩
abbrev S8x2048x8x64 : Shape := ⟨4, ![8, 2048, 8, 64]⟩
abbrev S8x8x64x2048 : Shape := ⟨4, ![8, 8, 64, 2048]⟩
abbrev S8x2048x4x128 : Shape := ⟨4, ![8, 2048, 4, 128]⟩
abbrev S8x2048x4x6 : Shape := ⟨4, ![8, 2048, 4, 6]⟩
abbrev S8x2048x8x3 : Shape := ⟨4, ![8, 2048, 8, 3]⟩
abbrev S_ : Shape := ⟨0, ![]⟩
abbrev S8x2048x8 : Shape := ⟨3, ![8, 2048, 8]⟩
abbrev S8x8x2048 : Shape := ⟨3, ![8, 8, 2048]⟩
abbrev S8x8x2048x2048 : Shape := ⟨4, ![8, 8, 2048, 2048]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048x1 : Shape := ⟨4, ![8, 8, 2048, 1]⟩
abbrev S8x2048x8x1 : Shape := ⟨4, ![8, 2048, 8, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x512x2048, .bf16⟩
  | .hbm, ⟨3, _⟩ => ⟨S16384x512, .bf16⟩
  | .hbm, ⟨4, _⟩ => ⟨S16384x512, .f32⟩
  | .hbm, ⟨5, _⟩ => ⟨S8x2048x8x64, .f32⟩
  | .hbm, ⟨6, _⟩ => ⟨S16384x512, .f32⟩
  | .hbm, ⟨7, _⟩ => ⟨S8x2048x8x64, .f32⟩
  | .hbm, ⟨8, _⟩ => ⟨S8x512x2048, .f32⟩
  | .hbm, ⟨9, _⟩ => ⟨S8x8x64x2048, .f32⟩
  | .hbm, ⟨10, _⟩ => ⟨S8x2048x8x64, .f32⟩
  | .hbm, ⟨11, _⟩ => ⟨S16384x512, .f32⟩
  | .hbm, ⟨12, _⟩ => ⟨S8x2048x4x128, .f32⟩
  | .hbm, ⟨13, _⟩ => ⟨S8x2048x4x6, .f32⟩
  | .hbm, ⟨14, _⟩ => ⟨S8x2048x8x3, .f32⟩
  | .hbm, ⟨15, _⟩ => ⟨S_, .f32⟩
  | .hbm, ⟨16, _⟩ => ⟨S8x2048x8, .f32⟩
  | .hbm, ⟨17, _⟩ => ⟨S8x8x2048, .f32⟩
  | .hbm, ⟨18, _⟩ => ⟨S8x8x2048x2048, .f32⟩
  | .hbm, ⟨19, _⟩ => ⟨S8x8x1x2048, .f32⟩
  | .hbm, ⟨20, _⟩ => ⟨S8x8x2048x2048, .f32⟩
  | .hbm, ⟨21, _⟩ => ⟨S8x8x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S_, .f32⟩
  | .hbm, ⟨35, _⟩ => ⟨S8x8x2048x2048, .i1⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048, .f32⟩
  | .hbm, ⟨46, _⟩ => ⟨S8x2048x8, .f32⟩
  | .hbm, ⟨47, _⟩ => ⟨S8x2048x8x1, .f32⟩
  | .hbm, ⟨48, _⟩ => ⟨S8x8x2048x2048, .bf16⟩
  | .hbm, ⟨49, _⟩ => ⟨S8x8x2048x2048, .f32⟩
  | .hbm, ⟨50, _⟩ => ⟨S8x8x64x2048, .f32⟩
  | .hbm, ⟨51, _⟩ => ⟨S8x2048x8x64, .f32⟩
  | .hbm, ⟨52, _⟩ => ⟨S8x2048x8x64, .f32⟩
  | .hbm, ⟨53, _⟩ => ⟨S8x2048x8x64, .f32⟩
  | .hbm, ⟨54, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Flash.Rows.lean ====
module

public import Idealize.ShloMosaic.Lib.Pipeline.FrameBody
public import Idealize.ShloMosaic.Lib.WritesUnit
public import Idealize.ShloMosaic.Lib.WholeRead
public import Idealize.ShloMosaic.Lib.Pointwise

@[expose] public section

/-! # Buffers of two rows, one per head of a pair

The attention kernel keeps, for the two heads it works on, one row each in a buffer of leading extent two. -/

namespace Cert.Flash

open Idealize.ShloMosaic Idealize.ShloMosaic.TcCoe

variable {a b : ℕ}

/-- The buffer whose first row is `x` and whose second row is `y`. -/
def pair {α : Type} (x y : (⟨3, ![1, a, b]⟩ : Shape).Idx → α) : (⟨3, ![2, a, b]⟩ : Shape).Idx → α :=
  fun i => if (i 0).val = 0 then x (ix3 (n0 := 1) (n1 := a) (n2 := b) 0 (i 1) (i 2))
    else y (ix3 (n0 := 1) (n1 := a) (n2 := b) 0 (i 1) (i 2))

theorem ix3_zero_eta (f : (⟨3, ![1, a, b]⟩ : Shape).Idx) :
    ix3 (n0 := 1) (n1 := a) (n2 := b) 0 (f 1) (f 2) = f := by
  rw [eq_ix3 f]
  congr 1
  exact Subsingleton.elim (α := Fin 1) _ _

section
variable {sig : RefSig} {κ : Kind} {sp : Space} {e : EltTy} {Val : EltTy → Type}

/-- A load of the first row of a buffer of two rows. -/
theorem readAt_pair_zero {m : Memref sig κ sp ⟨3, ![2, a, b]⟩ e} (h : m.IsWhole)
    (x y : (⟨3, ![1, a, b]⟩ : Shape).Idx → Val e) (inb) :
    View.readAt Val m.view (Rect.unit (s := ⟨3, ![2, a, b]⟩) ![0, 0, 0] ![1, a, b] inb).toLoadRect (h.unread (pair x y)) = x := by
  funext j
  rw [h.readAt_unread]
  unfold pair
  have h0 : (j 0).val = 0 := by have := (j 0).isLt; simp at this; omega
  rw [if_pos (by show 0 + 1 * (j 0).val = 0; omega)]
  refine congrArg x ?_
  refine Eq.trans ?_ (ix3_zero_eta j)
  congr 1 <;> exact Fin.ext (by show 0 + 1 * _ = _; omega)

/-- A load of the second row of a buffer of two rows. -/
theorem readAt_pair_one {m : Memref sig κ sp ⟨3, ![2, a, b]⟩ e} (h : m.IsWhole)
    (x y : (⟨3, ![1, a, b]⟩ : Shape).Idx → Val e) (inb) :
    View.readAt Val m.view (Rect.unit (s := ⟨3, ![2, a, b]⟩) ![1, 0, 0] ![1, a, b] inb).toLoadRect (h.unread (pair x y)) = y := by
  funext j
  rw [h.readAt_unread]
  unfold pair
  rw [if_neg (by show ¬ (1 + 1 * (j 0).val = 0); omega)]
  refine congrArg y ?_
  refine Eq.trans ?_ (ix3_zero_eta j)
  congr 1 <;> exact Fin.ext (by show 0 + 1 * _ = _; omega)

/-- After both rows are stored, the second last, the buffer holds the two rows, whatever was stored before. -/
theorem read_pair (v : View sig κ sp ⟨3, ![2, a, b]⟩ e) (f : v.ty.Contents Val)
    (x y : (⟨3, ![1, a, b]⟩ : Shape).Idx → Val e) (inb0 inb1) (L : List (View.Piece Val ⟨3, ![2, a, b]⟩ e)) :
    v.read Val (v.writes Val f ((⟨Rect.unit (s := ⟨3, ![2, a, b]⟩) ![1, 0, 0] ![1, a, b] inb1, y⟩ : View.Piece Val _ e)
      :: (⟨Rect.unit (s := ⟨3, ![2, a, b]⟩) ![0, 0, 0] ![1, a, b] inb0, x⟩ : View.Piece Val _ e) :: L)) = pair x y := by
  funext i
  unfold pair
  have h2 : (i 0).val < 2 := (i 0).isLt
  split
  · next h =>
    rw [View.read_writes_cons_unit_of_not_mem v f inb1 y _ i rfl 0 (Or.inl (by show (i 0).val < 1; omega))]
    exact View.read_writes_cons_unit_of_mem v f inb0 x L i _ rfl (by
      intro q
      fin_cases q
      · show (i 0).val = 0 + 0; omega
      · show (i 1).val = 0 + (i 1).val; omega
      · show (i 2).val = 0 + (i 2).val; omega)
  · next h =>
    exact View.read_writes_cons_unit_of_mem v f inb1 y _ i _ rfl (by
      intro q
      fin_cases q
      · show (i 0).val = 1 + 0; omega
      · show (i 1).val = 0 + (i 1).val; omega
      · show (i 2).val = 0 + (i 2).val; omega)

/-- A load of the first row after the second row was stored reads what was stored before it. -/
theorem readCov_skip_one [∀ e, Nonempty (Val e)] (v : View sig κ sp ⟨3, ![2, a, b]⟩ e)
    (y : (⟨3, ![1, a, b]⟩ : Shape).Idx → Val e) (inb0 inb1) (L : List (View.Piece Val ⟨3, ![2, a, b]⟩ e)) :
    v.readCov ((⟨Rect.unit (s := ⟨3, ![2, a, b]⟩) ![1, 0, 0] ![1, a, b] inb1, y⟩ : View.Piece Val _ e) :: L)
      (Rect.unit (s := ⟨3, ![2, a, b]⟩) ![0, 0, 0] ![1, a, b] inb0).toLoadRect
      = v.readCov L (Rect.unit (s := ⟨3, ![2, a, b]⟩) ![0, 0, 0] ![1, a, b] inb0).toLoadRect := by
  refine View.readCov_cons_of_disjoint v _ L _ ?_
  rw [Finset.disjoint_left]
  intro i hi hj
  have h1 := (Rect.mem_set_unit (inb := inb1)).mp hi 0
  have h2 := (Rect.mem_set_unit (inb := inb0)).mp hj 0
  have e1 : 1 ≤ (i 0).val := h1.1
  have e2 : (i 0).val < 0 + 1 := h2.2
  omega

/-- A load of the second row after the first row was stored reads what was stored before it. -/
theorem readCov_skip_zero [∀ e, Nonempty (Val e)] (v : View sig κ sp ⟨3, ![2, a, b]⟩ e)
    (x : (⟨3, ![1, a, b]⟩ : Shape).Idx → Val e) (inb0 inb1) (L : List (View.Piece Val ⟨3, ![2, a, b]⟩ e)) :
    v.readCov ((⟨Rect.unit (s := ⟨3, ![2, a, b]⟩) ![0, 0, 0] ![1, a, b] inb0, x⟩ : View.Piece Val _ e) :: L)
      (Rect.unit (s := ⟨3, ![2, a, b]⟩) ![1, 0, 0] ![1, a, b] inb1).toLoadRect
      = v.readCov L (Rect.unit (s := ⟨3, ![2, a, b]⟩) ![1, 0, 0] ![1, a, b] inb1).toLoadRect := by
  refine View.readCov_cons_of_disjoint v _ L _ ?_
  rw [Finset.disjoint_left]
  intro i hi hj
  have h1 := (Rect.mem_set_unit (inb := inb0)).mp hi 0
  have h2 := (Rect.mem_set_unit (inb := inb1)).mp hj 0
  have e1 : 1 ≤ (i 0).val := h2.1
  have e2 : (i 0).val < 0 + 1 := h1.2
  omega

end

end Cert.Flash

end
-- ==== Proof.Mla.Steps.lean ====
module

public import proofs.«01_k».proof.Proof.Gen.MlaIdeal.Skeleton
public import proofs.«01_k».proof.Proof.Flash.Rows

@[expose] public section

set_option maxRecDepth 16384

noncomputable section

/-! # One tile of the attention over the prompt

The kernel keeps, for each of two heads and each of its 512 queries, a running maximum of the scores, and a running
sum of the values (64 rows) and of ones (16 rows) weighted by the powers of two of the scores less that maximum.
Here is what one tile of 512 keys does to that state, the tiles the kernel loads, and the state after each tile. -/

namespace Cert.MlaIdeal.Gen

open Idealize.ShloMosaic Idealize.ShloMosaic.TcCoe Cert.Flash

variable {F : FTy → Type} [FloatOps F] [Named F]

/-- The running maximum after a tile of scores `w`. -/
def mStep (w : FVec F S512x512 .f32) (m : Vec F S1x1x512 .f32) : Vec F S1x1x512 .f32 := k0_pay30 w m

/-- The running sums after a tile of scores `w` with values `v`. -/
def aStep (o : FVec F S16x512 .bf16) (w : FVec F S512x512 .f32) (m : Vec F S1x1x512 .f32) (v : Vec F S1x64x512 .bf16)
    (a : Vec F S1x80x512 .f32) : Vec F S1x80x512 .f32 := k0_pay29 o w m v a

/-- The scores of a tile: keys against queries. -/
def score (q k : Vec F S512x128 .bf16) : Vec F S1x512x512 .f32 := k0_pay7 q k

/-- A tile of scores without its leading axis of extent one. -/
def flat (s : Vec F S1x512x512 .f32) : FVec F S512x512 .f32 := k0_pay26 s

/-- The tile on the diagonal: a key past the query takes the mask's value. -/
def masked (s : Vec F S1x512x512 .f32) : FVec F S512x512 .f32 := k0_pay1 s

/-- The position `r` places into the `n`-th tile of 512. -/
def pos (n : ℕ) (r : Fin 512) : Fin 2048 := ⟨(512 * n + r.val) % 2048, Nat.mod_lt _ (by decide)⟩

/-- Head `j`'s half of the query block. -/
def qHalf (x : Vec F S512x256 .bf16) (j : Fin 2) : Vec F S512x128 .bf16 :=
  fun i => x (ix2 (n0 := 512) (n1 := 256) (i 0) ⟨128 * j.val + (i 1).val, by
    have h : (i 1).val < 128 := (i 1).isLt
    have := j.isLt
    omega⟩)

/-- Head `j`'s part of the `n`-th tile of keys. -/
def kTile (x : Vec F S2048x256 .bf16) (n : ℕ) (j : Fin 2) : Vec F S512x128 .bf16 :=
  fun i => x (ix2 (n0 := 2048) (n1 := 256) (pos n (i 0)) ⟨128 * j.val + (i 1).val, by
    have h : (i 1).val < 128 := (i 1).isLt
    have := j.isLt
    omega⟩)

/-- Head `j`'s part of the `n`-th tile of values, one row per value lane. -/
def vTile (x : Vec F S1x128x2048 .bf16) (n : ℕ) (j : Fin 2) : Vec F S1x64x512 .bf16 :=
  fun i => x (ix3 (n0 := 1) (n1 := 128) (n2 := 2048) 0 ⟨64 * j.val + (i 1).val, by
    have h : (i 1).val < 64 := (i 1).isLt
    have := j.isLt
    omega⟩ (pos n (i 2)))

/-- The running maximum of head `j` before the `n`-th tile. -/
def mAt (q : Vec F S512x128 .bf16) (x : Vec F S2048x256 .bf16) (j : Fin 2) : ℕ → Vec F S1x1x512 .f32
  | 0 => fun _ => Named.named κ "mask" 0xF149F2CA#32
  | n + 1 => mStep (flat (score q (kTile x n j))) (mAt q x j n)

/-- The running sums of head `j` before the `n`-th tile. -/
def aAt (o : FVec F S16x512 .bf16) (q : Vec F S512x128 .bf16) (x : Vec F S2048x256 .bf16) (y : Vec F S1x128x2048 .bf16)
    (j : Fin 2) : ℕ → Vec F S1x80x512 .f32
  | 0 => fun _ => Scalar.ofBits .f32 0x00000000#32
  | n + 1 => aStep o (flat (score q (kTile x n j))) (mAt q x j n) (vTile y n j) (aAt o q x y j n)

/-- The sums of head `j` after the tile on the diagonal, the `n`-th. -/
def aEnd (o : FVec F S16x512 .bf16) (q : Vec F S512x128 .bf16) (x : Vec F S2048x256 .bf16) (y : Vec F S1x128x2048 .bf16)
    (j : Fin 2) (n : ℕ) : Vec F S1x80x512 .f32 :=
  aStep o (masked (score q (kTile x n j))) (mAt q x j n) (vTile y n j) (aAt o q x y j n)

/-- The value rows of the sums. -/
def valRows (a : Vec F S1x80x512 .f32) : Vec F S1x64x512 .f32 :=
  fun i => a (ix3 (n0 := 1) (n1 := 80) (n2 := 512) 0 ⟨(i 1).val, by have h : (i 1).val < 64 := (i 1).isLt; omega⟩ (i 2))

/-- The first row of sums of ones. -/
def oneRow (a : Vec F S1x80x512 .f32) : Vec F S1x1x512 .f32 :=
  fun i => a (ix3 (n0 := 1) (n1 := 80) (n2 := 512) 0 ⟨64, by decide⟩ (i 2))

/-- What the kernel leaves in its block of the result, at the block of queries whose diagonal tile is the `n`-th. -/
def outBlock (n : ℕ) (x : Vec F S512x256 .bf16) (k : Vec F S2048x256 .bf16) (y : Vec F S1x128x2048 .bf16) :
    Vec F S512x128 .f32 :=
  k0_pay6 (valRows (aEnd k0_pay96 (qHalf x 0) k y 0 n)) (oneRow (aEnd k0_pay96 (qHalf x 0) k y 0 n))
    (valRows (aEnd k0_pay96 (qHalf x 1) k y 1 n)) (oneRow (aEnd k0_pay96 (qHalf x 1) k y 1 n))

/-! ## Where the kernel loads -/

theorem trips1 : ∀ i : grid0.Coords, (k0_t1_loop i).trips = (i 2).val / 2 := by decide +kernel
theorem trips2 : ∀ i : grid0.Coords, (k0_t2_loop i).trips = 0 := by decide +kernel
theorem off1a : ∀ (i : grid0.Coords) (k : Fin (k0_t1_loop i).trips), k0_off1 i k 1#32 = ![512 * (2 * k.val + 1), 0] := by decide +kernel
theorem off1b : ∀ (i : grid0.Coords) (k : Fin (k0_t1_loop i).trips), k0_off1 i k 2#32 = ![512 * (2 * k.val + 2), 0] := by decide +kernel
theorem off2a : ∀ (i : grid0.Coords) (k : Fin (k0_t1_loop i).trips), k0_off2 i k 1#32 = ![512 * (2 * k.val + 1), 128] := by decide +kernel
theorem off2b : ∀ (i : grid0.Coords) (k : Fin (k0_t1_loop i).trips), k0_off2 i k 2#32 = ![512 * (2 * k.val + 2), 128] := by decide +kernel
theorem off3 : ∀ (i : grid0.Coords) (k : Fin (k0_t1_loop i).trips), k0_off3 i k = ![0, 0, 512 * (2 * k.val)] := by decide +kernel
theorem off4 : ∀ (i : grid0.Coords) (k : Fin (k0_t1_loop i).trips), k0_off4 i k = ![0, 64, 512 * (2 * k.val)] := by decide +kernel
theorem off5 : ∀ (i : grid0.Coords) (k : Fin (k0_t1_loop i).trips), k0_off5 i k = ![0, 0, 512 * (2 * k.val + 1)] := by decide +kernel
theorem off6 : ∀ (i : grid0.Coords) (k : Fin (k0_t1_loop i).trips), k0_off6 i k = ![0, 64, 512 * (2 * k.val + 1)] := by decide +kernel
theorem off15 : ∀ i : grid0.Coords, k0_cond1 i = 1#1 → k0_off15 i = ![0, 0, 512 * ((i 2).val - 1)] := by decide +kernel
theorem off16 : ∀ i : grid0.Coords, k0_cond1 i = 1#1 → k0_off16 i = ![0, 64, 512 * ((i 2).val - 1)] := by decide +kernel
theorem cond1_iff : ∀ i : grid0.Coords, k0_cond1 i = 1#1 ↔ (i 2).val % 2 = 1 := by decide +kernel
theorem cond2_iff : ∀ i : grid0.Coords, k0_cond2 i = 1#1 ↔ (i 2).val % 2 = 0 := by decide +kernel

section Loads
variable {sig' : RefSig} {κ' : Kind} {sp : Space}

theorem load_kTile {m : Memref sig' κ' sp S2048x256 .bf16} (h : m.IsWhole) (x : Vec F S2048x256 .bf16)
    {off : Fin 2 → ℕ} (n : ℕ) (j : Fin 2) (hn : n < 4) (ho : off = ![512 * n, 128 * j.val]) (inb) :
    View.readAt (Elt F) m.view (Rect.unit (s := S2048x256) off S512x128.size inb).toLoadRect (h.unread x) = kTile x n j := by
  subst ho
  funext i
  rw [h.readAt_unread]
  unfold kTile pos
  have h0 : (i 0).val < 512 := (i 0).isLt
  refine congrArg x ?_
  funext a
  refine Fin.ext ?_
  fin_cases a
  · show 512 * n + 1 * (i 0).val = (512 * n + (i 0).val) % 2048
    rw [Nat.mod_eq_of_lt (by omega)]; omega
  · show 128 * j.val + 1 * (i 1).val = 128 * j.val + (i 1).val
    omega

theorem load_vTile {m : Memref sig' κ' sp S1x128x2048 .bf16} (h : m.IsWhole) (x : Vec F S1x128x2048 .bf16)
    {off : Fin 3 → ℕ} (n : ℕ) (j : Fin 2) (hn : n < 4) (ho : off = ![0, 64 * j.val, 512 * n]) (inb) :
    View.readAt (Elt F) m.view (Rect.unit (s := S1x128x2048) off S1x64x512.size inb).toLoadRect (h.unread x) = vTile x n j := by
  subst ho
  funext i
  rw [h.readAt_unread]
  unfold vTile pos
  have h0 : (i 0).val < 1 := (i 0).isLt
  have h2 : (i 2).val < 512 := (i 2).isLt
  refine congrArg x ?_
  funext a
  refine Fin.ext ?_
  fin_cases a
  · show 0 + 1 * (i 0).val = 0
    omega
  · show 64 * j.val + 1 * (i 1).val = 64 * j.val + (i 1).val
    omega
  · show 512 * n + 1 * (i 2).val = (512 * n + (i 2).val) % 2048
    rw [Nat.mod_eq_of_lt (by omega)]; omega

theorem load_qHalf {m : Memref sig' κ' sp S512x256 .bf16} (h : m.IsWhole) (x : Vec F S512x256 .bf16)
    {off : Fin 2 → ℕ} (j : Fin 2) (ho : off = ![0, 128 * j.val]) (inb) :
    View.readAt (Elt F) m.view (Rect.unit (s := S512x256) off S512x128.size inb).toLoadRect (h.unread x) = qHalf x j := by
  subst ho
  funext i
  rw [h.readAt_unread]
  unfold qHalf
  refine congrArg x ?_
  funext a
  refine Fin.ext ?_
  fin_cases a
  · show 0 + 1 * (i 0).val = (i 0).val
    omega
  · show 128 * j.val + 1 * (i 1).val = 128 * j.val + (i 1).val
    omega

end Loads

end Cert.MlaIdeal.Gen

end
-- ==== Proof.Mla.Trip.lean ====
module

public import proofs.«01_k».proof.Proof.Gen.MlaIdeal.Frame.Runs
public import proofs.«01_k».proof.Proof.Mla.Steps

@[expose] public section

set_option maxRecDepth 16384
set_option maxHeartbeats 2000000

noncomputable section

/-! # A trip of the kernel's loop over pairs of tiles -/

namespace Cert.MlaIdeal.Gen

open Idealize.ShloMosaic Idealize.ShloMosaic.TcCoe Idealize.ShloMosaic.Tactic Cert.Flash
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What is held before the trip that consumes tiles `n` and `n + 1`: keys and values, the state before tile `n`, the
scores of tile `n`, and the other buffer of scores at anything. -/
def Held (c : Dev nD) (arg4 : Memref sig .tc .vmem S2048x256 .bf16) (arg5 : Memref sig .tc .vmem S1x128x2048 .bf16)
    (arg7 : Memref sig .tc .vmem S2x1x512 .f32) (arg8 : Memref sig .tc .vmem S2x80x512 .f32)
    (arg9 : Memref sig .tc .vmem S2x512x512 .f32) (arg10 : Memref sig .tc .vmem S2x512x512 .f32)
    (q0 q1 : Vec F S512x128 .bf16) (o : FVec F S16x512 .bf16) (x4 : Vec F S2048x256 .bf16) (x5 : Vec F S1x128x2048 .bf16)
    (n : ℕ) : sProp 𝕄G :=
  iprop(owns (c : Thread nD τ) arg4 fullShare x4 ∗ owns (c : Thread nD τ) arg5 fullShare x5
    ∗ owns (c : Thread nD τ) arg7 fullShare (pair (mAt q0 x4 0 n) (mAt q1 x4 1 n))
    ∗ owns (c : Thread nD τ) arg8 fullShare (pair (aAt o q0 x4 x5 0 n) (aAt o q1 x4 x5 1 n))
    ∗ owns (c : Thread nD τ) arg9 fullShare (pair (score q0 (kTile x4 n 0)) (score q1 (kTile x4 n 1)))
    ∗ (∃ d, owns (c : Thread nD τ) arg10 fullShare d))

theorem trip (𝒱 : Variants) (c : Dev nD) (bd : Option 𝒱.V) (i : grid0.Coords) (arg3 : Memref sig .tc .vmem S512x256 .bf16) (harg3 : arg3.IsWhole) (arg4 : Memref sig .tc .vmem S2048x256 .bf16) (harg4 : arg4.IsWhole) (arg5 : Memref sig .tc .vmem S1x128x2048 .bf16) (harg5 : arg5.IsWhole) (arg6 : Memref sig .tc .vmem S512x128 .f32) (harg6 : arg6.IsWhole) (arg7 : Memref sig .tc .vmem S2x1x512 .f32) (harg7 : arg7.IsWhole) (arg8 : Memref sig .tc .vmem S2x80x512 .f32) (harg8 : arg8.IsWhole) (arg9 : Memref sig .tc .vmem S2x512x512 .f32) (harg9 : arg9.IsWhole) (arg10 : Memref sig .tc .vmem S2x512x512 .f32) (harg10 : arg10.IsWhole) (arg2 : BitVec 32) (v0 : Vec F S512x128 .bf16) (v1 : Vec F S512x128 .bf16) (v10 : FVec F S16x512 .bf16) (c2_i32 : BitVec 32) (v24 : BitVec 32) (v26 : BitVec 32) (k : Fin (k0_t1_loop i).trips)
    (x4 : Vec F S2048x256 .bf16) (x5 : Vec F S1x128x2048 .bf16) (E : Set ℕ) :
    Held c arg4 arg5 arg7 arg8 arg9 arg10 v0 v1 v10 x4 x5 (2 * k.val)
      ⊢ (wp frame (wpE (defs₀ (F := F)) 𝒱 (c : Thread nD τ) bd) E (k0_t1_body (F := F) i arg3 harg3 arg4 harg4 arg5 harg5 arg6 harg6 arg7 harg7 arg8 harg8 arg9 harg9 arg10 harg10 arg2 v0 v1 v10 c2_i32 v24 v26 k PUnit.unit)
          (fun _ => Held c arg4 arg5 arg7 arg8 arg9 arg10 v0 v1 v10 x4 x5 (2 * (k.val + 1))) : sProp 𝕄G) := by
  have hk : k.val < 1 := lt_of_lt_of_le k.isLt (by rw [trips1]; have := (i 2).isLt; change _ < 4 at this; omega)
  unfold k0_t1_body Held
  simp only [k0_part1_eq_skeleton, k0_part2_eq_skeleton, k0_part3_eq_skeleton, k0_part4_eq_skeleton]
  unfold owns
  iintro ⟨⟨%f4, %hf4, H4⟩, ⟨%f5, %hf5, H5⟩, ⟨%f7, %hf7, H7⟩, ⟨%f8, %hf8, H8⟩, ⟨%f9, %hf9, H9⟩, ⟨%d10, %f10, -, H10⟩⟩
  obtain rfl := harg4.eq_unread hf4; obtain rfl := harg5.eq_unread hf5
  obtain rfl := harg7.eq_unread hf7; obtain rfl := harg8.eq_unread hf8; obtain rfl := harg9.eq_unread hf9
  sl_exec
  sl_step
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    sl_unfold_run_names
    rw [load_kTile harg4 x4 (2 * k.val + 1) 0 (by omega) (off1a i k), load_kTile harg4 x4 (2 * k.val + 1) 1 (by omega) (off2a i k)]
    simp only [readAt_pair_zero, readAt_pair_one, readCov_skip_one, readCov_skip_zero, View.readCov_cons_toLoadRect]
    exact read_pair _ _ _ _ _ _ _
  isplitl [H8]
  · iexists _; isplitr; swap; · iexact H8
    ipureintro
    sl_unfold_run_names
    rw [load_kTile harg4 x4 (2 * k.val + 1) 0 (by omega) (off1a i k), load_kTile harg4 x4 (2 * k.val + 1) 1 (by omega) (off2a i k),
      load_vTile harg5 x5 (2 * k.val) 0 (by omega) (off3 i k), load_vTile harg5 x5 (2 * k.val) 1 (by omega) (off4 i k),
      load_vTile harg5 x5 (2 * k.val + 1) 0 (by omega) (off5 i k), load_vTile harg5 x5 (2 * k.val + 1) 1 (by omega) (off6 i k)]
    simp only [readAt_pair_zero, readAt_pair_one, readCov_skip_one, readCov_skip_zero, View.readCov_cons_toLoadRect]
    exact read_pair _ _ _ _ _ _ _
  isplitl [H9]
  · iexists _; isplitr; swap; · iexact H9
    ipureintro
    rw [load_kTile harg4 x4 (2 * k.val + 2) 0 (by omega) (off1b i k), load_kTile harg4 x4 (2 * k.val + 2) 1 (by omega) (off2b i k)]
    exact read_pair _ _ _ _ _ _ _
  · iexists _, _; isplitr; swap; · iexact H10
    ipureintro
    rfl

end Cert.MlaIdeal.Gen

end
-- ==== Proof.Mla.Body.lean ====
module

public import proofs.«01_k».proof.Proof.Mla.Trip
public import Idealize.ShloMosaic.Lib.VecWindow

@[expose] public section

set_option maxRecDepth 16384
set_option maxHeartbeats 4000000

noncomputable section

/-! # The kernel's body at a point of its grid -/

namespace Cert.MlaIdeal.Gen

open Idealize.ShloMosaic Idealize.ShloMosaic.TcCoe Idealize.ShloMosaic.Tactic Cert.Flash
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

section Loads
variable {sig' : RefSig} {κ' : Kind} {sp : Space}

/-- The value rows of the first head's sums, loaded from the buffer of both. -/
theorem load_val_zero (v : View sig' κ' sp S2x80x512 .f32) (f : v.ty.Contents (Elt F)) (x y : Vec F S1x80x512 .f32)
    (hf : v.read (Elt F) f = pair x y) (inb) :
    v.readAt (Elt F) (Rect.unit (s := S2x80x512) ![0, 0, 0] S1x64x512.size inb).toLoadRect f = valRows x := by
  funext j
  rw [View.readAt_apply, hf]
  unfold pair valRows
  have h0 : (j 0).val < 1 := (j 0).isLt
  rw [if_pos (by show 0 + 1 * (j 0).val = 0; omega)]
  refine congrArg x ?_
  congr 1
  · exact Fin.ext (by show 0 + 1 * (j 1).val = (j 1).val; omega)
  · exact Fin.ext (by show 0 + 1 * (j 2).val = (j 2).val; omega)

/-- The value rows of the second head's sums, loaded from the buffer of both. -/
theorem load_val_one (v : View sig' κ' sp S2x80x512 .f32) (f : v.ty.Contents (Elt F)) (x y : Vec F S1x80x512 .f32)
    (hf : v.read (Elt F) f = pair x y) (inb) :
    v.readAt (Elt F) (Rect.unit (s := S2x80x512) ![1, 0, 0] S1x64x512.size inb).toLoadRect f = valRows y := by
  funext j
  rw [View.readAt_apply, hf]
  unfold pair valRows
  rw [if_neg (by show ¬ (1 + 1 * (j 0).val = 0); omega)]
  refine congrArg y ?_
  congr 1
  · exact Fin.ext (by show 0 + 1 * (j 1).val = (j 1).val; omega)
  · exact Fin.ext (by show 0 + 1 * (j 2).val = (j 2).val; omega)

/-- The first head's row of sums of ones, loaded from the buffer of both. -/
theorem load_one_zero (v : View sig' κ' sp S2x80x512 .f32) (f : v.ty.Contents (Elt F)) (x y : Vec F S1x80x512 .f32)
    (hf : v.read (Elt F) f = pair x y) (inb) :
    v.readAt (Elt F) (Rect.unit (s := S2x80x512) ![0, 64, 0] S1x1x512.size inb).toLoadRect f = oneRow x := by
  funext j
  rw [View.readAt_apply, hf]
  unfold pair oneRow
  have h0 : (j 0).val < 1 := (j 0).isLt
  have h1 : (j 1).val < 1 := (j 1).isLt
  rw [if_pos (by show 0 + 1 * (j 0).val = 0; omega)]
  refine congrArg x ?_
  congr 1
  · exact Fin.ext (by show 64 + 1 * (j 1).val = 64; omega)
  · exact Fin.ext (by show 0 + 1 * (j 2).val = (j 2).val; omega)

/-- The second head's row of sums of ones, loaded from the buffer of both. -/
theorem load_one_one (v : View sig' κ' sp S2x80x512 .f32) (f : v.ty.Contents (Elt F)) (x y : Vec F S1x80x512 .f32)
    (hf : v.read (Elt F) f = pair x y) (inb) :
    v.readAt (Elt F) (Rect.unit (s := S2x80x512) ![1, 64, 0] S1x1x512.size inb).toLoadRect f = oneRow y := by
  funext j
  rw [View.readAt_apply, hf]
  unfold pair oneRow
  have h1 : (j 1).val < 1 := (j 1).isLt
  rw [if_neg (by show ¬ (1 + 1 * (j 0).val = 0); omega)]
  refine congrArg y ?_
  congr 1
  · exact Fin.ext (by show 64 + 1 * (j 1).val = 64; omega)
  · exact Fin.ext (by show 0 + 1 * (j 2).val = (j 2).val; omega)

end Loads

section
variable (𝒱 : Variants) (c : Dev nD) (bd : Option 𝒱.V) (i : grid0.Coords)
  (arg3 : Memref sig .tc .vmem S512x256 .bf16) (harg3 : arg3.IsWhole)
  (arg4 : Memref sig .tc .vmem S2048x256 .bf16) (harg4 : arg4.IsWhole)
  (arg5 : Memref sig .tc .vmem S1x128x2048 .bf16) (harg5 : arg5.IsWhole)
  (arg6 : Memref sig .tc .vmem S512x128 .f32) (harg6 : arg6.IsWhole)
  (arg7 : Memref sig .tc .vmem S2x1x512 .f32) (harg7 : arg7.IsWhole)
  (arg8 : Memref sig .tc .vmem S2x80x512 .f32) (harg8 : arg8.IsWhole)
  (arg9 : Memref sig .tc .vmem S2x512x512 .f32) (harg9 : arg9.IsWhole)
  (arg10 : Memref sig .tc .vmem S2x512x512 .f32) (harg10 : arg10.IsWhole)
  (x3 : Vec F S512x256 .bf16) (x4 : Vec F S2048x256 .bf16) (x5 : Vec F S1x128x2048 .bf16) (E : Set ℕ)

/-- Before the loop: the state is set to nothing seen, and the scores of the first tile are formed. -/
theorem opening :
    iprop(owns (c : Thread nD τ) arg3 fullShare x3 ∗ owns (c : Thread nD τ) arg4 fullShare x4 ∗ owns (c : Thread nD τ) arg5 fullShare x5
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d))
      ⊢ (wp frame (wpE (defs₀ (F := F)) 𝒱 (c : Thread nD τ) bd) E (k0_part14 (F := F) i arg3 harg3 arg4 harg4 arg5 harg5 arg6 harg6 arg7 harg7 arg8 harg8 arg9 harg9 arg10 harg10)
          (fun r => iprop(∃ v24 v26, ⌜r = ⟨BitVec.ofNat 32 (i 2).val, qHalf x3 0, qHalf x3 1, k0_pay96, 2#32, v24, v26⟩⌝
            ∗ owns (c : Thread nD τ) arg3 fullShare x3
            ∗ Held c arg4 arg5 arg7 arg8 arg9 arg10 (qHalf x3 0) (qHalf x3 1) k0_pay96 x4 x5 0)) : sProp 𝕄G) := by
  simp only [k0_part14_eq_skeleton]; unfold k0_part14_skel Held owns
  iintro ⟨⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩⟩
  obtain rfl := harg3.eq_unread hf3; obtain rfl := harg4.eq_unread hf4; obtain rfl := harg5.eq_unread hf5
  sl_exec
  sl_step
  iexists (Scalar.divsi (BitVec.ofNat 32 (i 2).val) 2#32), (Scalar.extui (Scalar.cmpi .sgt (BitVec.ofNat 32 (i 2).val) 0#32))
  isplitr
  · ipureintro
    rw [load_qHalf (off := ![0, 0]) harg3 x3 0 rfl, load_qHalf (off := ![0, 128]) harg3 x3 1 rfl]
    rfl
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    refine (View.read_writes_full _ _ _ _ _).trans ?_
    funext y; unfold pair; split <;> rfl
  isplitl [H8]
  · iexists _; isplitr; swap; · iexact H8
    ipureintro
    refine (View.read_writes_full _ _ _ _ _).trans ?_
    funext y; unfold pair; split <;> rfl
  isplitl [H9]
  · iexists _; isplitr; swap; · iexact H9
    ipureintro
    rw [load_qHalf (off := ![0, 0]) harg3 x3 0 rfl, load_qHalf (off := ![0, 128]) harg3 x3 1 rfl, load_kTile (off := ![0, 0]) harg4 x4 0 0 (by omega) rfl,
      load_kTile (off := ![0, 128]) harg4 x4 0 1 (by omega) rfl]
    exact read_pair _ _ _ _ _ _ _
  · iexists _, _; isplitr; swap; · iexact H10
    ipureintro
    rfl

/-- The loop over pairs of tiles brings the state to the last even tile at or before the diagonal. -/
theorem loops_even (hc0 : ¬ k0_cond1 i = 1#1) (q0 q1 : Vec F S512x128 .bf16) (v10 : FVec F S16x512 .bf16) (arg2 c2_i32 v24 v26 : BitVec 32) :
    Held c arg4 arg5 arg7 arg8 arg9 arg10 q0 q1 v10 x4 x5 0
      ⊢ (wp frame (wpE (defs₀ (F := F)) 𝒱 (c : Thread nD τ) bd) E (k0_part15 (F := F) i arg3 harg3 arg4 harg4 arg5 harg5 arg6 harg6 arg7 harg7 arg8 harg8 arg9 harg9 arg10 harg10 arg2 q0 q1 v10 c2_i32 v24 v26)
          (fun _ => Held c arg4 arg5 arg7 arg8 arg9 arg10 q0 q1 v10 x4 x5 (i 2).val) : sProp 𝕄G) := by
  simp only [k0_part15_eq_skeleton]; unfold k0_part15_skel
  dsimp only
  iintro HH
  sl_for (fun k _ => Held c arg4 arg5 arg7 arg8 arg9 arg10 q0 q1 v10 x4 x5 (2 * k)) $$ [HH]
  case region =>
    intro k _
    exact trip 𝒱 c bd i arg3 harg3 arg4 harg4 arg5 harg5 arg6 harg6 arg7 harg7 arg8 harg8 arg9 harg9 arg10 harg10 _ _ _ _ _ _ _ k x4 x5 E
  · iexact HH
  iintro %_ HH
  have htr := trips2 i
  sl_for0 htr
  sl_exec (disch := sl_exact hc0)
  sl_step
  rw [show 2 * Scf.trips (k0_t1_loop i).lb (k0_t1_loop i).ub (k0_t1_loop i).st = (i 2).val from ?_]
  · iexact HH
  · have h1 : Scf.trips (k0_t1_loop i).lb (k0_t1_loop i).ub (k0_t1_loop i).st = (i 2).val / 2 := trips1 i
    rw [cond1_iff] at hc0
    omega

/-- At an odd block of queries the loop ends one tile before the diagonal: that tile is taken, then the diagonal tile
with its mask. -/
theorem loops_odd (hc0 : k0_cond1 i = 1#1) (q0 q1 : Vec F S512x128 .bf16) (v10 : FVec F S16x512 .bf16) (arg2 c2_i32 v24 v26 : BitVec 32) :
    Held c arg4 arg5 arg7 arg8 arg9 arg10 q0 q1 v10 x4 x5 0
      ⊢ (wp frame (wpE (defs₀ (F := F)) 𝒱 (c : Thread nD τ) bd) E (k0_part15 (F := F) i arg3 harg3 arg4 harg4 arg5 harg5 arg6 harg6 arg7 harg7 arg8 harg8 arg9 harg9 arg10 harg10 arg2 q0 q1 v10 c2_i32 v24 v26)
          (fun _ => iprop(owns (c : Thread nD τ) arg4 fullShare x4 ∗ owns (c : Thread nD τ) arg5 fullShare x5
            ∗ (∃ d, owns (c : Thread nD τ) arg7 fullShare d)
            ∗ owns (c : Thread nD τ) arg8 fullShare (pair (aEnd v10 q0 x4 x5 0 (i 2).val) (aEnd v10 q1 x4 x5 1 (i 2).val))
            ∗ (∃ d, owns (c : Thread nD τ) arg9 fullShare d) ∗ (∃ d, owns (c : Thread nD τ) arg10 fullShare d))) : sProp 𝕄G) := by
  simp only [k0_part15_eq_skeleton]; unfold k0_part15_skel
  simp only [k0_part9_eq_skeleton, k0_part10_eq_skeleton, k0_part11_eq_skeleton, k0_part12_eq_skeleton]
  iintro HH
  sl_for (fun k _ => Held c arg4 arg5 arg7 arg8 arg9 arg10 q0 q1 v10 x4 x5 (2 * k)) $$ [HH]
  case region =>
    intro k _
    exact trip 𝒱 c bd i arg3 harg3 arg4 harg4 arg5 harg5 arg6 harg6 arg7 harg7 arg8 harg8 arg9 harg9 arg10 harg10 _ _ _ _ _ _ _ k x4 x5 E
  · iexact HH
  iintro %_ HH
  have htr := trips2 i
  sl_for0 htr
  have hodd := (cond1_iff i).mp hc0
  have h4 : (i 2).val < 4 := (i 2).isLt
  have h1 : Scf.trips (k0_t1_loop i).lb (k0_t1_loop i).ub (k0_t1_loop i).st = (i 2).val / 2 := trips1 i
  obtain ⟨n, hn⟩ : ∃ n, (i 2).val = n + 1 := ⟨(i 2).val - 1, by omega⟩
  rw [show 2 * Scf.trips (k0_t1_loop i).lb (k0_t1_loop i).ub (k0_t1_loop i).st = n by omega]
  unfold Held owns
  icases HH with ⟨⟨%f4, %hf4, H4⟩, ⟨%f5, %hf5, H5⟩, ⟨%f7, %hf7, H7⟩, ⟨%f8, %hf8, H8⟩, ⟨%f9, %hf9, H9⟩, ⟨%d10, %f10, -, H10⟩⟩
  obtain rfl := harg4.eq_unread hf4; obtain rfl := harg5.eq_unread hf5
  obtain rfl := harg7.eq_unread hf7; obtain rfl := harg8.eq_unread hf8; obtain rfl := harg9.eq_unread hf9
  sl_exec (disch := sl_exact hc0)
  sl_step
  isplitl [H4]
  · iexists _; isplitr; · ipureintro; exact harg4.read_unread _
    iexact H4
  isplitl [H5]
  · iexists _; isplitr; · ipureintro; exact harg5.read_unread _
    iexact H5
  isplitl [H7]
  · iexists _, _; isplitr; swap; · iexact H7
    ipureintro
    rfl
  isplitl [H8]
  · iexists _; isplitr; swap; · iexact H8
    ipureintro
    sl_unfold_run_names
    rw [load_vTile harg5 x5 n 0 (by omega) ((off15 i hc0).trans (by rw [hn]; rfl)), load_vTile harg5 x5 n 1 (by omega) ((off16 i hc0).trans (by rw [hn]; rfl)),
      load_vTile harg5 x5 (n + 1) 0 (by omega) ((k0_off17_eq i).trans (by rw [hn]; rfl)), load_vTile harg5 x5 (n + 1) 1 (by omega) ((k0_off18_eq i).trans (by rw [hn]; rfl)),
      load_kTile harg4 x4 (n + 1) 0 (by omega) ((k0_off13_eq i).trans (by rw [hn]; rfl)), load_kTile harg4 x4 (n + 1) 1 (by omega) ((k0_off14_eq i).trans (by rw [hn]; rfl))]
    simp only [readAt_pair_zero, readAt_pair_one, readCov_skip_one, readCov_skip_zero, View.readCov_cons_toLoadRect]
    rw [hn]
    exact read_pair _ _ _ _ _ _ _
  isplitl [H9]
  · iexists _, _; isplitr; swap; · iexact H9
    ipureintro
    rfl
  · iexists _, _; isplitr; swap; · iexact H10
    ipureintro
    rfl

/-- The body: from the blocks of queries, keys and values it leaves `outBlock` of them, at the tile on the diagonal. -/
theorem body (hc : k0_cond1 i = 1#1 ↔ ¬ k0_cond2 i = 1#1) :
    iprop(owns (c : Thread nD τ) arg3 fullShare x3 ∗ owns (c : Thread nD τ) arg4 fullShare x4 ∗ owns (c : Thread nD τ) arg5 fullShare x5
      ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d))
      ⊢ (wp frame (wpE (defs₀ (F := F)) 𝒱 (c : Thread nD τ) bd) E (cc0_mla_prompt_attention (F := F) i arg3 harg3 arg4 harg4 arg5 harg5 arg6 harg6 arg7 harg7 arg8 harg8 arg9 harg9 arg10 harg10)
          (fun _ => iprop(owns (c : Thread nD τ) arg3 fullShare x3 ∗ owns (c : Thread nD τ) arg4 fullShare x4 ∗ owns (c : Thread nD τ) arg5 fullShare x5
            ∗ owns (c : Thread nD τ) arg6 fullShare (outBlock (i 2).val x3 x4 x5)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d))) : sProp 𝕄G) := by
  simp only [cc0_mla_prompt_attention_eq_skeleton]; unfold cc0_mla_prompt_attention_skel
  simp only [k0_part13_eq_skeleton]
  rw [wp_bind]
  iintro ⟨H3, H4, H5, H6, H7, H8, H9, H10⟩
  iapply (wp_wand_r Idealize.ShloMosaic.frame (wpE (defs₀ (F := F)) 𝒱 (c : Thread nD τ) bd) E)
  isplitl [H3 H4 H5 H7 H8 H9 H10]
  · iapply (opening 𝒱 c bd i arg3 harg3 arg4 harg4 arg5 harg5 arg6 harg6 arg7 harg7 arg8 harg8 arg9 harg9 arg10 harg10 x3 x4 x5 E)
    isplitl [H3]; · iexact H3
    isplitl [H4]; · iexact H4
    isplitl [H5]; · iexact H5
    isplitl [H7]; · iexact H7
    isplitl [H8]; · iexact H8
    isplitl [H9]; · iexact H9
    iexact H10
  iintro %r ⟨%v24, %v26, %hr, H3, HH⟩
  subst hr
  dsimp only
  rw [wp_bind]
  have h4 : (i 2).val < 4 := (i 2).isLt
  by_cases hc1 : k0_cond2 i = 1#1
  · have hc0 : ¬ k0_cond1 i = 1#1 := fun h => hc.mp h hc1
    iapply (wp_wand_r Idealize.ShloMosaic.frame (wpE (defs₀ (F := F)) 𝒱 (c : Thread nD τ) bd) E)
    isplitl [HH]
    · iapply (loops_even 𝒱 c bd i arg3 harg3 arg4 harg4 arg5 harg5 arg6 harg6 arg7 harg7 arg8 harg8 arg9 harg9 arg10 harg10 x4 x5 E hc0)
      iexact HH
    iintro %_ HH
    unfold Held owns
    icases HH with ⟨⟨%f4, %hf4, H4⟩, ⟨%f5, %hf5, H5⟩, ⟨%f7, %hf7, H7⟩, ⟨%f8, %hf8, H8⟩, ⟨%f9, %hf9, H9⟩, ⟨%d10, %f10, -, H10⟩⟩
    icases H6 with ⟨%d6, %f6, -, H6⟩
    icases H3 with ⟨%f3, %hf3, H3⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := sl_exact hc1)
    sl_step
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro
      sl_unfold_run_names
      dsimp only
      rw [load_vTile harg5 x5 (i 2).val 0 h4 (k0_off19_eq i), load_vTile harg5 x5 (i 2).val 1 h4 (k0_off20_eq i)]
      simp only [readAt_pair_zero, readAt_pair_one]
      refine (View.read_writes_full _ _ _ _ _).trans ?_
      unfold View.readCov
      rw [load_val_zero _ _ _ _ (read_pair _ _ _ _ _ _ _), load_val_one _ _ _ _ (read_pair _ _ _ _ _ _ _),
        load_one_zero _ _ _ _ (read_pair _ _ _ _ _ _ _), load_one_one _ _ _ _ (read_pair _ _ _ _ _ _ _)]
      rfl
    isplitl [H7]
    · iexists _, _; isplitr; swap; · iexact H7
      ipureintro
      rfl
    isplitl [H8]
    · iexists _, _; isplitr; swap; · iexact H8
      ipureintro
      rfl
    isplitl [H9]
    · iexists _, _; isplitr; swap; · iexact H9
      ipureintro
      rfl
    · iexists _, _; isplitr; swap; · iexact H10
      ipureintro
      rfl
  · have hc0 : k0_cond1 i = 1#1 := hc.mpr hc1
    iapply (wp_wand_r Idealize.ShloMosaic.frame (wpE (defs₀ (F := F)) 𝒱 (c : Thread nD τ) bd) E)
    isplitl [HH]
    · iapply (loops_odd 𝒱 c bd i arg3 harg3 arg4 harg4 arg5 harg5 arg6 harg6 arg7 harg7 arg8 harg8 arg9 harg9 arg10 harg10 x4 x5 E hc0)
      iexact HH
    iintro %_ ⟨H4, H5, H7, H8, H9, H10⟩
    icases H6 with ⟨%d6, H6⟩
    unfold owns
    icases H6 with ⟨%f6, -, H6⟩
    icases H8 with ⟨%f8, %hf8, H8⟩
    obtain rfl := harg8.eq_unread hf8
    sl_exec (disch := sl_exact hc1)
    sl_step
    isplitl [H3]; · iexact H3
    isplitl [H4]; · iexact H4
    isplitl [H5]; · iexact H5
    isplitl [H6]
    · iexists _; isplitr; swap; · iexact H6
      ipureintro
      refine (View.read_writes_full _ _ _ _ _).trans ?_
      sl_unfold_run_names
      rw [load_val_zero _ _ _ _ hf8, load_val_one _ _ _ _ hf8, load_one_zero _ _ _ _ hf8, load_one_one _ _ _ _ hf8]
      rfl
    isplitl [H7]; · iexact H7
    isplitl [H8]
    · iexists _, _; isplitr; swap; · iexact H8
      ipureintro
      rfl
    isplitl [H9]; · iexact H9
    iexact H10

end

end Cert.MlaIdeal.Gen

end
-- ==== Proof.Mla.Launch.lean ====
module

public import proofs.«01_k».proof.Proof.Mla.Body
public import Idealize.ShloMosaic.Lib.Claim
public import Idealize.ShloMosaic.Lib.Pipeline.Value

@[expose] public section

set_option maxRecDepth 16384

noncomputable section

/-! # The kernel's run: every point leaves `outBlock` of its blocks in its block of the result -/

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of queries, of keys, of values at a point, in the pipeline's own order. -/
abbrev outAt (c : Dev nD) (t : Fin cfg0.N) : Vec F S512x128 .f32 :=
  outBlock ((grid0.coords t) 2).val (iblk m c 0 t) (iblk m c 1 t) (iblk m c 2 t)

/-- What the pipeline needs to know of the one kernel: its arrays as found; each input's buffer unchanged by the body
and the result's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- What the body leaves in each window's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at a point: from the inputs' blocks and the scratch buffers at anything, it leaves the result's block at
`outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hc : k0_cond1 (grid0.coords t) = 1#1 ↔ ¬ k0_cond2 (grid0.coords t) = 1#1 := by
    rw [cond1_iff, cond2_iff]; omega
  iintro ⟨⟨⟨HS0, HS1, HS2, HS3⟩, Hg⟩, Ho, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [H0 H1 H2 H3 HS0 HS1 HS2 HS3]
  · iapply (body Variants.none c none (grid0.coords t) _ _ _ _ _ _ _ _ _ _ _ _ _ _ _ _ (iblk m c 0 t) (iblk m c 1 t) (iblk m c 2 t) Set.univ hc)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iexact HS3
  iintro %_ ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body the call names, at point `t`. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: the result array block by block, the arguments unchanged, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without its counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The kernel terminates, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.MlaIdeal.Gen

end
-- ==== Proof.Mla.Words.lean ====
module

public import proofs.«01_k».proof.Defs
public import proofs.«01_k».proof.Proof.Gen.Mla
public import proofs.«01_k».proof.Proof.Mla.Launch

@[expose] public section

set_option maxRecDepth 16384

noncomputable section

/-! # The kernel over words

`Launch` runs the kernel for any float values and any reading of its named constant. Over words, with the constant
read as its own word, that is the kernel itself. -/

namespace Cert.Proof.MlaClaims

open Idealize.ShloMosaic Idealize.SL.Sem

/-- A named constant read as its word. -/
abbrev wordsNamed : Named Bits := ⟨fun _ _ _ bits => Scalar.ofBits _ bits⟩

attribute [local instance] wordsNamed

/-- Read so, the two kernels have the same body, -/
theorem words_defs₀ : Cert.MlaIdeal.defs₀ (F := Bits) = Cert.Mla.defs₀ (F := Bits) := by
  unfold Cert.MlaIdeal.defs₀ Cert.Mla.defs₀
  refine congrArg Defs.onTc ?_
  funext l x
  match l, x with
  | 0, (t, s) => rfl
  | ⟨_ + 1, h⟩, _ => exact absurd h (Nat.not_lt.2 (Nat.le_add_left _ _))

/-- and the same pipeline. -/
theorem words_defs : Cert.MlaIdeal.defs (F := Bits) = Cert.Mla.defs (F := Bits) :=
  congrArg (Pipeline.defs _) words_defs₀

/-- The kernel terminates, leaves its arguments and its counters. -/
theorem frame_p : Cert.quiescent_Mla (hMla := Cert.Mla.Gen.facts) := fun m ρ _ => by
  have h := @Cert.MlaIdeal.Gen.frame Bits _ wordsNamed m ρ
  rw [words_defs] at h
  exact h

end Cert.Proof.MlaClaims

end
-- ==== Proof.Mla.Array.lean ====
module

public import proofs.«01_k».proof.Proof.Mla.Launch

@[expose] public section

set_option maxRecDepth 16384

noncomputable section

/-! # The kernel's result array as one function of the argument arrays -/

namespace Cert.MlaIdeal.Gen

open Idealize.ShloMosaic Idealize.ShloMosaic.TcCoe
open Idealize.SL.Sem
open Idealize.ShloMosaic.Pipeline (Dat)

variable {F : FTy → Type} [FloatOps F] [Named F]

/-- The block of queries of batch row block `p` and head pair `h`. -/
def qBlock (q : Vec F S16384x1024 .bf16) (p : Fin 32) (h : Fin 4) : Vec F S512x256 .bf16 :=
  fun i => q (ix2 (n0 := 16384) (n1 := 1024) ⟨512 * p.val + (i 0).val, by
    have h0 : (i 0).val < 512 := (i 0).isLt
    have := p.isLt
    omega⟩ ⟨256 * h.val + (i 1).val, by
    have h1 : (i 1).val < 256 := (i 1).isLt
    have := h.isLt
    omega⟩)

/-- The keys of batch `b` and head pair `h`. -/
def kBlock (k : Vec F S16384x1024 .bf16) (b : Fin 8) (h : Fin 4) : Vec F S2048x256 .bf16 :=
  fun i => k (ix2 (n0 := 16384) (n1 := 1024) ⟨2048 * b.val + (i 0).val, by
    have h0 : (i 0).val < 2048 := (i 0).isLt
    have := b.isLt
    omega⟩ ⟨256 * h.val + (i 1).val, by
    have h1 : (i 1).val < 256 := (i 1).isLt
    have := h.isLt
    omega⟩)

/-- The values of batch `b` and head pair `h`, transposed. -/
def vBlock (v : Vec F S8x512x2048 .bf16) (b : Fin 8) (h : Fin 4) : Vec F S1x128x2048 .bf16 :=
  fun i => v (ix3 (n0 := 8) (n1 := 512) (n2 := 2048) b ⟨128 * h.val + (i 1).val, by
    have h1 : (i 1).val < 128 := (i 1).isLt
    have := h.isLt
    omega⟩ (i 2))

/-- The result array at row `r` and column `d`: the entry of the block of its 512 rows and 128 columns. -/
def resAt (q k : Vec F S16384x1024 .bf16) (v : Vec F S8x512x2048 .bf16) : Vec F S16384x512 .f32 := fun i =>
  have h0 : (i 0).val < 16384 := (i 0).isLt
  have h1 : (i 1).val < 512 := (i 1).isLt
  outBlock ((i 0).val / 512 % 4) (qBlock q ⟨(i 0).val / 512, by omega⟩ ⟨(i 1).val / 128, by omega⟩)
    (kBlock k ⟨(i 0).val / 2048, by omega⟩ ⟨(i 1).val / 128, by omega⟩)
    (vBlock v ⟨(i 0).val / 2048, by omega⟩ ⟨(i 1).val / 128, by omega⟩)
    (ix2 (n0 := 512) (n1 := 128) ⟨(i 0).val % 512, by omega⟩ ⟨(i 1).val % 128, by omega⟩)

theorem coord2 : ∀ t : Fin grid0.N, ((grid0.coords t) 2).val = t.val % 4 := by decide +kernel
theorem index0 : ∀ t : Fin grid0.N, win0_0.index t 0 = t.val / 16 * 4 + t.val % 4 ∧ win0_0.index t 1 = t.val / 4 % 4 := by decide +kernel
theorem index1 : ∀ t : Fin grid0.N, win0_1.index t 0 = t.val / 16 ∧ win0_1.index t 1 = t.val / 4 % 4 := by decide +kernel
theorem index2 : ∀ t : Fin grid0.N, win0_2.index t 0 = t.val / 16 ∧ win0_2.index t 1 = t.val / 4 % 4 ∧ win0_2.index t 2 = 0 := by decide +kernel
theorem index3 : ∀ t : Fin grid0.N, win0_3.index t 0 = t.val / 16 * 4 + t.val % 4 ∧ win0_3.index t 1 = t.val / 4 % 4 := by decide +kernel

theorem ix2_ext {n0 n1 : ℕ} {a a' : Fin n0} {b b' : Fin n1} (ha : a.val = a'.val) (hb : b.val = b'.val) :
    ix2 (n0 := n0) (n1 := n1) a b = ix2 (n0 := n0) (n1 := n1) a' b' := by rw [Fin.ext ha, Fin.ext hb]

theorem ix3_ext {n0 n1 n2 : ℕ} {a a' : Fin n0} {b b' : Fin n1} {c c' : Fin n2} (ha : a.val = a'.val) (hb : b.val = b'.val)
    (hc : c.val = c'.val) : ix3 (n0 := n0) (n1 := n1) (n2 := n2) a b c = ix3 (n0 := n0) (n1 := n1) (n2 := n2) a' b' c' := by
  rw [Fin.ext ha, Fin.ext hb, Fin.ext hc]

/-- Blocks at equal positions are equal. -/
theorem outBlock_congr (q k : Vec F S16384x1024 .bf16) (v : Vec F S8x512x2048 .bf16) {n n' : ℕ} {p p' : Fin 32} {h h' : Fin 4}
    {b b' : Fin 8} {j j' : S512x128.Idx} (hn : n = n') (hp : p.val = p'.val) (hh : h.val = h'.val) (hb : b.val = b'.val) (hj : j = j') :
    outBlock n (qBlock q p h) (kBlock k b h) (vBlock v b h) j = outBlock n' (qBlock q p' h') (kBlock k b' h') (vBlock v b' h') j' := by
  rw [hn, Fin.ext hp, Fin.ext hh, Fin.ext hb, hj]

variable (m : (ℓ : Loc nD τ sig) → Buf (Elt F) ℓ) (ρ : Dev nD → PrngReg)

/-- The whole result of device `c`. -/
abbrev result (c : Dev nD) : Buf (Elt F) ((c : Thread nD τ).loc main_v0) :=
  resAt (m ((c : Thread nD τ).loc main_arg0)) (m ((c : Thread nD τ).loc main_arg1)) (m ((c : Thread nD τ).loc main_arg2))

theorem iblk0 (c : Dev nD) (t : Fin cfg0.N) (ht : t.val < 128) :
    iblk m c 0 t = qBlock (m ((c : Thread nD τ).loc main_arg0)) ⟨t.val / 16 * 4 + t.val % 4, by omega⟩ ⟨t.val / 4 % 4, by omega⟩ := by
  funext j
  show m ((c : Thread nD τ).loc main_arg0) _ = m ((c : Thread nD τ).loc main_arg0) _
  refine congrArg _ ((eq_ix2 _).trans (ix2_ext ?_ ?_))
  · show win0_0.index t 0 * 512 + 1 * (j 0).val = 512 * (t.val / 16 * 4 + t.val % 4) + (j 0).val
    rw [(index0 t).1]; omega
  · show win0_0.index t 1 * 256 + 1 * (j 1).val = 256 * (t.val / 4 % 4) + (j 1).val
    rw [(index0 t).2]; omega

theorem iblk1 (c : Dev nD) (t : Fin cfg0.N) (ht : t.val < 128) :
    iblk m c 1 t = kBlock (m ((c : Thread nD τ).loc main_arg1)) ⟨t.val / 16, by omega⟩ ⟨t.val / 4 % 4, by omega⟩ := by
  funext j
  show m ((c : Thread nD τ).loc main_arg1) _ = m ((c : Thread nD τ).loc main_arg1) _
  refine congrArg _ ((eq_ix2 _).trans (ix2_ext ?_ ?_))
  · show win0_1.index t 0 * 2048 + 1 * (j 0).val = 2048 * (t.val / 16) + (j 0).val
    rw [(index1 t).1]; omega
  · show win0_1.index t 1 * 256 + 1 * (j 1).val = 256 * (t.val / 4 % 4) + (j 1).val
    rw [(index1 t).2]; omega

theorem iblk2 (c : Dev nD) (t : Fin cfg0.N) (ht : t.val < 128) :
    iblk m c 2 t = vBlock (m ((c : Thread nD τ).loc main_arg2)) ⟨t.val / 16, by omega⟩ ⟨t.val / 4 % 4, by omega⟩ := by
  funext j
  show m ((c : Thread nD τ).loc main_arg2) _ = m ((c : Thread nD τ).loc main_arg2) _
  refine congrArg _ ((eq_ix3 _).trans (ix3_ext ?_ ?_ ?_))
  · have h0 : (j 0).val < 1 := (j 0).isLt
    show win0_2.index t 0 * 1 + 1 * (j 0).val = t.val / 16
    rw [(index2 t).1]; omega
  · show win0_2.index t 1 * 128 + 1 * (j 1).val = 128 * (t.val / 4 % 4) + (j 1).val
    rw [(index2 t).2.1]; omega
  · show win0_2.index t 2 * 2048 + 1 * (j 2).val = (j 2).val
    rw [(index2 t).2.2]; omega

/-- What a point writes back is its block of `result`. -/
theorem flushed_eq (c : Dev nD) (t : Fin cfg0.N) :
    (dats m 0 c).flushed 3 t = (win0_3.blk t).view.read (Elt F) (result m c) := by
  show (cfg0.win 3).cut (grid0.coords t) ((dats m 0 c).after 3 t) = _
  have ht : t.val < 128 := lt_of_lt_of_eq t.isLt N_0
  rw [after0_3, outAt, iblk0 m c t ht, iblk1 m c t ht, iblk2 m c t ht, coord2 t]
  funext j
  have h0 : (j 0).val < 512 := (j 0).isLt
  have h1 : (j 1).val < 128 := (j 1).isLt
  have e0 : ((((win0_3.blk t).view.emb j) 0 : Fin _) : ℕ) = 512 * (t.val / 16 * 4 + t.val % 4) + (j 0).val := by
    show win0_3.index t 0 * 512 + 1 * (j 0).val = _
    rw [(index3 t).1]; omega
  have e1 : ((((win0_3.blk t).view.emb j) 1 : Fin _) : ℕ) = 128 * (t.val / 4 % 4) + (j 1).val := by
    show win0_3.index t 1 * 128 + 1 * (j 1).val = _
    rw [(index3 t).2]; omega
  show _ = result m c ((win0_3.blk t).view.emb j)
  unfold result resAt
  simp only [e0, e1]
  refine outBlock_congr _ _ _ ?_ ?_ ?_ ?_ ((eq_ix2 j).trans (ix2_ext ?_ ?_))
  · omega
  · dsimp only; omega
  · dsimp only; omega
  · dsimp only; omega
  · dsimp only; omega
  · dsimp only; omega

/-- An index of the result array is in point `t`'s block. -/
theorem mem_blk (t : Fin cfg0.N) (i : S16384x512.Idx) :
    i ∈ ((cfg0.win 3).blk t).view.set ↔
      (512 * (t.val / 16 * 4 + t.val % 4) ≤ (i 0 : ℕ) ∧ (i 0 : ℕ) < 512 * (t.val / 16 * 4 + t.val % 4) + 512)
      ∧ 128 * (t.val / 4 % 4) ≤ (i 1 : ℕ) ∧ (i 1 : ℕ) < 128 * (t.val / 4 % 4) + 128 := by
  show i ∈ ((View.whole main_v0).slice (win0_3.rect t)).set ↔ _
  rw [View.set_slice_whole, Rect.mem_set_unit]
  have e0 := (index3 t).1
  have e1 := (index3 t).2
  refine ⟨fun h => ⟨?_, ?_⟩, fun h a => ?_⟩
  · have := h 0
    change win0_3.index t 0 * 512 ≤ (i 0 : ℕ) ∧ (i 0 : ℕ) < win0_3.index t 0 * 512 + 512 at this
    rw [e0] at this; omega
  · have := h 1
    change win0_3.index t 1 * 128 ≤ (i 1 : ℕ) ∧ (i 1 : ℕ) < win0_3.index t 1 * 128 + 128 at this
    rw [e1] at this; omega
  · match a with
    | ⟨0, _⟩ =>
      show win0_3.index t 0 * 512 ≤ (i 0 : ℕ) ∧ (i 0 : ℕ) < win0_3.index t 0 * 512 + 512
      rw [e0]; omega
    | ⟨1, _⟩ =>
      show win0_3.index t 1 * 128 ≤ (i 1 : ℕ) ∧ (i 1 : ℕ) < win0_3.index t 1 * 128 + 128
      rw [e1]; omega

/-- The blocks cover the result. -/
theorem cover (i : S16384x512.Idx) :
    ∃ t : Fin cfg0.N, (cfg0.win 3).flush t = true ∧ i ∈ ((cfg0.win 3).blk t).view.set := by
  have h0 : (i 0 : ℕ) < 16384 := (i 0).isLt
  have h1 : (i 1 : ℕ) < 512 := (i 1).isLt
  have hN : cfg0.N = 128 := N_0
  refine ⟨⟨(i 0 : ℕ) / 2048 * 16 + (i 1 : ℕ) / 128 * 4 + (i 0 : ℕ) / 512 % 4, by omega⟩, flush0_3 _, ?_⟩
  rw [mem_blk]
  dsimp only
  omega

/-- So the result array ends holding `result`, -/
theorem final_o (c : Dev nD) : (dats m 0 c).arrAt 3 cfg0.N = result m c :=
  (dats m 0 c).arrAt_eq_of_cover 3 (result m c) (fun t _ => flushed_eq m c t) cover

/-- and the run, read: the result array at `result`, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_o m c),
      ((h c).1 0).trans ((dats m 0 c).arrAt_in 0 rfl _), ((h c).1 1).trans ((dats m 0 c).arrAt_in 1 rfl _),
      ((h c).1 2).trans ((dats m 0 c).arrAt_in 2 rfl _)⟩)
    (run_main m ρ)

end Cert.MlaIdeal.Gen

end
-- ==== Proof.Flash.Online.lean ====
module

public import Idealize.ShloMosaic.PureOps.Ideal

@[expose] public section

noncomputable section

/-! # The running softmax over the extended reals

Keys are numbered; `s p` is key `p`'s score (`⊥` for a key that is masked out) and `v p` its value. Everything holds for
all extended reals. -/

namespace Cert.Flash

open Idealize.ShloMosaic Finset

/-- The weight of a score against a maximum. -/
def wt (s m : EReal) : EReal := Ideal.exp2 (s - m)

theorem wt_bot (m : EReal) : wt ⊥ m = 0 := by
  induction m <;> simp [wt, sub_eq_add_neg]

theorem wt_top (s : EReal) : wt s ⊤ = 0 := by
  induction s <;> simp [wt, sub_eq_add_neg]

theorem wt_coe (a b : ℝ) : wt a b = ((2 : ℝ) ^ (a - b) : ℝ) := by
  rw [wt, ← EReal.coe_sub, Ideal.exp2_coe]; rfl

theorem wt_nonneg (s m : EReal) : 0 ≤ wt s m := by
  unfold wt
  generalize s - m = d
  induction d with
  | bot => simp
  | top => simp
  | coe r =>
    rw [Ideal.exp2_coe]
    exact EReal.coe_nonneg.2 (Real.rpow_nonneg (by norm_num) r)

theorem wt_ne_top {s m : EReal} (h : s ≤ m) : wt s m ≠ ⊤ := by
  induction m with
  | bot => rw [le_bot_iff.1 h, wt_bot]; exact EReal.zero_ne_top
  | top => rw [wt_top]; exact EReal.zero_ne_top
  | coe b =>
    induction s with
    | bot => rw [wt_bot]; exact EReal.zero_ne_top
    | top => exact absurd (top_le_iff.1 h) (EReal.coe_ne_top b)
    | coe a => rw [wt_coe]; exact EReal.coe_ne_top _

/-- A weight against one maximum, moved to a larger one. -/
theorem wt_mul {s m m' : EReal} (h : s ≤ m) (h' : m ≤ m') : wt s m * wt m m' = wt s m' := by
  induction m' with
  | top => rw [wt_top, wt_top, mul_zero]
  | bot => rw [le_bot_iff.1 h'] at h ⊢; rw [le_bot_iff.1 h, wt_bot, mul_zero]
  | coe c =>
    induction m with
    | top => exact absurd (top_le_iff.1 h') (EReal.coe_ne_top c)
    | bot => rw [le_bot_iff.1 h, wt_bot, wt_bot, mul_zero]
    | coe b =>
      induction s with
      | bot => rw [wt_bot, wt_bot, zero_mul]
      | top => exact absurd (top_le_iff.1 h) (EReal.coe_ne_top b)
      | coe a =>
        rw [wt_coe, wt_coe, wt_coe, ← EReal.coe_mul, ← Real.rpow_add (by norm_num)]
        congr 2
        ring

/-- A nonnegative real factor goes into a sum. -/
theorem sum_mul_of_nonneg {ι : Type} (S : Finset ι) (f : ι → EReal) {c : EReal} (h : 0 ≤ c) (h' : c ≠ ⊤) :
    (∑ i ∈ S, f i) * c = ∑ i ∈ S, f i * c := by
  classical
  induction S using Finset.induction_on with
  | empty => simp
  | insert a S ha ih => rw [sum_insert ha, sum_insert ha, EReal.right_distrib_of_nonneg_of_ne_top h h', ih]

/-- The largest of the first `n` scores. -/
def top (s : ℕ → EReal) (n : ℕ) : EReal := (range n).sup s

/-- The values of the first `n` keys, each times its weight. -/
def acc (s v : ℕ → EReal) (n : ℕ) : EReal := ∑ p ∈ range n, v p * wt (s p) (top s n)

theorem le_top (s : ℕ → EReal) {n p : ℕ} (h : p < n) : s p ≤ top s n := Finset.le_sup (f := s) (mem_range.2 h)

theorem top_mono (s : ℕ → EReal) {n k : ℕ} (h : n ≤ k) : top s n ≤ top s k :=
  Finset.sup_mono (range_subset_range.2 h)

/-- The maximum after a further tile of `k` keys. -/
theorem top_add (s : ℕ → EReal) (n k : ℕ) :
    top s (n + k) = max (top s n) ((univ : Finset (Fin k)).sup fun r => s (n + r.val)) := by
  refine le_antisymm (Finset.sup_le fun p hp => ?_) (max_le (top_mono s (by omega)) (Finset.sup_le fun r _ => ?_))
  · by_cases h : p < n
    · exact (le_top s h).trans (le_max_left ..)
    · have hp' := mem_range.1 hp
      refine le_trans ?_ (le_max_right ..)
      have := Finset.le_sup (f := fun r : Fin k => s (n + r.val)) (mem_univ ⟨p - n, by omega⟩)
      simpa only [Nat.add_sub_cancel' (not_lt.1 h)] using this
  · exact le_top s (by have := r.isLt; omega)

/-- The sums after a further tile of `k` keys: the old ones moved to the new maximum, and the tile's. -/
theorem acc_add (s v : ℕ → EReal) (n k : ℕ) :
    acc s v (n + k) = acc s v n * wt (top s n) (top s (n + k))
      + ∑ r : Fin k, v (n + r.val) * wt (s (n + r.val)) (top s (n + k)) := by
  have h := top_mono s (Nat.le_add_right n k)
  unfold acc
  rw [sum_mul_of_nonneg _ _ (wt_nonneg _ _) (wt_ne_top h), sum_range_add, Fin.sum_univ_eq_sum_range
    (fun r => v (n + r) * wt (s (n + r)) (top s (n + k))) k]
  congr 1
  refine sum_congr rfl fun p hp => ?_
  rw [mul_assoc, wt_mul (le_top s (mem_range.1 hp)) h]

/-- Keys that are masked out do not count. -/
theorem top_tail (s : ℕ → EReal) {n k : ℕ} (h : n ≤ k) (hs : ∀ p, n ≤ p → s p = ⊥) : top s k = top s n := by
  refine le_antisymm (Finset.sup_le fun p _ => ?_) (top_mono s h)
  by_cases hp : p < n
  · exact le_top s hp
  · rw [hs p (not_lt.1 hp)]; exact bot_le

theorem acc_tail (s v : ℕ → EReal) {n k : ℕ} (h : n ≤ k) (hs : ∀ p, n ≤ p → s p = ⊥) : acc s v k = acc s v n := by
  unfold acc
  rw [top_tail s h hs]
  refine (sum_subset (range_subset_range.2 h) fun p _ hp => ?_).symm
  rw [hs p (not_lt.1 fun hh => hp (mem_range.2 hh)), wt_bot, mul_zero]

theorem acc_congr {s s' v v' : ℕ → EReal} (n : ℕ) (h : ∀ p, p < n → s p = s' p) (hv : ∀ p, p < n → v p = v' p) :
    acc s v n = acc s' v' n := by
  have ht : top s n = top s' n := Finset.sup_congr rfl fun p hp => h p (mem_range.1 hp)
  unfold acc
  rw [ht]
  exact sum_congr rfl fun p hp => by rw [h p (mem_range.1 hp), hv p (mem_range.1 hp)]

/-! ## Base two and base e -/

/-- The natural logarithm of two. -/
abbrev ln2 : EReal := ((Real.log 2 : ℝ) : EReal)

theorem ln2_pos : (0 : EReal) < ln2 := EReal.coe_pos.2 (Real.log_pos (by norm_num))

theorem bot_mul_ln2 : (⊥ : EReal) * ln2 = ⊥ := EReal.bot_mul_of_pos ln2_pos

theorem top_mul_ln2 : (⊤ : EReal) * ln2 = ⊤ := EReal.top_mul_of_pos ln2_pos

/-- The exponential of a score and a maximum times `ln 2` is the power of two. -/
theorem exp_ln2 (s m : EReal) : Ideal.exp (s * ln2 - m * ln2) = wt s m := by
  induction m with
  | top => rw [top_mul_ln2, wt_top]; induction s <;> simp [sub_eq_add_neg, EReal.add_bot]
  | bot =>
    rw [bot_mul_ln2]
    induction s with
    | bot => rw [bot_mul_ln2, wt_bot]; simp [sub_eq_add_neg]
    | top => rw [top_mul_ln2]; simp [wt, sub_eq_add_neg]
    | coe a => rw [← EReal.coe_mul]; simp only [wt, sub_eq_add_neg, EReal.neg_bot, EReal.coe_add_top, Ideal.exp_top, Ideal.exp2_top]
  | coe b =>
    induction s with
    | bot => rw [bot_mul_ln2, wt_bot]; simp [sub_eq_add_neg]
    | top => rw [top_mul_ln2, ← EReal.coe_mul]; simp [wt, sub_eq_add_neg]; rfl
    | coe a =>
      rw [wt_coe, ← EReal.coe_mul, ← EReal.coe_mul, ← EReal.coe_sub, Ideal.exp_coe, Real.rpow_def_of_pos (by norm_num)]
      congr 2
      ring

/-- Scaling by `ln 2` goes through a maximum. -/
theorem sup_mul_ln2 {ι : Type} (S : Finset ι) (f : ι → EReal) : (S.sup fun i => f i * ln2) = S.sup f * ln2 := by
  have hm : Monotone fun x : EReal => x * ln2 := fun a b h => mul_le_mul_of_nonneg_right h ln2_pos.le
  exact (Finset.comp_sup_eq_sup_comp (fun x : EReal => x * ln2) (fun a b => hm.map_sup a b) bot_mul_ln2).symm

end Cert.Flash

end
-- ==== Proof.Mla.Read.lean ====
module

public import proofs.«01_k».proof.Proof.Mla.Steps
public import proofs.«01_k».proof.Proof.Flash.Online
public import Idealize.ShloMosaic.Lib.Pointwise
public import Idealize.ShloMosaic.Lib.WordCmp

@[expose] public section

set_option maxRecDepth 16384

noncomputable section

/-! # A block of the result over the extended reals

The steps read at an index, and the state before each tile as the running softmax of `Flash/Online`. -/

namespace Cert.MlaIdeal.Gen

open Idealize.ShloMosaic Idealize.ShloMosaic.TcCoe Cert.Flash

theorem negInf : Ideal.ofBits .f32 4286578688#32 = ⊥ := by simp [Ideal.ofBits, Ideal.ieee]

theorem fold_max {ι : Type} (S : Finset ι) (f : ι → EReal) : Finset.fold max ⊥ f S = S.sup f := rfl

/-- The scores of a tile. -/
theorem score_read (q k : Vec Ideal S512x128 .bf16) (c r : Fin 512) :
    flat (score q k) (ix2 c r) = ∑ d : Fin 128, k (ix2 c d) * q (ix2 r d) := by
  unfold flat score
  pointwise [k0_pay26, k0_pay7]

/-- The maximum after a tile. -/
theorem mStep_read (w : FVec Ideal S512x512 .f32) (m : Vec Ideal S1x1x512 .f32) (a b : Fin 1) (r : Fin 512) :
    mStep w m (ix3 a b r) = max (m (ix3 0 0 r)) (Finset.univ.sup fun c : Fin 512 => w (ix2 c r)) := by
  unfold mStep
  pointwise [k0_pay30, k0_pay28, k0_pay27]
  rw [negInf, fold_max]

/-- The tile on the diagonal: only keys up to the query. -/
theorem masked_read (w : Vec Ideal S1x512x512 .f32) (c r : Fin 512) :
    masked w (ix2 c r) = if c.val ≤ r.val then flat w (ix2 c r) else ⊥ := by
  unfold masked flat
  pointwise [k0_pay1, k0_pay26]
  rw [Idealize.ShloMosaic.WordCmp.cmpi_sle_ofNat (by have := c.isLt; omega) (by have := r.isLt; omega), Idealize.ShloMosaic.WordCmp.select_ofBool]
  simp only [decide_eq_true_eq]
  rfl

/-- The sums after a tile: 64 rows of values, 16 rows of ones. -/
theorem aStep_read (w : FVec Ideal S512x512 .f32) (m : Vec Ideal S1x1x512 .f32) (v : Vec Ideal S1x64x512 .bf16)
    (s : Vec Ideal S1x80x512 .f32) (a : Fin 1) (i : Fin 80) (r : Fin 512) :
    aStep k0_pay96 w m v s (ix3 a i r) = s (ix3 0 i r) * wt (m (ix3 0 0 r)) (mStep w m (ix3 0 0 r))
      + ∑ c : Fin 512, (if h : i.val < 64 then v (ix3 0 ⟨i.val, h⟩ c) else 1) * wt (w (ix2 c r)) (mStep w m (ix3 0 0 r)) := by
  rw [mStep_read]
  unfold aStep
  pointwise [k0_pay96, k0_pay29, k0_pay28, k0_pay27]
  rw [negInf, fold_max]
  rfl

/-- The quotients at the end: the first head in the first 64 columns, the second in the others. -/
theorem out_read (v0 v1 : Vec Ideal S1x64x512 .f32) (l0 l1 : Vec Ideal S1x1x512 .f32) (r : Fin 512) (d : Fin 128) :
    k0_pay6 v0 l0 v1 l1 (ix2 r d) = if h : d.val < 64 then Ideal.div (v0 (ix3 0 ⟨d.val, h⟩ r)) (l0 (ix3 0 0 r))
      else Ideal.div (v1 (ix3 0 ⟨d.val - 64, by omega⟩ r)) (l1 (ix3 0 0 r)) := by
  pointwise [k0_pay6]

/-! ## The state before each tile -/

/-- Key `p`. -/
def key (p : ℕ) : Fin 2048 := ⟨p % 2048, Nat.mod_lt _ (by decide)⟩

/-- Head `j`'s lane `d` of the block of queries and of the keys. -/
def lane (j : Fin 2) (d : Fin 128) : Fin 256 := ⟨128 * j.val + d.val, by omega⟩

/-- Head `j`'s row `d` of the block of values. -/
def row (j : Fin 2) (d : Fin 64) : Fin 128 := ⟨64 * j.val + d.val, by omega⟩

/-- The score of key `p` against query `r` of the block, for head `j`. -/
def sc (x : Vec Ideal S512x256 .bf16) (k : Vec Ideal S2048x256 .bf16) (j : Fin 2) (r : Fin 512) (p : ℕ) : EReal :=
  ∑ d : Fin 128, k (ix2 (key p) (lane j d)) * x (ix2 r (lane j d))

/-- The same, masked: the block's queries begin at position `512 * n`. -/
def sm (n : ℕ) (x : Vec Ideal S512x256 .bf16) (k : Vec Ideal S2048x256 .bf16) (j : Fin 2) (r : Fin 512) (p : ℕ) : EReal :=
  if p ≤ 512 * n + r.val then sc x k j r p else ⊥

/-- Row `i` of what the sums weigh: a value of key `p`, or one. -/
def vl (y : Vec Ideal S1x128x2048 .bf16) (j : Fin 2) (i : Fin 80) (p : ℕ) : EReal :=
  if h : i.val < 64 then y (ix3 0 (row j ⟨i.val, h⟩) (key p)) else 1

theorem tile_score (x : Vec Ideal S512x256 .bf16) (k : Vec Ideal S2048x256 .bf16) (j : Fin 2) (n : ℕ) (c r : Fin 512) :
    flat (score (qHalf x j) (kTile k n j)) (ix2 c r) = sc x k j r (512 * n + c.val) := by
  rw [score_read]
  rfl

theorem tile_before (x : Vec Ideal S512x256 .bf16) (k : Vec Ideal S2048x256 .bf16) (j : Fin 2) {n m : ℕ} (h : m < n) (c r : Fin 512) :
    flat (score (qHalf x j) (kTile k m j)) (ix2 c r) = sm n x k j r (512 * m + c.val) := by
  rw [tile_score, sm, if_pos (by have := c.isLt; omega)]

theorem tile_diag (x : Vec Ideal S512x256 .bf16) (k : Vec Ideal S2048x256 .bf16) (j : Fin 2) (n : ℕ) (c r : Fin 512) :
    masked (score (qHalf x j) (kTile k n j)) (ix2 c r) = sm n x k j r (512 * n + c.val) := by
  rw [masked_read, tile_score, sm]
  exact if_congr (by omega) rfl rfl

theorem tile_val (y : Vec Ideal S1x128x2048 .bf16) (j : Fin 2) (i : Fin 80) (n : ℕ) (c : Fin 512) :
    (if h : i.val < 64 then vTile y n j (ix3 0 ⟨i.val, h⟩ c) else 1) = vl y j i (512 * n + c.val) := rfl

/-- One tile of `w` carries the running maximum and sums of scores `s` and values `v` on. -/
theorem step (s v : ℕ → EReal) (w : FVec Ideal S512x512 .f32) (m : Vec Ideal S1x1x512 .f32) (y : Vec Ideal S1x64x512 .bf16)
    (a : Vec Ideal S1x80x512 .f32) (i : Fin 80) (r : Fin 512) (n : ℕ)
    (hw : ∀ c : Fin 512, w (ix2 c r) = s (512 * n + c.val))
    (hv : ∀ c : Fin 512, (if h : i.val < 64 then y (ix3 0 ⟨i.val, h⟩ c) else 1) = v (512 * n + c.val))
    (hm : m (ix3 0 0 r) = top s (512 * n)) (ha : a (ix3 0 i r) = acc s v (512 * n)) :
    mStep w m (ix3 0 0 r) = top s (512 * (n + 1)) ∧ aStep k0_pay96 w m y a (ix3 0 i r) = acc s v (512 * (n + 1)) := by
  have e : mStep w m (ix3 0 0 r) = top s (512 * (n + 1)) := by
    rw [mStep_read, hm, Nat.mul_succ, top_add]
    simp only [hw]
  refine ⟨e, ?_⟩
  rw [aStep_read, e, hm, ha]
  simp only [hw, hv]
  rw [Nat.mul_succ, acc_add]

/-- Before tile `m` the state is the running softmax of the first `512 * m` keys. -/
theorem state (n : ℕ) (x : Vec Ideal S512x256 .bf16) (k : Vec Ideal S2048x256 .bf16) (y : Vec Ideal S1x128x2048 .bf16)
    (j : Fin 2) (i : Fin 80) (r : Fin 512) : ∀ m : ℕ, m ≤ n →
    mAt (qHalf x j) k j m (ix3 0 0 r) = top (sm n x k j r) (512 * m) ∧
      aAt k0_pay96 (qHalf x j) k y j m (ix3 0 i r) = acc (sm n x k j r) (vl y j i) (512 * m)
  | 0, _ => ⟨rfl, by
      show Ideal.ofBits .f32 0x00000000#32 = _
      rw [Ideal.ofBits_zero]; rfl⟩
  | m + 1, h => by
    obtain ⟨hm, ha⟩ := state n x k y j i r m (by omega)
    exact step _ _ _ _ _ _ i r m (fun c => tile_before x k j (by omega) c r) (fun c => tile_val y j i m c) hm ha

/-- After the diagonal tile the sums are those of all the keys. -/
theorem sums (n : ℕ) (hn : n < 4) (x : Vec Ideal S512x256 .bf16) (k : Vec Ideal S2048x256 .bf16) (y : Vec Ideal S1x128x2048 .bf16)
    (j : Fin 2) (i : Fin 80) (r : Fin 512) :
    aEnd k0_pay96 (qHalf x j) k y j n (ix3 0 i r) = acc (sm n x k j r) (vl y j i) 2048 := by
  obtain ⟨hm, ha⟩ := state n x k y j i r n le_rfl
  have e := (step (sm n x k j r) (vl y j i) _ _ (vTile y n j) _ i r n (fun c => tile_diag x k j n c r) (fun c => tile_val y j i n c) hm ha).2
  rw [aEnd, e]
  refine (acc_tail _ _ (by omega) fun p hp => ?_).symm
  rw [sm, if_neg (by have := r.isLt; omega)]

/-- A block of the result: head `j`'s values averaged with the weights of the softmax. -/
theorem outBlock_read (n : ℕ) (hn : n < 4) (x : Vec Ideal S512x256 .bf16) (k : Vec Ideal S2048x256 .bf16)
    (y : Vec Ideal S1x128x2048 .bf16) (r : Fin 512) (j : Fin 2) (d : Fin 64) :
    outBlock n x k y (ix2 r (row j d)) = Ideal.div (acc (sm n x k j r) (fun p => y (ix3 0 (row j d) (key p))) 2048)
      (acc (sm n x k j r) (fun _ => 1) 2048) := by
  have hd := d.isLt
  have num : ∀ j : Fin 2, aEnd k0_pay96 (qHalf x j) k y j n (ix3 0 ⟨d.val, by omega⟩ r)
      = acc (sm n x k j r) (fun p => y (ix3 0 (row j d) (key p))) 2048 := fun j => by
    rw [sums n hn]
    refine acc_congr _ (fun _ _ => rfl) fun p _ => ?_
    rw [vl, dif_pos hd]
  have den : ∀ j : Fin 2, aEnd k0_pay96 (qHalf x j) k y j n (ix3 0 ⟨64, by decide⟩ r)
      = acc (sm n x k j r) (fun _ => 1) 2048 := fun j => by
    rw [sums n hn]
    refine acc_congr _ (fun _ _ => rfl) fun p _ => ?_
    rw [vl, dif_neg (by decide)]
  rw [← num j, ← den j, outBlock, out_read]
  match j with
  | 0 => rw [dif_pos (by show 64 * 0 + d.val < 64; omega)]; unfold valRows oneRow row; simp [ix3]
  | 1 => rw [dif_neg (by show ¬ 64 * 1 + d.val < 64; omega)]; unfold valRows oneRow row; simp [ix3]

end Cert.MlaIdeal.Gen

end
-- ==== Proof.Mla.Ref.lean ====
module

public import proofs.«01_k».proof.Proof.Gen.MlaRefIdeal.Run
public import proofs.«01_k».proof.Proof.Flash.Online
public import Idealize.ShloMosaic.Lib.Pointwise
public import Idealize.ShloMosaic.Lib.WordCmp

@[expose] public section

set_option maxRecDepth 16384

noncomputable section

/-! # The reference's result at an index -/

namespace Cert.MlaRefIdeal.Value

open Cert.MlaRefIdeal Cert.MlaRefIdeal.Gen Idealize.ShloMosaic Idealize.ShloMosaic.TcCoe Cert.Flash

variable {F : FTy → Type} [FloatOps F]

/-- The masked scores, times `ln 2`. -/
def scores (q k : Vec F S16384x1024 .bf16) : FVec F S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S8x2048x8x128_S8x2048x8x128_S8x8x2048x2048_3_3_1_1_02_02 none (shapeCast _ (extf .f32 q bitsLt_bf16_f32) shapeCasts_S16384x1024_S8x2048x8x128) (shapeCast _ (extf .f32 k bitsLt_bf16_f32) shapeCasts_S16384x1024_S8x2048x8x128)) (broadcastInDim S8x8x2048x2048 ![] bcast_S_S8x8x2048x2048 (Host.log (constant S_ .f32 0x40000000#32))))
    (broadcastInDim S8x8x2048x2048 ![] bcast_S_S8x8x2048x2048 (id (constant S_ .f32 0xFF800000#32)))

/-- The weights: the exponentials of the scores less their maximum. -/
def weights (s : FVec F S8x8x2048x2048 .f32) : FVec F S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduce FloatOps.maximumf s (constant S_ .f32 0xFF800000#32) reducesTo_S8x8x2048x2048_S8x8x2048_d3 h_S_))))

/-- The weighted mean of the values. -/
def mean (e : FVec F S8x8x2048x2048 .f32) (v : Vec F S8x512x2048 .bf16) : FVec F S16384x512 .f32 :=
  shapeCast _ (Host.divf (transpose S8x2048x8x64 [0, 3, 1, 2] (Host.dotGeneral dot_S8x2048x8x64_S8x8x2048x2048_S8x8x64x2048_1_3_3_2_02_01 none (transpose S8x2048x8x64 [0, 3, 1, 2] (shapeCast _ (extf .f32 v bitsLt_bf16_f32) shapeCasts_S8x512x2048_S8x8x64x2048) transposes_S8x8x64x2048_S8x2048x8x64_0_3_1_2) (extf .f32 (truncf .bf16 e bitsLt_bf16_f32) bitsLt_bf16_f32)) transposes_S8x8x64x2048_S8x2048x8x64_0_3_1_2)
    (broadcastInDim S8x2048x8x64 ![0, 1, 2, 3] bcast_S8x2048x8x1_S8x2048x8x64_0_1_2_3 (broadcastInDim S8x2048x8x1 ![0, 1, 2] bcast_S8x2048x8_S8x2048x8x1_0_1_2 (transpose S8x2048x8 [0, 2, 1] (Host.reduceAdd e (constant S_ .f32 0x00000000#32) reducesTo_S8x8x2048x2048_S8x8x2048_d3 h_S_) transposes_S8x8x2048_S8x2048x8_0_2_1)))) shapeCasts_S8x2048x8x64_S16384x512

/-- The run's result in these terms. -/
theorem res_eq (m : (ℓ : Loc nD τ sig) → Buf (Elt F) ℓ) (c : Dev nD) : res_out0 m c
    = mean (weights (scores (m ((c.tc : Thread nD τ).loc main_arg0)) (m ((c.tc : Thread nD τ).loc main_arg1)))) (m ((c.tc : Thread nD τ).loc main_arg2)) := rfl

/-- Key `p`. -/
def key (p : ℕ) : Fin 2048 := ⟨p % 2048, Nat.mod_lt _ (by decide)⟩

/-- Row `t` of batch `b`, and head `h`'s lane `d`. -/
def at2 (x : Vec Ideal S16384x1024 .bf16) (b h : Fin 8) (t : Fin 2048) (d : Fin 128) : EReal :=
  x (ix2 (n0 := 16384) (n1 := 1024) ⟨b.val * 2048 + t.val, by omega⟩ ⟨h.val * 128 + d.val, by omega⟩)

/-- The score in base two of key `p` against query `t`, `⊥` past the query. -/
def logit (q k : Vec Ideal S16384x1024 .bf16) (b h : Fin 8) (t : Fin 2048) (p : ℕ) : EReal :=
  if p ≤ t.val then ∑ d : Fin 128, at2 k b h (key p) d * at2 q b h t d else ⊥

theorem negInf : Ideal.ofBits .f32 4286578688#32 = ⊥ := by simp [Ideal.ofBits, Ideal.ieee]

theorem log_two : Ideal.log (Ideal.ofBits .f32 1073741824#32) = ln2 := by
  have h : Ideal.ofBits .f32 1073741824#32 = ((2 : ℝ) : EReal) := by
    simp [Ideal.ofBits, Ideal.ieee]
    rw [← EReal.coe_mul]
    norm_num
  rw [h, Ideal.log_coe, if_neg (by norm_num)]

theorem key_val (p : Fin 2048) : key p.val = p := Fin.ext (Nat.mod_eq_of_lt p.isLt)

theorem scores_read (q k : Vec Ideal S16384x1024 .bf16) (b h : Fin 8) (t p : Fin 2048) :
    scores q k (ix4 b h t p) = logit q k b h t p.val * ln2 := by
  pointwise [scores]
  rw [log_two, WordCmp.cmpi_sle_ofNat (by have := p.isLt; omega) (by have := t.isLt; omega), WordCmp.select_ofBool]
  simp only [decide_eq_true_eq]
  unfold logit
  by_cases hp : p.val ≤ t.val
  · rw [if_pos hp, if_pos hp, key_val]
    exact congrArg (· * ln2) (Finset.sum_congr rfl fun d _ => mul_comm _ _)
  · rw [if_neg hp, if_neg hp, bot_mul_ln2]
    exact negInf

theorem sup_fin (f : ℕ → EReal) : (Finset.univ.sup fun p : Fin 2048 => f p.val) = top f 2048 := by
  have h := top_add f 0 2048
  simp only [Nat.zero_add] at h
  rw [h]
  exact (max_eq_right bot_le).symm

theorem acc_fin (s v : ℕ → EReal) :
    acc s v 2048 = ∑ p : Fin 2048, v p.val * wt (s p.val) (top s 2048) :=
  (Fin.sum_univ_eq_sum_range (fun p => v p * wt (s p) (top s 2048)) 2048).symm

theorem weights_read (q k : Vec Ideal S16384x1024 .bf16) (b h : Fin 8) (t p : Fin 2048) :
    weights (scores q k) (ix4 b h t p) = wt (logit q k b h t p.val) (top (logit q k b h t) 2048) := by
  pointwise [weights]
  rw [negInf, scores_read, ← exp_ln2, ← sup_fin, ← sup_mul_ln2]
  simp only [scores_read]
  rfl

/-- A quotient of sums over the keys, for any weights. -/
theorem mean_read (e : FVec Ideal S8x8x2048x2048 .f32) (v : Vec Ideal S8x512x2048 .bf16) (r : Fin 16384) (c : Fin 512) :
    mean e v (ix2 r c) = Ideal.div
      (∑ p : Fin 2048, v (ix3 (n0 := 8) (n1 := 512) (n2 := 2048) ⟨r.val / 2048, by omega⟩ c p)
        * e (ix4 (n0 := 8) (n1 := 8) (n2 := 2048) (n3 := 2048) ⟨r.val / 2048, by omega⟩ ⟨c.val / 64, by omega⟩ ⟨r.val % 2048, by omega⟩ p))
      (∑ p : Fin 2048, e (ix4 (n0 := 8) (n1 := 8) (n2 := 2048) (n3 := 2048) ⟨r.val / 2048, by omega⟩ ⟨c.val / 64, by omega⟩ ⟨r.val % 2048, by omega⟩ p)) := by
  pointwise [mean]

/-- The reference's result: the values of the keys up to the query, averaged with the weights of the softmax. -/
theorem result_read (q k : Vec Ideal S16384x1024 .bf16) (v : Vec Ideal S8x512x2048 .bf16) (r : Fin 16384) (c : Fin 512)
    (b h : Fin 8) (t : Fin 2048) (hb : r.val / 2048 = b.val) (hh : c.val / 64 = h.val) (ht : r.val % 2048 = t.val) :
    mean (weights (scores q k)) v (ix2 r c) = Ideal.div
      (acc (logit q k b h t) (fun p => v (ix3 (n0 := 8) (n1 := 512) (n2 := 2048) b c (key p))) 2048)
      (acc (logit q k b h t) (fun _ => 1) 2048) := by
  have eb : (⟨r.val / 2048, by omega⟩ : Fin 8) = b := Fin.ext hb
  have eh : (⟨c.val / 64, by omega⟩ : Fin 8) = h := Fin.ext hh
  have et : (⟨r.val % 2048, by omega⟩ : Fin 2048) = t := Fin.ext ht
  rw [mean_read, eb, eh, et, acc_fin, acc_fin]
  simp only [weights_read, key_val, one_mul]

end Cert.MlaRefIdeal.Value

end
-- ==== Proof.Mla.Claims.lean ====
module

public import proofs.«01_k».proof.Defs
public import proofs.«01_k».proof.Proof.Mla.Words
public import proofs.«01_k».proof.Proof.Mla.Array
public import proofs.«01_k».proof.Proof.Mla.Read
public import proofs.«01_k».proof.Proof.Mla.Ref
public import Idealize.ShloMosaic.Adequacy
public import Idealize.ShloMosaic.Init

@[expose] public section

set_option maxRecDepth 16384

noncomputable section

/-! # The claims about the attention over the prompt -/

namespace Cert.Proof.MlaClaims

open Idealize.ShloMosaic Idealize.ShloMosaic.TcCoe Idealize.SL.Sem Cert.Flash Cert.MlaIdeal Cert.MlaIdeal.Gen
open Cert.MlaRefIdeal.Value (logit at2 mean weights scores result_read)

local notation "Rows" => Vec Ideal (⟨2, ![16384, 1024]⟩ : Shape) EltTy.bf16
local notation "Cols" => Vec Ideal (⟨3, ![8, 512, 2048]⟩ : Shape) EltTy.bf16

/-- The masked scores of a block are the reference's. -/
theorem sm_eq (q k : Rows) (r : Fin 16384) (c : Fin 512) (j : Fin 2) (b h : Fin 8) (t : Fin 2048)
    (hb : r.val / 2048 = b.val) (hh : c.val / 64 = h.val) (ht : r.val % 2048 = t.val) (hj : c.val % 128 / 64 = j.val) (p : ℕ) :
    sm (r.val / 512 % 4) (qBlock q ⟨r.val / 512, by omega⟩ ⟨c.val / 128, by omega⟩) (kBlock k ⟨r.val / 2048, by omega⟩ ⟨c.val / 128, by omega⟩)
      j ⟨r.val % 512, by omega⟩ p = logit q k b h t p := by
  unfold sm logit sc
  refine if_congr (by dsimp only; omega) (Finset.sum_congr rfl fun d _ => congrArg₂ (· * ·) ?_ ?_) rfl
  · unfold kBlock at2 Cert.MlaIdeal.Gen.key lane
    refine congrArg k (ix2_ext ?_ ?_)
    · show 2048 * (r.val / 2048) + p % 2048 = b.val * 2048 + p % 2048; omega
    · show 256 * (c.val / 128) + (128 * j.val + d.val) = h.val * 128 + d.val; omega
  · unfold qBlock at2 lane
    refine congrArg q (ix2_ext ?_ ?_)
    · show 512 * (r.val / 512) + r.val % 512 = b.val * 2048 + t.val; omega
    · show 256 * (c.val / 128) + (128 * j.val + d.val) = h.val * 128 + d.val; omega

/-- The kernel's result array is the reference's. -/
theorem result_eq (q k : Rows) (v : Cols) : resAt (F := Ideal) q k v = mean (weights (scores q k)) v := by
  funext i
  obtain ⟨r, c, rfl⟩ : ∃ (r : Fin 16384) (c : Fin 512), i = ix2 r c := ⟨i 0, i 1, eq_ix2 i⟩
  have hr := r.isLt
  have hc := c.isLt
  rw [result_read q k v r c ⟨r.val / 2048, by omega⟩ ⟨c.val / 64, by omega⟩ ⟨r.val % 2048, by omega⟩ rfl rfl rfl]
  have e : (ix2 (n0 := 512) (n1 := 128) ⟨r.val % 512, by omega⟩ ⟨c.val % 128, by omega⟩)
      = ix2 ⟨r.val % 512, by omega⟩ (row ⟨c.val % 128 / 64, by omega⟩ ⟨c.val % 64, by omega⟩) :=
    ix2_ext rfl (by show c.val % 128 = 64 * (c.val % 128 / 64) + c.val % 64; omega)
  show outBlock (r.val / 512 % 4) (qBlock q ⟨r.val / 512, by omega⟩ ⟨c.val / 128, by omega⟩)
    (kBlock k ⟨r.val / 2048, by omega⟩ ⟨c.val / 128, by omega⟩) (vBlock v ⟨r.val / 2048, by omega⟩ ⟨c.val / 128, by omega⟩)
    (ix2 (n0 := 512) (n1 := 128) ⟨r.val % 512, by omega⟩ ⟨c.val % 128, by omega⟩) = _
  rw [e, outBlock_read _ (by omega)]
  have hs := sm_eq q k r c ⟨c.val % 128 / 64, by omega⟩ ⟨r.val / 2048, by omega⟩ ⟨c.val / 64, by omega⟩ ⟨r.val % 2048, by omega⟩ rfl rfl rfl rfl
  refine congrArg₂ Ideal.div (acc_congr _ (fun p _ => hs p) fun p _ => ?_) (acc_congr _ (fun p _ => hs p) fun _ _ => rfl)
  unfold vBlock row
  refine congrArg v (ix3_ext rfl ?_ rfl)
  show 128 * (c.val / 128) + (64 * (c.val % 128 / 64) + c.val % 64) = c.val
  omega

/-- Over the extended reals too the kernel terminates and leaves its arguments and its counters, -/
theorem frame_pi : Cert.quiescent_MlaIdeal := fun m ρ _ => Cert.MlaIdeal.Gen.frame m ρ

/-- and so does the reference. -/
theorem frame_ri : Cert.quiescent_MlaRefIdeal := fun m ρ _ =>
  (θ_run Cert.MlaRefIdeal.defs _ _).mono (fun r h => ⟨fun c => ⟨(h c).2.1, (h c).2.2.1, (h c).2.2.2⟩,
      sem_eq_zero_of_no_sems (by decide) r.2⟩)
    (Cert.MlaRefIdeal.Value.run (F := Ideal) m ρ)

/-- The mask's constant is read as `⊥`. -/
theorem preserves : Cert.preserves_Mla_MlaIdeal := IdealRules.named_const.statement Cert.MlaIdeal.κ "mask" .f32 0xF149F2CA#32 ⊥ rfl

/-- Over the extended reals the kernel and the reference compute the same array. -/
theorem algebraic : Cert.algebraic_MlaIdeal_MlaRefIdeal := by
  intro m ρ m' ρ' _ hagree
  refine ⟨fun c => result m c, run (F := Ideal) m ρ, ?_⟩
  refine (θ_run Cert.MlaRefIdeal.defs _ _).mono (fun _ h c => ⟨(h c).1.trans ?_, (h c).2⟩)
    (Cert.MlaRefIdeal.Value.run (F := Ideal) m' ρ')
  refine (Cert.MlaRefIdeal.Value.res_eq m' c).trans ?_
  rw [(hagree c).1, (hagree c).2.1, (hagree c).2.2]
  exact (result_eq _ _ _).symm

end Cert.Proof.MlaClaims

end
-- ==== Proof.Merge.Row.lean ====
module

public import Idealize.ShloMosaic.Lib.Pointwise

@[expose] public section

noncomputable section

/-! # One row of the merge

Every row of the merge depends on the same row of its inputs alone. -/

namespace Cert.Merge.Row

open Idealize.ShloMosaic

/-- The row over its root mean square, times the gain. -/
def norm (x g : Fin 1024 → EReal) (d : Fin 1024) : EReal :=
  x d * Ideal.rsqrt (Ideal.div (∑ k, x k * x k) (Ideal.ofBits FTy.f32 1149239296#32) + Ideal.ofBits FTy.f32 897988541#32) * g d

/-- The four gates before their nonlinearities, side by side. -/
def gates (x g : Fin 1024 → EReal) (w : Fin 1024 → Fin 3072 → EReal) (j : Fin 3072) : EReal := ∑ k, norm x g k * w k j

/-- The logistic function. -/
def sg (z : EReal) : EReal := Ideal.div 1 (1 + Ideal.exp (0 - z))

/-- A branch's row times its gate, projected. -/
def up (o z : Fin 512 → EReal) (w : Fin 512 → Fin 1024 → EReal) (j : Fin 1024) : EReal := ∑ k, o k * (z k * sg (z k)) * w k j

/-- The two projected branches under their merge gates, projected and added to the row. -/
def hid (x a b ya yb : Fin 1024 → EReal) (w : Fin 1024 → Fin 1024 → EReal) (j : Fin 1024) : EReal :=
  x j + ∑ k, (sg (a k) * ya k + sg (b k) * yb k) * w k j

/-- The embedding under its gate, added. -/
def last (h : Fin 1024 → EReal) (wg : Fin 1024 → Fin 1024 → EReal) (p : Fin 256 → EReal) (w : Fin 256 → Fin 1024 → EReal)
    (j : Fin 1024) : EReal := h j + sg (∑ k, h k * wg k j) * ∑ k, p k * w k j

/-- The gates' four parts. -/
def part0 (z : Fin 3072 → EReal) (k : Fin 512) : EReal := z ⟨k.val, by omega⟩
def part1 (z : Fin 3072 → EReal) (k : Fin 512) : EReal := z ⟨512 + k.val, by omega⟩
def part2 (z : Fin 3072 → EReal) (k : Fin 1024) : EReal := z ⟨1024 + k.val, by omega⟩
def part3 (z : Fin 3072 → EReal) (k : Fin 1024) : EReal := z ⟨2048 + k.val, by omega⟩

/-- The row of the result. -/
def out (x : Fin 1024 → EReal) (p : Fin 256 → EReal) (oa ob : Fin 512 → EReal) (n : Fin 1024 → EReal)
    (wg : Fin 1024 → Fin 3072 → EReal) (wua wub : Fin 512 → Fin 1024 → EReal) (wo : Fin 1024 → Fin 1024 → EReal)
    (wp : Fin 256 → Fin 1024 → EReal) (wpg : Fin 1024 → Fin 1024 → EReal) (fn : Fin 1024 → EReal) : Fin 1024 → EReal :=
  norm (last (hid x (part2 (gates x n wg)) (part3 (gates x n wg)) (up oa (part0 (gates x n wg)) wua)
    (up ob (part1 (gates x n wg)) wub) wo) wpg p wp) fn

end Cert.Merge.Row

end
-- ==== Proof.Merge.Block.lean ====
module

public import proofs.«01_k».proof.Proof.Gen.MergeIdeal.Value
public import proofs.«01_k».proof.Proof.Merge.Row
public import Idealize.ShloMosaic.Lib.Pipeline.Value
public import Idealize.ShloMosaic.Lib.Pointwise

@[expose] public section

set_option maxRecDepth 16384

noncomputable section

/-! # A block of the merge's result, row by row -/

namespace Cert.MergeIdeal.Gen

open Idealize.ShloMosaic Idealize.ShloMosaic.TcCoe Cert.Merge.Row

theorem gates_read (x : Vec Ideal S512x1024 .f32) (g : Vec Ideal S1x1024 .f32) (w : Vec Ideal S1024x3072 .bf16) (r : Fin 512) (j : Fin 3072) :
    k0_pay2 x g w (ix2 r j) = gates (fun k => x (ix2 r k)) (fun k => g (ix2 0 k)) (fun k j => w (ix2 k j)) j := by
  pointwise [k0_pay2]
  rfl

/-- The first branch times its gate. -/
theorem first_read (x : Vec Ideal S512x1024 .f32) (g : Vec Ideal S1x1024 .f32) (w : Vec Ideal S1024x3072 .bf16)
    (o : Vec Ideal S512x512 .f32) (r k : Fin 512) :
    k0_pay6 x g w o (ix2 r k) = o (ix2 r k) * (k0_pay2 x g w (ix2 r ⟨k.val, by omega⟩) * sg (k0_pay2 x g w (ix2 r ⟨k.val, by omega⟩))) := by
  unfold k0_pay6
  generalize k0_pay2 x g w = z
  pointwise
  rfl

/-- The second branch's gate, -/
theorem second_read (x : Vec Ideal S512x1024 .f32) (g : Vec Ideal S1x1024 .f32) (w : Vec Ideal S1024x3072 .bf16) (r k : Fin 512) :
    k0_pay3 x g w (ix2 r k) = k0_pay2 x g w (ix2 r ⟨512 + k.val, by omega⟩) := by
  unfold k0_pay3
  generalize k0_pay2 x g w = z
  pointwise

/-- and its nonlinearity. -/
theorem second_sg (x : Vec Ideal S512x1024 .f32) (g : Vec Ideal S1x1024 .f32) (w : Vec Ideal S1024x3072 .bf16) (r k : Fin 512) :
    Ideal.div (k0_pay8 (F := Ideal) (ix2 r k)) (k0_pay7 x g w (ix2 r k)) = sg (k0_pay2 x g w (ix2 r ⟨512 + k.val, by omega⟩)) := by
  rw [← second_read]
  unfold k0_pay7
  generalize k0_pay3 x g w = z
  pointwise [k0_pay8]
  rfl

theorem third_read (x : Vec Ideal S512x1024 .f32) (g : Vec Ideal S1x1024 .f32) (w : Vec Ideal S1024x3072 .bf16) (r : Fin 512) (k : Fin 1024) :
    k0_pay4 x g w (ix2 r k) = k0_pay2 x g w (ix2 r ⟨1024 + k.val, by omega⟩) := by
  unfold k0_pay4
  generalize k0_pay2 x g w = z
  pointwise

theorem fourth_read (x : Vec Ideal S512x1024 .f32) (g : Vec Ideal S1x1024 .f32) (w : Vec Ideal S1024x3072 .bf16) (r : Fin 512) (k : Fin 1024) :
    k0_pay5 x g w (ix2 r k) = k0_pay2 x g w (ix2 r ⟨2048 + k.val, by omega⟩) := by
  unfold k0_pay5
  generalize k0_pay2 x g w = z
  pointwise

/-- The merged branches, added to the row: from the gates and the first branch. -/
theorem hid_read (x : Vec Ideal S512x1024 .f32) (zb : FVec Ideal S512x512 .f32) (a b : FVec Ideal S512x1024 .f32)
    (ua : FVec Ideal S512x512 .bf16) (ob : Vec Ideal S512x512 .f32) (d n : FVec Ideal S512x512 .f32)
    (wua wub : Vec Ideal S512x1024 .bf16) (wo : Vec Ideal S1024x1024 .bf16) (r : Fin 512) (j : Fin 1024) :
    k0_pay9 x zb a b ua ob d n wua wub wo (ix2 r j) = hid (fun k => x (ix2 r k)) (fun k => a (ix2 r k)) (fun k => b (ix2 r k))
      (fun k => ∑ i, ua (ix2 r i) * wua (ix2 i k))
      (fun k => ∑ i, ob (ix2 r i) * (zb (ix2 r i) * Ideal.div (n (ix2 r i)) (d (ix2 r i))) * wub (ix2 i k))
      (fun k j => wo (ix2 k j)) j := by
  pointwise [k0_pay9]
  rfl

/-- The embedding's gate. -/
theorem gate_read (x : Vec Ideal S512x1024 .f32) (zb : FVec Ideal S512x512 .f32) (a b : FVec Ideal S512x1024 .f32)
    (ua : FVec Ideal S512x512 .bf16) (ob : Vec Ideal S512x512 .f32) (d n : FVec Ideal S512x512 .f32)
    (wua wub : Vec Ideal S512x1024 .bf16) (wo wpg : Vec Ideal S1024x1024 .bf16) (r : Fin 512) (j : Fin 1024) :
    k0_pay10 x zb a b ua ob d n wua wub wo wpg (ix2 r j)
      = sg (∑ k, k0_pay9 x zb a b ua ob d n wua wub wo (ix2 r k) * wpg (ix2 k j)) := by
  unfold k0_pay10
  generalize k0_pay9 x zb a b ua ob d n wua wub wo = h
  pointwise
  rfl

/-- The end: the gated embedding added, the row normalised. -/
theorem end_read (h s : FVec Ideal S512x1024 .f32) (p : Vec Ideal S512x256 .f32) (w : Vec Ideal S256x1024 .bf16)
    (g : Vec Ideal S1x1024 .f32) (r : Fin 512) (j : Fin 1024) :
    k0_pay1 h s p w g (ix2 r j)
      = norm (fun j => h (ix2 r j) + s (ix2 r j) * ∑ k, p (ix2 r k) * w (ix2 k j)) (fun k => g (ix2 0 k)) j := by
  pointwise [k0_pay1]
  rfl

/-- A block of the result: every row is the merge of that row. -/
theorem block_read (x : Vec Ideal S512x1024 .f32) (p : Vec Ideal S512x256 .f32) (oa ob : Vec Ideal S512x512 .f32)
    (n : Vec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : Vec Ideal S1x1024 .f32) (r : Fin 512) (j : Fin 1024) :
    out0_12 x p oa ob n wg wua wub wo wp wpg fn (ix2 r j)
      = out (fun k => x (ix2 r k)) (fun k => p (ix2 r k)) (fun k => oa (ix2 r k)) (fun k => ob (ix2 r k))
        (fun k => n (ix2 0 k)) (fun k j => wg (ix2 k j)) (fun k j => wua (ix2 k j)) (fun k j => wub (ix2 k j))
        (fun k j => wo (ix2 k j)) (fun k j => wp (ix2 k j)) (fun k j => wpg (ix2 k j)) (fun k => fn (ix2 0 k)) j := by
  have hz : (![0, 0] : Fin 2 → Nat) = fun _ => 0 := by decide
  unfold out0_12 k0_pay16 k0_pay15 k0_pay14 k0_pay13 k0_pay12 k0_pay11
  rw [View.canon_unit_zero hz]
  have l0 : ∀ {e : EltTy} (y : Vec Ideal S512x1024 e), View.ld y r0_0 = y := fun y => View.ld_unit_zero hz _ y
  have l1 : ∀ {e : EltTy} (y : Vec Ideal S1x1024 e), View.ld y r0_1 = y := fun y => View.ld_unit_zero hz _ y
  have l2 : ∀ {e : EltTy} (y : Vec Ideal S1024x3072 e), View.ld y r0_2 = y := fun y => View.ld_unit_zero hz _ y
  have l3 : ∀ {e : EltTy} (y : Vec Ideal S512x512 e), View.ld y r0_3 = y := fun y => View.ld_unit_zero hz _ y
  have l4 : ∀ {e : EltTy} (y : Vec Ideal S1024x1024 e), View.ld y r0_4 = y := fun y => View.ld_unit_zero hz _ y
  have l5 : ∀ {e : EltTy} (y : Vec Ideal S512x256 e), View.ld y r0_5 = y := fun y => View.ld_unit_zero hz _ y
  have l6 : ∀ {e : EltTy} (y : Vec Ideal S256x1024 e), View.ld y r0_6 = y := fun y => View.ld_unit_zero hz _ y
  rw [l0 x, l0 wua, l0 wub, l1 n, l1 fn, l2 wg, l3 oa, l3 ob, l4 wo, l4 wpg, l5 p, l6 wp, end_read]
  simp only [gate_read, hid_read, second_sg, second_read, third_read, fourth_read, first_read, gates_read]
  rfl

end Cert.MergeIdeal.Gen

end
-- ==== Proof.Merge.Array.lean ====
module

public import proofs.«01_k».proof.Proof.Gen.MergeIdeal.Value
public import proofs.«01_k».proof.Proof.Merge.Block

@[expose] public section

set_option maxRecDepth 16384

noncomputable section

/-! # The merge's result array as one function of the argument arrays -/

namespace Cert.MergeIdeal.Gen

open Idealize.ShloMosaic Idealize.ShloMosaic.TcCoe
open Idealize.SL.Sem
open Idealize.ShloMosaic.Pipeline (Dat)
open Cert.Merge.Row

/-- The result array: every row is the merge of that row. -/
def resAt (x : Vec Ideal S16384x1024 .f32) (p : Vec Ideal S16384x256 .f32) (oa ob : Vec Ideal S16384x512 .f32)
    (n : Vec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : Vec Ideal S1x1024 .f32) : Vec Ideal S16384x1024 .f32 := fun i =>
  out (fun k => x (ix2 (n0 := 16384) (n1 := 1024) (i 0) k)) (fun k => p (ix2 (n0 := 16384) (n1 := 256) (i 0) k))
    (fun k => oa (ix2 (n0 := 16384) (n1 := 512) (i 0) k)) (fun k => ob (ix2 (n0 := 16384) (n1 := 512) (i 0) k))
    (fun k => n (ix2 0 k)) (fun k j => wg (ix2 k j)) (fun k j => wua (ix2 k j)) (fun k j => wub (ix2 k j))
    (fun k j => wo (ix2 k j)) (fun k j => wp (ix2 k j)) (fun k j => wpg (ix2 k j)) (fun k => fn (ix2 0 k)) (i 1)

theorem index_row0 : ∀ t : Fin grid0.N, win0_0.index t 0 = t.val := by decide +kernel
theorem index_row1 : ∀ t : Fin grid0.N, win0_1.index t 0 = t.val := by decide +kernel
theorem index_row2 : ∀ t : Fin grid0.N, win0_2.index t 0 = t.val := by decide +kernel
theorem index_row3 : ∀ t : Fin grid0.N, win0_3.index t 0 = t.val := by decide +kernel
theorem index_row12 : ∀ t : Fin grid0.N, win0_12.index t 0 = t.val := by decide +kernel

theorem eq_ix2_of {n0 n1 : ℕ} {i : (⟨2, ![n0, n1]⟩ : Shape).Idx} {a : Fin n0} {b : Fin n1} (ha : (i 0).val = a.val)
    (hb : (i 1).val = b.val) : i = ix2 (n0 := n0) (n1 := n1) a b := by
  rw [eq_ix2 i, show i 0 = a from Fin.ext ha, show i 1 = b from Fin.ext hb]

theorem from_zero (n k : ℕ) : 0 * n + 1 * k = k := by omega

theorem from_row {a t : ℕ} (h : a = t) (r : ℕ) : a * 512 + 1 * r = 512 * t + r := by omega

variable (m : (ℓ : Loc nD τ sig) → Buf (Elt Ideal) ℓ) (ρ : Dev nD → PrngReg)

/-- Row `r` of block `t`. -/
abbrev rowOf (t : Fin cfg0.N) (r : Fin 512) : Fin 16384 := ⟨512 * t.val + r.val, by
  have := lt_of_lt_of_eq t.isLt N_0
  omega⟩

/-- The first four windows move down the rows of their arrays, -/
theorem iblk0 (c : Dev nD) (t : Fin cfg0.N) (r : Fin 512) (k : Fin 1024) :
    iblk m c 0 t (ix2 r k) = m ((c : Thread nD τ).loc main_arg0) (ix2 (rowOf t r) k) :=
  congrArg (m ((c : Thread nD τ).loc main_arg0)) (eq_ix2_of (from_row (index_row0 t) _) (from_zero _ _))
theorem iblk1 (c : Dev nD) (t : Fin cfg0.N) (r : Fin 512) (k : Fin 256) :
    iblk m c 1 t (ix2 r k) = m ((c : Thread nD τ).loc main_arg1) (ix2 (rowOf t r) k) :=
  congrArg (m ((c : Thread nD τ).loc main_arg1)) (eq_ix2_of (from_row (index_row1 t) _) (from_zero _ _))
theorem iblk2 (c : Dev nD) (t : Fin cfg0.N) (r : Fin 512) (k : Fin 512) :
    iblk m c 2 t (ix2 r k) = m ((c : Thread nD τ).loc main_arg2) (ix2 (rowOf t r) k) :=
  congrArg (m ((c : Thread nD τ).loc main_arg2)) (eq_ix2_of (from_row (index_row2 t) _) (from_zero _ _))
theorem iblk3 (c : Dev nD) (t : Fin cfg0.N) (r : Fin 512) (k : Fin 512) :
    iblk m c 3 t (ix2 r k) = m ((c : Thread nD τ).loc main_arg3) (ix2 (rowOf t r) k) :=
  congrArg (m ((c : Thread nD τ).loc main_arg3)) (eq_ix2_of (from_row (index_row3 t) _) (from_zero _ _))

/-- and the others hold theirs whole. -/
theorem iblk4 (c : Dev nD) (t : Fin cfg0.N) (k : Fin 1) (j : Fin 1024) :
    iblk m c 4 t (ix2 k j) = m ((c : Thread nD τ).loc main_arg4) (ix2 k j) :=
  congrArg (m ((c : Thread nD τ).loc main_arg4)) (eq_ix2_of (from_zero _ _) (from_zero _ _))
theorem iblk5 (c : Dev nD) (t : Fin cfg0.N) (k : Fin 1024) (j : Fin 3072) :
    iblk m c 5 t (ix2 k j) = m ((c : Thread nD τ).loc main_arg5) (ix2 k j) :=
  congrArg (m ((c : Thread nD τ).loc main_arg5)) (eq_ix2_of (from_zero _ _) (from_zero _ _))
theorem iblk6 (c : Dev nD) (t : Fin cfg0.N) (k : Fin 512) (j : Fin 1024) :
    iblk m c 6 t (ix2 k j) = m ((c : Thread nD τ).loc main_arg6) (ix2 k j) :=
  congrArg (m ((c : Thread nD τ).loc main_arg6)) (eq_ix2_of (from_zero _ _) (from_zero _ _))
theorem iblk7 (c : Dev nD) (t : Fin cfg0.N) (k : Fin 512) (j : Fin 1024) :
    iblk m c 7 t (ix2 k j) = m ((c : Thread nD τ).loc main_arg7) (ix2 k j) :=
  congrArg (m ((c : Thread nD τ).loc main_arg7)) (eq_ix2_of (from_zero _ _) (from_zero _ _))
theorem iblk8 (c : Dev nD) (t : Fin cfg0.N) (k : Fin 1024) (j : Fin 1024) :
    iblk m c 8 t (ix2 k j) = m ((c : Thread nD τ).loc main_arg8) (ix2 k j) :=
  congrArg (m ((c : Thread nD τ).loc main_arg8)) (eq_ix2_of (from_zero _ _) (from_zero _ _))
theorem iblk9 (c : Dev nD) (t : Fin cfg0.N) (k : Fin 256) (j : Fin 1024) :
    iblk m c 9 t (ix2 k j) = m ((c : Thread nD τ).loc main_arg9) (ix2 k j) :=
  congrArg (m ((c : Thread nD τ).loc main_arg9)) (eq_ix2_of (from_zero _ _) (from_zero _ _))
theorem iblk10 (c : Dev nD) (t : Fin cfg0.N) (k : Fin 1024) (j : Fin 1024) :
    iblk m c 10 t (ix2 k j) = m ((c : Thread nD τ).loc main_arg10) (ix2 k j) :=
  congrArg (m ((c : Thread nD τ).loc main_arg10)) (eq_ix2_of (from_zero _ _) (from_zero _ _))
theorem iblk11 (c : Dev nD) (t : Fin cfg0.N) (k : Fin 1) (j : Fin 1024) :
    iblk m c 11 t (ix2 k j) = m ((c : Thread nD τ).loc main_arg11) (ix2 k j) :=
  congrArg (m ((c : Thread nD τ).loc main_arg11)) (eq_ix2_of (from_zero _ _) (from_zero _ _))

/-- The whole result of device `c`. -/
abbrev result (c : Dev nD) : Buf (Elt Ideal) ((c : Thread nD τ).loc main_v0) :=
  resAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- What a point writes back is its block of `result`. -/
theorem flushed_eq (c : Dev nD) (t : Fin cfg0.N) :
    (dats m 0 c).flushed 12 t = (win0_12.blk t).view.read (Elt Ideal) (result m c) := by
  rw [Value.flushed12]
  funext i
  obtain ⟨r, j, rfl⟩ : ∃ (r : Fin 512) (j : Fin 1024), i = ix2 r j := ⟨i 0, i 1, eq_ix2 i⟩
  refine (block_read _ _ _ _ _ _ _ _ _ _ _ _ r j).trans ?_
  have e : (win0_12.blk t).view.emb (ix2 r j) = ix2 (rowOf t r) j :=
    eq_ix2_of (from_row (index_row12 t) _) (from_zero _ _)
  show _ = result m c ((win0_12.blk t).view.emb (ix2 r j))
  rw [e]
  simp only [iblk0, iblk1, iblk2, iblk3, iblk4, iblk5, iblk6, iblk7, iblk8, iblk9, iblk10, iblk11]
  rfl

/-- An index of the result array is in the block of its 512 rows. -/
theorem mem_blk (t : Fin cfg0.N) (i : S16384x1024.Idx) (h : (i 0 : ℕ) / 512 = t.val) : i ∈ ((cfg0.win 12).blk t).view.set := by
  have h1 : (i 1 : ℕ) < 1024 := (i 1).isLt
  show i ∈ ((View.whole main_v0).slice (win0_12.rect t)).set
  rw [View.set_slice_whole, Rect.mem_set_unit]
  have e := index_row12 t
  intro a
  match a with
  | ⟨0, _⟩ =>
    show win0_12.index t 0 * 512 ≤ (i 0 : ℕ) ∧ (i 0 : ℕ) < win0_12.index t 0 * 512 + 512
    rw [e]; omega
  | ⟨1, _⟩ =>
    show 0 * 1024 ≤ (i 1 : ℕ) ∧ (i 1 : ℕ) < 0 * 1024 + 1024
    omega

/-- The blocks cover the result. -/
theorem cover (i : S16384x1024.Idx) :
    ∃ t : Fin cfg0.N, (cfg0.win 12).flush t = true ∧ i ∈ ((cfg0.win 12).blk t).view.set := by
  have h0 : (i 0 : ℕ) < 16384 := (i 0).isLt
  have hN : cfg0.N = 32 := N_0
  exact ⟨⟨(i 0 : ℕ) / 512, by omega⟩, flush0_12 _, mem_blk _ i rfl⟩

/-- So the result array ends holding `result`. -/
theorem final_o (c : Dev nD) : (dats m 0 c).arrAt 12 cfg0.N = result m c :=
  (dats m 0 c).arrAt_eq_of_cover 12 (result m c) (fun t _ => flushed_eq m c t) cover

end Cert.MergeIdeal.Gen

end
-- ==== Proof.Merge.Ref.lean ====
module

public import proofs.«01_k».proof.Proof.Gen.MergeRefIdeal.Run
public import proofs.«01_k».proof.Proof.Merge.Row
public import Idealize.ShloMosaic.Lib.Pointwise

@[expose] public section

set_option maxRecDepth 16384

noncomputable section

/-! # The merge's reference, row by row -/

namespace Cert.MergeRefIdeal.Value

open Cert.MergeRefIdeal Cert.MergeRefIdeal.Gen Idealize.ShloMosaic Idealize.ShloMosaic.TcCoe Cert.Merge.Row

variable {F : FTy → Type} [FloatOps F]

/-- The rows over their root mean squares, times the gain. -/
def normed (x : FVec F S16384x1024 .f32) (g : FVec F S1x1024 .f32) : FVec F S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 g)

/-- The four gates, side by side. -/
def gated (x : FVec F S16384x1024 .f32) (g : FVec F S1x1024 .f32) (w : Vec F S1024x3072 .bf16) : FVec F S16384x3072 .f32 :=
  Host.dotGeneral dot_S16384x1024_S1024x3072_S16384x3072_1_0_0_1_n_n none (normed x g) (extf .f32 w bitsLt_bf16_f32)

/-- The logistic function of a matrix of 1024 columns, -/
def sg1024 (z : FVec F S16384x1024 .f32) : FVec F S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

/-- and of 512. -/
def sg512 (z : FVec F S16384x512 .f32) : FVec F S16384x512 .f32 :=
  Host.divf (broadcastInDim S16384x512 ![] bcast_S_S16384x512 (constant S_ .f32 0x3F800000#32)) (addf (broadcastInDim S16384x512 ![] bcast_S_S16384x512 (constant S_ .f32 0x3F800000#32)) (Host.exp (Host.negf z)))

/-- A branch times its gate, projected. -/
def upped (o z : FVec F S16384x512 .f32) (w : Vec F S512x1024 .bf16) : FVec F S16384x1024 .f32 :=
  Host.dotGeneral dot_S16384x512_S512x1024_S16384x1024_1_0_0_1_n_n none (mulf o (mulf z (sg512 z))) (extf .f32 w bitsLt_bf16_f32)

/-- The projected branches under their gates, projected and added. -/
def hidden (x a b ya yb : FVec F S16384x1024 .f32) (w : Vec F S1024x1024 .bf16) : FVec F S16384x1024 .f32 :=
  addf x (Host.dotGeneral dot_S16384x1024_S1024x1024_S16384x1024_1_0_0_1_n_n none (addf (mulf (sg1024 a) ya) (mulf (sg1024 b) yb)) (extf .f32 w bitsLt_bf16_f32))

/-- The embedding under its gate, added. -/
def lasted (h : FVec F S16384x1024 .f32) (wg : Vec F S1024x1024 .bf16) (p : FVec F S16384x256 .f32) (w : Vec F S256x1024 .bf16) : FVec F S16384x1024 .f32 :=
  addf h (mulf (sg1024 (Host.dotGeneral dot_S16384x1024_S1024x1024_S16384x1024_1_0_0_1_n_n none h (extf .f32 wg bitsLt_bf16_f32)))
    (Host.dotGeneral dot_S16384x256_S256x1024_S16384x1024_1_0_0_1_n_n none p (extf .f32 w bitsLt_bf16_f32)))

/-- The whole result, from the gates. -/
def fromGates (z : FVec F S16384x3072 .f32) (x : FVec F S16384x1024 .f32) (p : FVec F S16384x256 .f32) (oa ob : FVec F S16384x512 .f32)
    (wua wub : Vec F S512x1024 .bf16) (wo : Vec F S1024x1024 .bf16) (wp : Vec F S256x1024 .bf16) (wpg : Vec F S1024x1024 .bf16)
    (fn : FVec F S1x1024 .f32) : FVec F S16384x1024 .f32 :=
  normed (lasted (hidden x (extractStridedSlice S16384x1024 ![0, 1024] z slices_S16384x3072_S16384x1024_0_1024)
      (extractStridedSlice S16384x1024 ![0, 2048] z slices_S16384x3072_S16384x1024_0_2048)
      (upped oa (extractStridedSlice S16384x512 ![0, 0] z slices_S16384x3072_S16384x512_0_0) wua)
      (upped ob (extractStridedSlice S16384x512 ![0, 512] z slices_S16384x3072_S16384x512_0_512) wub) wo) wpg p wp) fn

/-- The run's result in these terms. -/
theorem res_eq (m : (ℓ : Loc nD τ sig) → Buf (Elt F) ℓ) (c : Dev nD) : res_out0 m c
    = fromGates (gated (m ((c.tc : Thread nD τ).loc main_arg0)) (m ((c.tc : Thread nD τ).loc main_arg4)) (m ((c.tc : Thread nD τ).loc main_arg5)))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

theorem normed_read (x : FVec Ideal S16384x1024 .f32) (g : FVec Ideal S1x1024 .f32) (r : Fin 16384) (d : Fin 1024) :
    normed x g (ix2 r d) = norm (fun k => x (ix2 r k)) (fun k => g (ix2 0 k)) d := by
  pointwise [normed]
  rfl

theorem gated_read (x : FVec Ideal S16384x1024 .f32) (g : FVec Ideal S1x1024 .f32) (w : Vec Ideal S1024x3072 .bf16) (r : Fin 16384) (j : Fin 3072) :
    gated x g w (ix2 r j) = gates (fun k => x (ix2 r k)) (fun k => g (ix2 0 k)) (fun k j => w (ix2 k j)) j := by
  unfold gates
  simp only [← normed_read]
  unfold gated
  generalize normed x g = y
  pointwise

theorem sg_neg (z : EReal) : Ideal.div 1 (1 + Ideal.exp (-z)) = sg z := by rw [sg, zero_sub]

theorem upped_read (o z : FVec Ideal S16384x512 .f32) (w : Vec Ideal S512x1024 .bf16) (r : Fin 16384) (j : Fin 1024) :
    upped o z w (ix2 r j) = up (fun k => o (ix2 r k)) (fun k => z (ix2 r k)) (fun k j => w (ix2 k j)) j := by
  pointwise [upped, sg512]
  simp only [sg_neg]
  rfl

theorem hidden_read (x a b ya yb : FVec Ideal S16384x1024 .f32) (w : Vec Ideal S1024x1024 .bf16) (r : Fin 16384) (j : Fin 1024) :
    hidden x a b ya yb w (ix2 r j) = hid (fun k => x (ix2 r k)) (fun k => a (ix2 r k)) (fun k => b (ix2 r k)) (fun k => ya (ix2 r k))
      (fun k => yb (ix2 r k)) (fun k j => w (ix2 k j)) j := by
  pointwise [hidden, sg1024]
  simp only [sg_neg]
  rfl

theorem lasted_read (h : FVec Ideal S16384x1024 .f32) (wg : Vec Ideal S1024x1024 .bf16) (p : FVec Ideal S16384x256 .f32)
    (w : Vec Ideal S256x1024 .bf16) (r : Fin 16384) (j : Fin 1024) :
    lasted h wg p w (ix2 r j) = last (fun k => h (ix2 r k)) (fun k j => wg (ix2 k j)) (fun k => p (ix2 r k)) (fun k j => w (ix2 k j)) j := by
  pointwise [lasted, sg1024]
  simp only [sg_neg]
  rfl

theorem slice0 (z : FVec Ideal S16384x3072 .f32) (r : Fin 16384) (k : Fin 512) :
    extractStridedSlice S16384x512 ![0, 0] z slices_S16384x3072_S16384x512_0_0 (ix2 r k) = part0 (fun j => z (ix2 r j)) k := by
  unfold part0
  pointwise
theorem slice1 (z : FVec Ideal S16384x3072 .f32) (r : Fin 16384) (k : Fin 512) :
    extractStridedSlice S16384x512 ![0, 512] z slices_S16384x3072_S16384x512_0_512 (ix2 r k) = part1 (fun j => z (ix2 r j)) k := by
  unfold part1
  pointwise
theorem slice2 (z : FVec Ideal S16384x3072 .f32) (r : Fin 16384) (k : Fin 1024) :
    extractStridedSlice S16384x1024 ![0, 1024] z slices_S16384x3072_S16384x1024_0_1024 (ix2 r k) = part2 (fun j => z (ix2 r j)) k := by
  unfold part2
  pointwise
theorem slice3 (z : FVec Ideal S16384x3072 .f32) (r : Fin 16384) (k : Fin 1024) :
    extractStridedSlice S16384x1024 ![0, 2048] z slices_S16384x3072_S16384x1024_0_2048 (ix2 r k) = part3 (fun j => z (ix2 r j)) k := by
  unfold part3
  pointwise

/-- The reference's result: every row is the merge of that row. -/
theorem result_read (x : FVec Ideal S16384x1024 .f32) (p : FVec Ideal S16384x256 .f32) (oa ob : FVec Ideal S16384x512 .f32)
    (n : FVec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : FVec Ideal S1x1024 .f32) (r : Fin 16384) (j : Fin 1024) :
    fromGates (gated x n wg) x p oa ob wua wub wo wp wpg fn (ix2 r j)
      = out (fun k => x (ix2 r k)) (fun k => p (ix2 r k)) (fun k => oa (ix2 r k)) (fun k => ob (ix2 r k))
        (fun k => n (ix2 0 k)) (fun k j => wg (ix2 k j)) (fun k j => wua (ix2 k j)) (fun k j => wub (ix2 k j))
        (fun k j => wo (ix2 k j)) (fun k j => wp (ix2 k j)) (fun k j => wpg (ix2 k j)) (fun k => fn (ix2 0 k)) j := by
  unfold fromGates
  simp only [normed_read, lasted_read, hidden_read, upped_read, slice0, slice1, slice2, slice3, gated_read]
  rfl

end Cert.MergeRefIdeal.Value

end
-- ==== Proof.Merge.Claims.lean ====
module

public import proofs.«01_k».proof.Defs
public import proofs.«01_k».proof.Proof.Gen.Merge.Frame
public import proofs.«01_k».proof.Proof.Merge.Array
public import proofs.«01_k».proof.Proof.Merge.Ref
public import Idealize.ShloMosaic.Adequacy
public import Idealize.ShloMosaic.Init

@[expose] public section

set_option maxRecDepth 16384

noncomputable section

/-! # The claims about the merge -/

namespace Cert.Proof.MergeClaims

open Idealize.ShloMosaic Idealize.ShloMosaic.TcCoe Idealize.SL.Sem Cert.MergeIdeal Cert.MergeIdeal.Gen
open Cert.MergeRefIdeal.Value (gated fromGates result_read)

/-- The kernel terminates and leaves its arguments and its counters, -/
theorem frame_p : Cert.quiescent_Merge (hMerge := Cert.Merge.Gen.facts) := fun m ρ _ => Cert.Merge.Gen.frame m ρ

/-- over the extended reals too, -/
theorem frame_pi : Cert.quiescent_MergeIdeal := fun m ρ _ => Cert.MergeIdeal.Gen.frame m ρ

/-- and so does the reference. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- No operation of the kernel is replaced. -/
theorem preserves : Cert.preserves_Merge_MergeIdeal := trivial

/-- The kernel's result array is the reference's. -/
theorem result_eq (x : Vec Ideal S16384x1024 .f32) (p : Vec Ideal S16384x256 .f32) (oa ob : Vec Ideal S16384x512 .f32)
    (n : Vec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : Vec Ideal S1x1024 .f32) :
    fromGates (gated x n wg) x p oa ob wua wub wo wp wpg fn = resAt x p oa ob n wg wua wub wo wp wpg fn := by
  funext i
  obtain ⟨r, j, rfl⟩ : ∃ (r : Fin 16384) (j : Fin 1024), i = ix2 r j := ⟨i 0, i 1, eq_ix2 i⟩
  exact result_read x p oa ob n wg wua wub wo wp wpg fn r j

/-- Over the extended reals the kernel and the reference compute the same array. -/
theorem algebraic : Cert.algebraic_MergeIdeal_MergeRefIdeal := by
  intro m ρ m' ρ' _ hagree
  refine ⟨fun c => result m c, (θ_run Cert.MergeIdeal.defs _ _).mono (fun _ h c => ⟨(h c).1.trans (final_o m c), (h c).2⟩)
    (Cert.MergeIdeal.Value.run_blocks (F := Ideal) m ρ), ?_⟩
  refine (θ_run Cert.MergeRefIdeal.defs _ _).mono (fun _ h c => ⟨(h c).1.trans ?_, (h c).2⟩)
    (Cert.MergeRefIdeal.Value.run (F := Ideal) m' ρ')
  refine (Cert.MergeRefIdeal.Value.res_eq m' c).trans ?_
  obtain ⟨h0, h1, h2, h3, h4, h5, h6, h7, h8, h9, h10, h11⟩ := hagree c
  rw [h0, h1, h2, h3, h4, h5, h6, h7, h8, h9, h10, h11]
  exact result_eq _ _ _ _ _ _ _ _ _ _ _ _

end Cert.Proof.MergeClaims

end
-- ==== Proof.Proj.Open.lean ====
module

public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

/-! # What each point of the projections leaves in its output blocks -/

namespace Cert.ProjIdeal.Gen

open Cert.ProjIdeal Cert.ProjIdeal.Gen Idealize.ShloMosaic Idealize.ShloMosaic.TcCoe
open Idealize.SL.Sem
open Idealize.ShloMosaic.Pipeline (Dat)

variable (m : (ℓ : Loc nD τ sig) → Buf (Elt Ideal) ℓ) (c : Dev nD) (t : Fin cfg0.N)

/-- The point's normalised rows -/
abbrev rows : FVec Ideal S512x1024 .bf16 := k0_pay4 (iblk m c 0 t) (iblk m c 3 t)

/-- and their products with the packed weights. -/
abbrev cols : FVec Ideal S512x2304 .f32 := k0_pay8 (iblk m c 0 t) (iblk m c 3 t) (iblk m c 4 t)

/-- The latent rows: the first point of a batch and the others write the same. So with -/
theorem after_latent : (dats m 0 c).after 17 t = k0_pay24 (iblk m c 6 t) (k0_pay22 (cols m c t)) (k0_pay23 (cols m c t)) := by
  rw [after0_17]
  by_cases h0 : t.val % 4 = 0
  · rw [outsAt0_A m c t h0]
    frame_out
  · rw [outsAt0_B m c t h0]
    frame_out

/-- the rotated rows, -/
theorem after_rope : (dats m 0 c).after 18 t = k0_pay37 (k0_pay25 (k0_pay2 (iblk m c 1 t)) (k0_pay3 (iblk m c 2 t)) (cols m c t)) := by
  rw [after0_18]
  by_cases h0 : t.val % 4 = 0
  · rw [outsAt0_A m c t h0]
    frame_out
  · rw [outsAt0_B m c t h0]
    frame_out

/-- the keys, -/
theorem after_key : (dats m 0 c).after 22 t = k0_pay52 (rows m c t) (iblk m c 12 t) := by
  rw [after0_22]
  by_cases h0 : t.val % 4 = 0
  · rw [outsAt0_A m c t h0]
    frame_out
  · rw [outsAt0_B m c t h0]
    frame_out

/-- the values -/
theorem after_value : (dats m 0 c).after 23 t = k0_pay53 (rows m c t) (iblk m c 12 t) := by
  rw [after0_23]
  by_cases h0 : t.val % 4 = 0
  · rw [outsAt0_A m c t h0]
    frame_out
  · rw [outsAt0_B m c t h0]
    frame_out

/-- and the forget gates. -/
theorem after_gate : (dats m 0 c).after 24 t = k0_pay55 (k0_pay26 (k0_pay7 (iblk m c 11 t)) (cols m c t)) := by
  rw [after0_24]
  by_cases h0 : t.val % 4 = 0
  · rw [outsAt0_A m c t h0]
    frame_out
  · rw [outsAt0_B m c t h0]
    frame_out

/-- And in half precision the latent values as columns, -/
theorem after_latent_value : (dats m 0 c).after 16 t
    = k0_pay48 (k0_pay38 (k0_pay24 (iblk m c 6 t) (k0_pay22 (cols m c t)) (k0_pay23 (cols m c t)))) (iblk m c 10 t) := by
  rw [after0_16]
  by_cases h0 : t.val % 4 = 0
  · rw [outsAt0_A m c t h0]
    frame_out
  · rw [outsAt0_B m c t h0]
    frame_out

/-- the queries, -/
theorem after_query : (dats m 0 c).after 19 t = k0_pay49 (k0_pay27 (cols m c t)) := by
  rw [after0_19]
  by_cases h0 : t.val % 4 = 0
  · rw [outsAt0_A m c t h0]
    frame_out
  · rw [outsAt0_B m c t h0]
    frame_out

/-- the keys as rows -/
theorem after_key_row : (dats m 0 c).after 20 t = k0_pay50 (k0_pay28 (cols m c t)) := by
  rw [after0_20]
  by_cases h0 : t.val % 4 = 0
  · rw [outsAt0_A m c t h0]
    frame_out
  · rw [outsAt0_B m c t h0]
    frame_out

/-- and the values as columns once more. -/
theorem after_value_half : (dats m 0 c).after 21 t = k0_pay54 (rows m c t) (iblk m c 12 t) := by
  rw [after0_21]
  by_cases h0 : t.val % 4 = 0
  · rw [outsAt0_A m c t h0]
    frame_out
  · rw [outsAt0_B m c t h0]
    frame_out

/-- The lanes of a row, a head's 128 at a time. -/
theorem of_tile (f : S512x1024.Idx → S512x128.Idx → EReal) {y : S512x1024.Idx} {x : S512x128.Idx} {p : Fin 1024} (h0 : (y 0).val = (x 0).val)
    (h1 : (y 1).val = p.val) (h2 : (y 1).val % 128 = (x 1).val) :
    f (ix2 (n0 := 512) (n1 := 1024) (x 0) p) x = f y (ix2 (n0 := 512) (n1 := 128) (y 0) ⟨(y 1).val % 128, Nat.mod_lt _ (by decide)⟩) := by
  have e : y = ix2 (n0 := 512) (n1 := 1024) (x 0) p := by
    rw [eq_ix2 y, show y 0 = x 0 from Fin.ext h0, show y 1 = p from Fin.ext h1]
  have e' : ix2 (n0 := 512) (n1 := 128) (y 0) ⟨(y 1).val % 128, Nat.mod_lt _ (by decide)⟩ = x := by
    rw [eq_ix2 x, show y 0 = x 0 from Fin.ext h0, show (⟨(y 1).val % 128, Nat.mod_lt _ (by decide)⟩ : Fin 128) = x 1 from Fin.ext h2]
  rw [e', e]

/-- Element `i` of the latent attention's queries: both products, by the tables' lane `j`, scaled. -/
def attendQuery (i : S512x1024.Idx) (j : S512x128.Idx) : EReal :=
  (k0_pay12 (F := Ideal) (iblk m c 5 t) (k0_pay5 (iblk m c 7 t)) (k0_pay9 (iblk m c 0 t) (iblk m c 3 t) (iblk m c 4 t)) (k0_pay10 (iblk m c 0 t) (iblk m c 3 t) (iblk m c 4 t)) i * iblk m c 1 t j
    + k0_pay13 (F := Ideal) (iblk m c 5 t) (k0_pay6 (iblk m c 8 t)) (k0_pay9 (iblk m c 0 t) (iblk m c 3 t) (iblk m c 4 t)) (k0_pay10 (iblk m c 0 t) (iblk m c 3 t) (iblk m c 4 t)) i * iblk m c 2 t j)
    * Ideal.ofBits FTy.f32 1041680192#32

/-- Element `i` of its keys: the product, and lane `j` of the rotated row. -/
def attendKey (i : S512x1024.Idx) (j : S512x128.Idx) : EReal :=
  k0_pay39 (F := Ideal) (k0_pay38 (k0_pay24 (iblk m c 6 t) (k0_pay22 (k0_pay8 (iblk m c 0 t) (iblk m c 3 t) (iblk m c 4 t))) (k0_pay23 (k0_pay8 (iblk m c 0 t) (iblk m c 3 t) (iblk m c 4 t))))) (iblk m c 9 t) i
    + k0_pay25 (F := Ideal) (k0_pay2 (iblk m c 1 t)) (k0_pay3 (iblk m c 2 t)) (k0_pay8 (iblk m c 0 t) (iblk m c 3 t) (iblk m c 4 t)) j

/-- The latent attention's queries, stored a head at a time, -/
theorem after_attend_query (y : S512x1024.Idx) : (dats m 0 c).after 14 t y
    = attendQuery m c t y (ix2 (n0 := 512) (n1 := 128) (y 0) ⟨(y 1).val % 128, Nat.mod_lt _ (by decide)⟩) := by
  rw [after0_14]
  unfold attendQuery
  by_cases h0 : t.val % 4 = 0
  · rw [outsAt0_A m c t h0]
    frame_out
    canon_tiles x h
    all_goals (open_payloads; pointwise)
    all_goals exact of_tile (attendQuery m c t) (by omega) (by simp only []; omega) (by omega)
  · rw [outsAt0_B m c t h0]
    frame_out
    canon_tiles x h
    all_goals (open_payloads; pointwise)
    all_goals exact of_tile (attendQuery m c t) (by omega) (by simp only []; omega) (by omega)

/-- and its keys. -/
theorem after_attend_key (y : S512x1024.Idx) : (dats m 0 c).after 15 t y
    = attendKey m c t y (ix2 (n0 := 512) (n1 := 128) (y 0) ⟨(y 1).val % 128, Nat.mod_lt _ (by decide)⟩) := by
  rw [after0_15]
  unfold attendKey
  by_cases h0 : t.val % 4 = 0
  · rw [outsAt0_A m c t h0]
    frame_out
    canon_tiles x h
    all_goals (open_payloads; pointwise)
    all_goals exact of_tile (attendKey m c t) (by omega) (by simp only []; omega) (by omega)
  · rw [outsAt0_B m c t h0]
    frame_out
    canon_tiles x h
    all_goals (open_payloads; pointwise)
    all_goals exact of_tile (attendKey m c t) (by omega) (by simp only []; omega) (by omega)

end Cert.ProjIdeal.Gen

end
-- ==== Proof.Proj.Row.lean ====
module

public import proofs.«01_k».proof.Proof.Merge.Row

@[expose] public section

noncomputable section

/-! # One row of the projections

Every row of the projections depends on the same row of the input alone, and on its position where it is rotated. -/

namespace Cert.Proj.Row

open Idealize.ShloMosaic

/-- A projection: the row over its root mean square, times the gain, against a column of weights. -/
def col (x g w : Fin 1024 → EReal) : EReal := ∑ k, Cert.Merge.Row.norm x g k * w k

/-- A latent row over its root mean square, times the gain. -/
def latent (x g : Fin 128 → EReal) (d : Fin 128) : EReal :=
  x d * Ideal.rsqrt (Ideal.div (∑ k, x k * x k) (Ideal.ofBits FTy.f32 1124073472#32) + Ideal.ofBits FTy.f32 897988541#32) * g d

/-- The logarithm of the logistic function. -/
def logsig (z : EReal) : EReal := -(max (-z) 0 + Ideal.log1p (Ideal.exp (-FloatOps.absf (F := Ideal) (φ := .f32) (-z))))

/-- A number as a real. -/
def real (n : ℕ) : EReal := FloatOps.sitofp (F := Ideal) .f32 (BitVec.ofNat 32 n)

/-- The angle of position `t` and frequency `j`. -/
def angle (t j : ℕ) : EReal :=
  real t * Ideal.exp (Ideal.div (Ideal.ofBits FTy.f32 3239271822#32 * real j) (Ideal.ofBits FTy.f32 1098907648#32))

/-- Two halves rotated by an angle: the first, -/
def rotA (x y a : EReal) : EReal := x * Ideal.cos a - y * Ideal.sin a

/-- and the second. -/
def rotB (x y a : EReal) : EReal := y * Ideal.cos a + x * Ideal.sin a

/-- A row of 32 lanes rotated at position `t`. -/
def rope (z : Fin 32 → EReal) (t : ℕ) (d : Fin 32) : EReal :=
  if h : d.val < 16 then rotA (z d) (z ⟨16 + d.val, by omega⟩) (angle t d.val)
  else rotB (z ⟨d.val - 16, by omega⟩) (z d) (angle t (d.val - 16))

/-- A query scaled for a softmax to the base two: by the inverse root of the head's width and by the binary logarithm of e. -/
def scaled (z : EReal) : EReal := z * Ideal.ofBits FTy.f32 1040187392#32 * Ideal.ofBits FTy.f32 1069066811#32

/-- A row of 256 lanes over its root mean square, times the gain. -/
def wide (x g : Fin 256 → EReal) (d : Fin 256) : EReal :=
  x d * Ideal.rsqrt (Ideal.div (∑ k, x k * x k) (Ideal.ofBits FTy.f32 1132462080#32) + Ideal.ofBits FTy.f32 897988541#32) * g d

/-- A head's 128 lanes: 32 rotated ones, 64 others, zeros. -/
def packed (a : Fin 32 → EReal) (b : Fin 64 → EReal) (l : Fin 128) : EReal :=
  if h : l.val < 32 then a ⟨l.val, h⟩ else if h : l.val < 96 then b ⟨l.val - 32, by omega⟩ else 0

theorem packed_rotated (a : Fin 32 → EReal) (b : Fin 64 → EReal) (d : Fin 32) : packed a b ⟨d.val, by omega⟩ = a d := by
  rw [packed, dif_pos d.isLt]

theorem packed_other (a : Fin 32 → EReal) (b : Fin 64 → EReal) (d : Fin 64) : packed a b ⟨32 + d.val, by omega⟩ = b d := by
  rw [packed, dif_neg (by simp), dif_pos (by simp only []; omega)]
  exact congrArg b (Fin.ext (by simp only []; omega))

theorem packed_zero (a : Fin 32 → EReal) (b : Fin 64 → EReal) (d : Fin 32) : packed a b ⟨96 + d.val, by omega⟩ = 0 := by
  rw [packed, dif_neg (by simp only []; omega), dif_neg (by simp)]

/-- The word zero is the number zero. -/
theorem sitofp_zero : FloatOps.sitofp (F := Ideal) FTy.f32 0#32 = (0 : EReal) := by
  show (((0#32 : BitVec 32).toInt : ℝ) : EReal) = 0
  simp

/-- What holds of a head's lanes from what holds of its three parts. -/
theorem lanes_cases {P : Fin 128 → Prop} (h1 : ∀ d : Fin 32, P ⟨d.val, by omega⟩) (h2 : ∀ d : Fin 64, P ⟨32 + d.val, by omega⟩)
    (h3 : ∀ d : Fin 32, P ⟨96 + d.val, by omega⟩) (l : Fin 128) : P l := by
  by_cases h : l.val < 32
  · exact h1 ⟨l.val, h⟩
  by_cases h' : l.val < 96
  · have e : l = ⟨32 + (l.val - 32), by omega⟩ := Fin.ext (by simp only []; omega)
    rw [e]
    exact h2 ⟨l.val - 32, by omega⟩
  · have e : l = ⟨96 + (l.val - 96), by omega⟩ := Fin.ext (by simp only []; omega)
    rw [e]
    exact h3 ⟨l.val - 96, by omega⟩

/-- A query's lanes scaled for a softmax to the base two: by the inverse root of 96 times the binary logarithm of e. -/
def weight : EReal := Ideal.ofBits FTy.f32 1041680192#32

end Cert.Proj.Row

end
-- ==== Proof.Proj.Block.lean ====
module

public import proofs.«01_k».proof.Proof.Gen.ProjIdeal.Skeleton
public import proofs.«01_k».proof.Proof.Proj.Row
public import Idealize.ShloMosaic.Lib.Pointwise

@[expose] public section

set_option maxRecDepth 16384

noncomputable section

/-! # What one point of the projections computes, row by row -/

namespace Cert.ProjIdeal.Gen

open Cert.ProjIdeal Cert.ProjIdeal.Gen Idealize.ShloMosaic Idealize.ShloMosaic.TcCoe Cert.Proj.Row

theorem normed_read (x : Vec Ideal S512x1024 .f32) (g : Vec Ideal S1x1024 .f32) (r : Fin 512) (k : Fin 1024) :
    k0_pay4 x g (ix2 r k) = Cert.Merge.Row.norm (fun k => x (ix2 r k)) (fun k => g (ix2 0 k)) k := by
  pointwise [k0_pay4]
  rfl

/-- The rows against the packed input weights. -/
theorem projected_read (x : Vec Ideal S512x1024 .f32) (g : Vec Ideal S1x1024 .f32) (w : Vec Ideal S1024x2304 .bf16) (r : Fin 512) (j : Fin 2304) :
    k0_pay8 x g w (ix2 r j) = col (fun k => x (ix2 r k)) (fun k => g (ix2 0 k)) (fun k => w (ix2 k j)) := by
  unfold col
  simp only [← normed_read]
  unfold k0_pay8
  generalize k0_pay4 x g = y
  pointwise

/-- The latent rows. -/
theorem latent_read (z : FVec Ideal S512x2304 .f32) (g : Vec Ideal S1x128 .f32) (r : Fin 512) (d : Fin 128) :
    k0_pay24 g (k0_pay22 z) (k0_pay23 z) (ix2 r d) = latent (fun k => z (ix2 r ⟨256 + k.val, by omega⟩)) (fun k => g (ix2 0 k)) d := by
  pointwise [k0_pay24, k0_pay22, k0_pay23]
  rfl

/-- The rotated rows, from the two packings of their weights. -/
theorem rotated_read (z : FVec Ideal S512x2304 .f32) (a b : Vec Ideal S512x128 .f32) (r : Fin 512) (d : Fin 32) :
    k0_pay37 (k0_pay25 (k0_pay2 a) (k0_pay3 b) z) (ix2 r d)
      = z (ix2 r ⟨384 + d.val, by omega⟩) * a (ix2 r ⟨d.val, by omega⟩) + z (ix2 r ⟨512 + d.val, by omega⟩) * b (ix2 r ⟨d.val, by omega⟩) := by
  pointwise [k0_pay37, k0_pay25, k0_pay2, k0_pay3]

/-- So before the rotated lanes are cut off. -/
theorem whole_read (z : FVec Ideal S512x2304 .f32) (a b : Vec Ideal S512x128 .f32) (r : Fin 512) (l : Fin 128) :
    k0_pay25 (k0_pay2 a) (k0_pay3 b) z (ix2 r l)
      = z (ix2 r ⟨384 + l.val, by omega⟩) * a (ix2 r l) + z (ix2 r ⟨512 + l.val, by omega⟩) * b (ix2 r l) := by
  pointwise [k0_pay25, k0_pay2, k0_pay3]

/-- The forget gates. -/
theorem gate_read (z : FVec Ideal S512x2304 .f32) (b : Vec Ideal S1x128 .f32) (r : Fin 512) (h : Fin 8) :
    k0_pay55 (k0_pay26 (k0_pay7 b) z) (ix2 r h) = logsig (z (ix2 r ⟨640 + h.val, by omega⟩) + b (ix2 0 ⟨h.val, by omega⟩)) := by
  pointwise [k0_pay55, k0_pay26, k0_pay7]
  rw [logsig]
  simp only [zero_sub]
  generalize z _ + b _ = y
  show -(_ + Ideal.log (1 + Ideal.exp (-max y (-y)))) = -(_ + Ideal.log (1 + Ideal.exp (-max (-y) (- -y))))
  rw [neg_neg, max_comm y]

/-- The keys -/
theorem key_read (y : FVec Ideal S512x1024 .bf16) (w : Vec Ideal S1024x1024 .bf16) (j r : Fin 512) :
    k0_pay52 y w (ix3 0 j r) = ∑ k, y (ix2 r k) * w (ix2 ⟨j.val, by omega⟩ k) := by
  pointwise [k0_pay52, k0_pay51]
  exact Finset.sum_congr rfl fun k _ => mul_comm _ _

/-- and the values, as columns. -/
theorem value_read (y : FVec Ideal S512x1024 .bf16) (w : Vec Ideal S1024x1024 .bf16) (j r : Fin 512) :
    k0_pay53 y w (ix3 0 j r) = ∑ k, y (ix2 r k) * w (ix2 ⟨512 + j.val, by omega⟩ k) := by
  pointwise [k0_pay53, k0_pay51]
  exact Finset.sum_congr rfl fun k _ => mul_comm _ _

/-- once more in half precision. -/
theorem value_half_read (y : FVec Ideal S512x1024 .bf16) (w : Vec Ideal S1024x1024 .bf16) (j r : Fin 512) :
    k0_pay54 y w (ix3 0 j r) = ∑ k, y (ix2 r k) * w (ix2 ⟨512 + j.val, by omega⟩ k) := by
  pointwise [k0_pay54, k0_pay51]
  exact Finset.sum_congr rfl fun k _ => mul_comm _ _

/-- The latent values, as columns. -/
theorem latent_value_read (y : FVec Ideal S512x128 .f32) (w : Vec Ideal S512x128 .bf16) (j r : Fin 512) :
    k0_pay48 (k0_pay38 y) w (ix3 0 j r) = ∑ k, y (ix2 r k) * w (ix2 j k) := by
  pointwise [k0_pay48, k0_pay38]
  exact Finset.sum_congr rfl fun k _ => mul_comm _ _

/-- The queries -/
theorem query_read (z : FVec Ideal S512x2304 .f32) (r j : Fin 512) :
    k0_pay49 (k0_pay27 z) (ix2 r j) = scaled (z (ix2 r ⟨768 + j.val, by omega⟩)) := by
  pointwise [k0_pay49, k0_pay27]
  rfl

/-- and the keys as rows. -/
theorem key_row_read (z : FVec Ideal S512x2304 .f32) (r j : Fin 512) :
    k0_pay50 (k0_pay28 z) (ix2 r j) = z (ix2 r ⟨1280 + j.val, by omega⟩) := by
  pointwise [k0_pay50, k0_pay28]

/-- The rows that make the latent attention's queries. -/
theorem wide_read (x : Vec Ideal S512x1024 .f32) (g : Vec Ideal S1x1024 .f32) (w : Vec Ideal S1024x2304 .bf16) (n : Vec Ideal S1x256 .f32) (r : Fin 512) (d : Fin 256) :
    k0_pay11 n (k0_pay9 x g w) (k0_pay10 x g w) (ix2 r d) = wide (fun k => k0_pay8 x g w (ix2 r ⟨k.val, by omega⟩)) (fun k => n (ix2 0 k)) d := by
  unfold k0_pay10 k0_pay9
  generalize k0_pay8 x g w = z
  pointwise [k0_pay11]
  rfl

/-- The queries from the two packings of their weights, -/
theorem first_read (n : Vec Ideal S1x256 .f32) (a : FVec Ideal S256x1024 .bf16) (z : FVec Ideal S512x256 .f32) (s : FVec Ideal S512 .f32) (r : Fin 512) (j : Fin 1024) :
    k0_pay12 n (k0_pay5 a) z s (ix2 r j) = ∑ k, k0_pay11 n z s (ix2 r k) * a (ix2 k j) := by
  unfold k0_pay12
  generalize k0_pay11 n z s = y
  pointwise [k0_pay5]

theorem second_read (n : Vec Ideal S1x256 .f32) (b : FVec Ideal S256x1024 .bf16) (z : FVec Ideal S512x256 .f32) (s : FVec Ideal S512 .f32) (r : Fin 512) (j : Fin 1024) :
    k0_pay13 n (k0_pay6 b) z s (ix2 r j) = ∑ k, k0_pay11 n z s (ix2 r k) * b (ix2 k j) := by
  unfold k0_pay13
  generalize k0_pay11 n z s = y
  pointwise [k0_pay6]

/-- and the keys without their rotated lanes. -/
theorem plain_key_read (y : FVec Ideal S512x128 .f32) (w : Vec Ideal S128x1024 .bf16) (r : Fin 512) (j : Fin 1024) :
    k0_pay39 (k0_pay38 y) w (ix2 r j) = ∑ k, y (ix2 r k) * w (ix2 k j) := by
  pointwise [k0_pay39, k0_pay38]

end Cert.ProjIdeal.Gen

end
-- ==== Proof.Proj.Host.lean ====
module

public import proofs.«01_k».proof.Proof.Gen.ProjIdeal.Frame.Runs
public import proofs.«01_k».proof.Proof.Proj.Row
public import Idealize.ShloMosaic.Lib.Pointwise
public import Idealize.ShloMosaic.Lib.StableHlo.ReadAt

@[expose] public section

set_option maxRecDepth 16384

noncomputable section

/-! # The operands that the projections' program prepares -/

namespace Cert.ProjIdeal.Gen

open Cert.ProjIdeal Cert.ProjIdeal.Gen Idealize.ShloMosaic Idealize.ShloMosaic.TcCoe Cert.Proj.Row

variable (m : (ℓ : Loc nD τ sig) → Buf (Elt Ideal) ℓ)

/-- The packed keys' and values' weights. -/
theorem V_kv (c : Dev nD) (j k : Fin 1024) :
    V m c main_v44 (ix2 j k) = m ((c : Thread nD τ).loc main_arg2) (ix2 (n0 := 1024) (n1 := 5032) k ⟨928 + j.val, by omega⟩) := by
  unfold V
  after_reads_at
  split_ifs <;> after_reads_at
  all_goals exact congrArg (m _) (congrArg (ix2 k) (Fin.ext (by change 1440 + (j.val - 512) = 928 + j.val; omega)))

/-- The packed forget gates' bias. -/
theorem V_bias (c : Dev nD) (h : Fin 8) :
    V m c main_v35 (ix2 (n0 := 1) (n1 := 128) 0 ⟨h.val, by omega⟩) = m ((c : Thread nD τ).loc main_arg8) (ix1 h) := by
  unfold V
  after_reads_at

/-- The packed input weights: the latent's, -/
theorem V_latent (c : Dev nD) (k : Fin 1024) (d : Fin 128) :
    V m c main_v38 (ix2 (n0 := 1024) (n1 := 2304) k ⟨256 + d.val, by omega⟩) = m ((c : Thread nD τ).loc main_arg2) (ix2 (n0 := 1024) (n1 := 5032) k ⟨256 + d.val, by omega⟩) := by
  unfold V
  after_reads_at
  after_reads_at

/-- the rotation's, -/
theorem V_rope (c : Dev nD) (k : Fin 1024) (d : Fin 32) :
    V m c main_v38 (ix2 (n0 := 1024) (n1 := 2304) k ⟨384 + d.val, by omega⟩) = m ((c : Thread nD τ).loc main_arg2) (ix2 (n0 := 1024) (n1 := 5032) k ⟨384 + d.val, by omega⟩) := by
  unfold V
  after_reads_at
  rw [dif_neg (by omega), dif_neg (by omega), dif_pos (by omega)]
  after_reads_at
  rw [dif_pos (by omega)]
  split_ifs <;> after_reads_at
  all_goals exact congrArg (m _) (congrArg (ix2 k) (Fin.ext (by simp only []; omega)))

/-- the rotation's with its halves exchanged, -/
theorem V_rope_low (c : Dev nD) (k : Fin 1024) (d : Fin 16) :
    V m c main_v38 (ix2 (n0 := 1024) (n1 := 2304) k ⟨512 + d.val, by omega⟩) = m ((c : Thread nD τ).loc main_arg2) (ix2 (n0 := 1024) (n1 := 5032) k ⟨400 + d.val, by omega⟩) := by
  unfold V
  after_reads_at
  rw [dif_neg (by omega), dif_neg (by omega), dif_neg (by omega), dif_pos (by omega)]
  after_reads_at
  rw [dif_pos (by omega), dif_pos (by omega)]
  after_reads_at
  exact congrArg (m _) (congrArg (ix2 k) (Fin.ext (by simp only []; omega)))

theorem V_rope_high (c : Dev nD) (k : Fin 1024) (d : Fin 16) :
    V m c main_v38 (ix2 (n0 := 1024) (n1 := 2304) k ⟨528 + d.val, by omega⟩) = m ((c : Thread nD τ).loc main_arg2) (ix2 (n0 := 1024) (n1 := 5032) k ⟨384 + d.val, by omega⟩) := by
  unfold V
  after_reads_at
  rw [dif_neg (by omega), dif_neg (by omega), dif_neg (by omega), dif_pos (by omega)]
  after_reads_at
  rw [dif_pos (by omega), dif_neg (by omega)]
  after_reads_at
  exact congrArg (m _) (congrArg (ix2 k) (Fin.ext (by simp only []; omega)))

/-- the forget gates', -/
theorem V_gate (c : Dev nD) (k : Fin 1024) (h : Fin 8) :
    V m c main_v38 (ix2 (n0 := 1024) (n1 := 2304) k ⟨640 + h.val, by omega⟩) = m ((c : Thread nD τ).loc main_arg2) (ix2 (n0 := 1024) (n1 := 5032) k ⟨1952 + h.val, by omega⟩) := by
  unfold V
  after_reads_at
  rw [dif_neg (by omega), dif_neg (by omega), dif_neg (by omega), dif_neg (by omega), dif_pos (by omega)]
  after_reads_at
  rw [dif_pos (by omega)]
  exact congrArg (m _) (congrArg (ix2 k) (Fin.ext (by simp only []; omega)))

/-- the queries' -/
theorem V_query (c : Dev nD) (k : Fin 1024) (j : Fin 512) :
    V m c main_v38 (ix2 (n0 := 1024) (n1 := 2304) k ⟨768 + j.val, by omega⟩) = m ((c : Thread nD τ).loc main_arg2) (ix2 (n0 := 1024) (n1 := 5032) k ⟨416 + j.val, by omega⟩) := by
  unfold V
  after_reads_at
  rw [dif_neg (by omega), dif_neg (by omega), dif_neg (by omega), dif_neg (by omega), dif_neg (by omega), dif_pos (by omega)]
  after_reads_at
  exact congrArg (m _) (congrArg (ix2 k) (Fin.ext (by simp only []; omega)))

/-- and the keys'. -/
theorem V_key (c : Dev nD) (k : Fin 1024) (j : Fin 512) :
    V m c main_v38 (ix2 (n0 := 1024) (n1 := 2304) k ⟨1280 + j.val, by omega⟩) = m ((c : Thread nD τ).loc main_arg2) (ix2 (n0 := 1024) (n1 := 5032) k ⟨928 + j.val, by omega⟩) := by
  unfold V
  after_reads_at
  rw [dif_neg (by omega), dif_neg (by omega), dif_neg (by omega), dif_neg (by omega), dif_neg (by omega), dif_neg (by omega), dif_pos (by omega)]
  after_reads_at
  exact congrArg (m _) (congrArg (ix2 k) (Fin.ext (by simp only []; omega)))

/-- The latent values' weights, one row for each head and each lane of it. -/
theorem V_latent_value (c : Dev nD) (j : Fin 512) (k : Fin 128) :
    V m c main_v45 (ix2 (n0 := 512) (n1 := 128) j k) = m ((c : Thread nD τ).loc main_arg7) (ix3 (n0 := 128) (n1 := 8) (n2 := 64) k ⟨j.val / 64, by omega⟩ ⟨j.val % 64, by omega⟩) := by
  unfold V
  after_reads_at

/-- The first packing of the latent attention's queries' weights: a head's rotated lanes, -/
theorem V_first_rotated (c : Dev nD) (k : Fin 256) (h : Fin 8) (d : Fin 32) :
    V m c main_v40 (ix2 (n0 := 256) (n1 := 1024) k ⟨h.val * 128 + d.val, by omega⟩) = m ((c : Thread nD τ).loc main_arg5) (ix2 (n0 := 256) (n1 := 768) k ⟨h.val * 96 + (64 + d.val), by omega⟩) := by
  unfold V
  after_reads_at
  by_cases e : d.val < 16
  · rw [dif_pos (by omega)]
    after_reads_at
    exact congrArg (m _) (congrArg (ix2 k) (Fin.ext (by simp only []; omega)))
  · rw [dif_neg (by omega), dif_pos (by omega)]
    after_reads_at
    exact congrArg (m _) (congrArg (ix2 k) (Fin.ext (by simp only []; omega)))

/-- its others -/
theorem V_first_other (c : Dev nD) (k : Fin 256) (h : Fin 8) (d : Fin 64) :
    V m c main_v40 (ix2 (n0 := 256) (n1 := 1024) k ⟨h.val * 128 + (32 + d.val), by omega⟩) = m ((c : Thread nD τ).loc main_arg5) (ix2 (n0 := 256) (n1 := 768) k ⟨h.val * 96 + d.val, by omega⟩) := by
  unfold V
  after_reads_at
  rw [dif_neg (by omega), dif_neg (by omega), dif_pos (by omega)]
  after_reads_at
  all_goals exact congrArg (m _) (congrArg (ix2 k) (Fin.ext (by simp only []; omega)))

/-- and its zeros; -/
theorem V_first_zero (c : Dev nD) (k : Fin 256) (h : Fin 8) (d : Fin 32) :
    V m c main_v40 (ix2 (n0 := 256) (n1 := 1024) k ⟨h.val * 128 + (96 + d.val), by omega⟩) = (0 : EReal) := by
  unfold V
  after_reads_at
  rw [dif_neg (by omega), dif_neg (by omega), dif_neg (by omega)]
  after_reads_at

/-- the second: the rotated lanes with their halves exchanged, zeros. -/
theorem V_second_low (c : Dev nD) (k : Fin 256) (h : Fin 8) (d : Fin 16) :
    V m c main_v41 (ix2 (n0 := 256) (n1 := 1024) k ⟨h.val * 128 + d.val, by omega⟩) = m ((c : Thread nD τ).loc main_arg5) (ix2 (n0 := 256) (n1 := 768) k ⟨h.val * 96 + (80 + d.val), by omega⟩) := by
  unfold V
  after_reads_at
  rw [dif_pos (by omega)]
  after_reads_at
  all_goals exact congrArg (m _) (congrArg (ix2 k) (Fin.ext (by simp only []; omega)))

theorem V_second_high (c : Dev nD) (k : Fin 256) (h : Fin 8) (d : Fin 16) :
    V m c main_v41 (ix2 (n0 := 256) (n1 := 1024) k ⟨h.val * 128 + (16 + d.val), by omega⟩) = m ((c : Thread nD τ).loc main_arg5) (ix2 (n0 := 256) (n1 := 768) k ⟨h.val * 96 + (64 + d.val), by omega⟩) := by
  unfold V
  after_reads_at
  rw [dif_neg (by omega), dif_pos (by omega)]
  after_reads_at
  all_goals exact congrArg (m _) (congrArg (ix2 k) (Fin.ext (by simp only []; omega)))

/-- The packed latent keys' weights: zeros at a head's rotated lanes, -/
theorem V_plain_rotated (c : Dev nD) (k : Fin 128) (h : Fin 8) (d : Fin 32) :
    V m c main_v42 (ix2 (n0 := 128) (n1 := 1024) k ⟨h.val * 128 + d.val, by omega⟩) = (0 : EReal) := by
  unfold V
  after_reads_at
  rw [dif_pos (by omega)]
  after_reads_at

/-- the weights at its others -/
theorem V_plain_other (c : Dev nD) (k : Fin 128) (h : Fin 8) (d : Fin 64) :
    V m c main_v42 (ix2 (n0 := 128) (n1 := 1024) k ⟨h.val * 128 + (32 + d.val), by omega⟩) = m ((c : Thread nD τ).loc main_arg6) (ix3 (n0 := 128) (n1 := 8) (n2 := 64) k h d) := by
  unfold V
  after_reads_at
  rw [dif_neg (by omega), dif_pos (by omega)]
  after_reads_at
  all_goals exact congrArg (m _) (congrArg₂ (ix3 k) (Fin.ext (by simp only []; omega)) (Fin.ext (by simp only []; omega)))

/-- and zeros again. -/
theorem V_plain_zero (c : Dev nD) (k : Fin 128) (h : Fin 8) (d : Fin 32) :
    V m c main_v42 (ix2 (n0 := 128) (n1 := 1024) k ⟨h.val * 128 + (96 + d.val), by omega⟩) = (0 : EReal) := by
  unfold V
  after_reads_at
  rw [dif_neg (by omega), dif_neg (by omega)]
  after_reads_at

/-- The packed input weights of the lanes past the rotated ones are zeros. -/
theorem V_rope_zero (c : Dev nD) (k : Fin 1024) (d : Fin 96) :
    V m c main_v38 (ix2 (n0 := 1024) (n1 := 2304) k ⟨384 + (32 + d.val), by omega⟩) = (0 : EReal) := by
  unfold V
  after_reads_at
  rw [dif_neg (by omega), dif_neg (by omega), dif_pos (by omega)]
  after_reads_at
  rw [dif_neg (by omega)]
  exact sitofp_zero

/-- The packed input weights of the rows that make the latent attention's queries. -/
theorem V_wide (c : Dev nD) (k : Fin 1024) (d : Fin 256) :
    V m c main_v38 (ix2 (n0 := 1024) (n1 := 2304) k ⟨d.val, by omega⟩) = m ((c : Thread nD τ).loc main_arg2) (ix2 (n0 := 1024) (n1 := 5032) k ⟨d.val, by omega⟩) := by
  unfold V
  after_reads_at
  after_reads_at

/-- The tables past the rotated lanes: ones and then zeros for the cosines, -/
theorem V_cos_other (c : Dev nD) (t : Fin 2048) (d : Fin 64) :
    V m c main_v65 (ix2 (n0 := 2048) (n1 := 128) t ⟨32 + d.val, by omega⟩) = (1 : EReal) := by
  unfold V
  after_reads_at
  have h : IntOp.cmpi .slt (BitVec.ofNat 32 (32 + d.val)) 32#32 = 0#1 := by revert d; decide +kernel
  have h' : IntOp.cmpi .slt (BitVec.ofNat 32 (32 + d.val)) 96#32 = 1#1 := by revert d; decide +kernel
  rw [h]
  change Scalar.select (IntOp.cmpi .slt (BitVec.ofNat 32 (32 + d.val)) 96#32) (Ideal.ofBits .f32 1065353216#32) (Ideal.ofBits .f32 0#32) = 1
  rw [h']
  exact Ideal.ofBits_one_f32

/-- zeros for the sines. -/
theorem V_sin_other (c : Dev nD) (t : Fin 2048) (d : Fin 96) :
    V m c main_v72 (ix2 (n0 := 2048) (n1 := 128) t ⟨32 + d.val, by omega⟩) = (0 : EReal) := by
  unfold V
  after_reads_at
  have h : IntOp.cmpi .slt (BitVec.ofNat 32 (32 + d.val)) 16#32 = 0#1 := by revert d; decide +kernel
  have h' : IntOp.cmpi .slt (BitVec.ofNat 32 (32 + d.val)) 32#32 = 0#1 := by revert d; decide +kernel
  rw [h]
  change Scalar.select (IntOp.cmpi .slt (BitVec.ofNat 32 (32 + d.val)) 32#32) _ (Ideal.ofBits .f32 0#32) = 0
  rw [h']
  exact Ideal.ofBits_zero_f32

/-- The table of cosines. -/
theorem V_cos (c : Dev nD) (t : Fin 2048) (d : Fin 32) :
    V m c main_v65 (ix2 (n0 := 2048) (n1 := 128) t ⟨d.val, by omega⟩) = Ideal.cos (angle t.val (d.val % 16)) := by
  unfold V
  after_reads_at
  have h : IntOp.cmpi .slt (BitVec.ofNat 32 d.val) 32#32 = 1#1 := by revert d; decide +kernel
  rw [h]
  refine congrArg Ideal.cos (congrArg₂ (· * ·) rfl (congrArg Ideal.exp (congrArg₂ Ideal.div (congrArg₂ (· * ·) rfl (congrArg (FloatOps.sitofp .f32) ?_)) rfl)))
  clear h
  revert d
  decide +kernel

/-- The table of sines: negated over the first half. -/
theorem V_sin_low (c : Dev nD) (t : Fin 2048) (d : Fin 16) :
    V m c main_v72 (ix2 (n0 := 2048) (n1 := 128) t ⟨d.val, by omega⟩) = -Ideal.sin (angle t.val d.val) := by
  unfold V
  after_reads_at
  have h : IntOp.cmpi .slt (BitVec.ofNat 32 d.val) 16#32 = 1#1 := by revert d; decide +kernel
  rw [h]
  refine congrArg (-Ideal.sin ·) (congrArg₂ (· * ·) rfl (congrArg Ideal.exp (congrArg₂ Ideal.div (congrArg₂ (· * ·) rfl (congrArg (FloatOps.sitofp .f32) ?_)) rfl)))
  clear h
  revert d
  decide +kernel

theorem V_sin_high (c : Dev nD) (t : Fin 2048) (d : Fin 16) :
    V m c main_v72 (ix2 (n0 := 2048) (n1 := 128) t ⟨16 + d.val, by omega⟩) = Ideal.sin (angle t.val d.val) := by
  unfold V
  after_reads_at
  have h : IntOp.cmpi .slt (BitVec.ofNat 32 (16 + d.val)) 16#32 = 0#1 := by revert d; decide +kernel
  have h' : IntOp.cmpi .slt (BitVec.ofNat 32 (16 + d.val)) 32#32 = 1#1 := by revert d; decide +kernel
  rw [h, h']
  refine congrArg Ideal.sin (congrArg₂ (· * ·) rfl (congrArg Ideal.exp (congrArg₂ Ideal.div (congrArg₂ (· * ·) rfl (congrArg (FloatOps.sitofp .f32) ?_)) rfl)))
  clear h h'
  revert d
  decide +kernel

end Cert.ProjIdeal.Gen

end
-- ==== Proof.Proj.Array.lean ====
module

public import proofs.«01_k».proof.Proof.Proj.Open
public import proofs.«01_k».proof.Proof.Proj.Block
public import proofs.«01_k».proof.Proof.Proj.Host

@[expose] public section

set_option maxRecDepth 16384

noncomputable section

/-! # The projections' result arrays as functions of the argument arrays -/

namespace Cert.ProjIdeal.Gen

open Cert.ProjIdeal Cert.ProjIdeal.Gen Idealize.ShloMosaic Idealize.ShloMosaic.TcCoe
open Idealize.SL.Sem
open Idealize.ShloMosaic.Pipeline (Dat)
open Cert.Proj.Row

section Results

variable (x : Vec Ideal S16384x1024 .f32) (n : Vec Ideal S1x1024 .f32) (w : Vec Ideal S1024x5032 .f32)

/-- Row `r` against column `j` of the input weights. -/
def colAt (r : Fin 16384) (j : Fin 5032) : EReal :=
  col (fun k => x (ix2 r k)) (fun k => n (ix2 0 k)) (fun k => w (ix2 k j))

/-- The results: the latent rows, -/
def latentAt (g : Vec Ideal S1x128 .f32) : Vec Ideal S16384x128 .f32 := fun i =>
  latent (fun k => colAt x n w (i 0) ⟨256 + k.val, by omega⟩) (fun k => g (ix2 0 k)) (i 1)

/-- the rotated rows, -/
def ropeAt : Vec Ideal S16384x32 .f32 := fun i =>
  rope (fun d => colAt x n w (i 0) ⟨384 + d.val, by omega⟩) ((i 0).val % 2048) (i 1)

/-- rows stood up as columns, for every batch: -/
def columns (f : Fin 16384 → Fin 512 → EReal) : Vec Ideal S8x512x2048 .f32 := fun i =>
  f ⟨(i 0).val * 2048 + (i 2).val, by
    have h0 : (i 0).val < 8 := (i 0).isLt
    have h2 : (i 2).val < 2048 := (i 2).isLt
    omega⟩ (i 1)

/-- the keys, -/
def keyAt : Vec Ideal S8x512x2048 .f32 := columns fun r j => colAt x n w r ⟨928 + j.val, by omega⟩

/-- the values -/
def valueAt : Vec Ideal S8x512x2048 .f32 := columns fun r j => colAt x n w r ⟨1440 + j.val, by omega⟩

/-- the forget gates, -/
def gateAt (b : Vec Ideal S8 .f32) : Vec Ideal S16384x8 .f32 := fun i =>
  logsig (colAt x n w (i 0) ⟨1952 + (i 1).val, by have h : (i 1).val < 8 := (i 1).isLt; omega⟩ + b (ix1 (n0 := 8) (i 1)))

/-- and in half precision the latent values as columns, one for each head and each lane of it, -/
def latentValueAt (g : Vec Ideal S1x128 .f32) (v : Vec Ideal S128x8x64 .f32) : Vec Ideal S8x512x2048 .bf16 := columns fun r j =>
  ∑ k : Fin 128, latentAt x n w g (ix2 r k) * v (ix3 k ⟨j.val / 64, by omega⟩ ⟨j.val % 64, by omega⟩)

/-- the scaled queries, -/
def queryAt : Vec Ideal S16384x512 .bf16 := fun i =>
  scaled (colAt x n w (i 0) ⟨416 + (i 1).val, by have h : (i 1).val < 512 := (i 1).isLt; omega⟩)

/-- the keys as rows -/
def keyRowAt : Vec Ideal S16384x512 .bf16 := fun i =>
  colAt x n w (i 0) ⟨928 + (i 1).val, by have h : (i 1).val < 512 := (i 1).isLt; omega⟩

/-- and the values as columns once more. -/
def valueHalfAt : Vec Ideal S8x512x2048 .bf16 := valueAt x n w

end Results

theorem index_row0 : ∀ t : Fin grid0.N, win0_0.index t 0 = t.val := by decide +kernel
theorem index_row1 : ∀ t : Fin grid0.N, win0_1.index t 0 = t.val % 4 := by decide +kernel
theorem index_row2 : ∀ t : Fin grid0.N, win0_2.index t 0 = t.val % 4 := by decide +kernel
theorem index_row17 : ∀ t : Fin grid0.N, win0_17.index t 0 = t.val := by decide +kernel
theorem index_row18 : ∀ t : Fin grid0.N, win0_18.index t 0 = t.val := by decide +kernel
theorem index_row19 : ∀ t : Fin grid0.N, win0_19.index t 0 = t.val := by decide +kernel
theorem index_row20 : ∀ t : Fin grid0.N, win0_20.index t 0 = t.val := by decide +kernel
theorem index_row24 : ∀ t : Fin grid0.N, win0_24.index t 0 = t.val := by decide +kernel
theorem index_batch16 : ∀ t : Fin grid0.N, win0_16.index t 0 = t.val / 4 := by decide +kernel
theorem index_batch21 : ∀ t : Fin grid0.N, win0_21.index t 0 = t.val / 4 := by decide +kernel
theorem index_batch22 : ∀ t : Fin grid0.N, win0_22.index t 0 = t.val / 4 := by decide +kernel
theorem index_batch23 : ∀ t : Fin grid0.N, win0_23.index t 0 = t.val / 4 := by decide +kernel
theorem index_place16 : ∀ t : Fin grid0.N, win0_16.index t 2 = t.val % 4 := by decide +kernel
theorem index_place21 : ∀ t : Fin grid0.N, win0_21.index t 2 = t.val % 4 := by decide +kernel
theorem index_place22 : ∀ t : Fin grid0.N, win0_22.index t 2 = t.val % 4 := by decide +kernel
theorem index_place23 : ∀ t : Fin grid0.N, win0_23.index t 2 = t.val % 4 := by decide +kernel

theorem eq_ix2_of {n0 n1 : ℕ} {i : (⟨2, ![n0, n1]⟩ : Shape).Idx} {a : Fin n0} {b : Fin n1} (ha : (i 0).val = a.val)
    (hb : (i 1).val = b.val) : i = ix2 (n0 := n0) (n1 := n1) a b := by
  rw [eq_ix2 i, show i 0 = a from Fin.ext ha, show i 1 = b from Fin.ext hb]

theorem eq_ix3_of {n0 n1 n2 : ℕ} {i : (⟨3, ![n0, n1, n2]⟩ : Shape).Idx} {a : Fin n0} {b : Fin n1} {d : Fin n2} (ha : (i 0).val = a.val)
    (hb : (i 1).val = b.val) (hd : (i 2).val = d.val) : i = ix3 (n0 := n0) (n1 := n1) (n2 := n2) a b d := by
  rw [eq_ix3 i, show i 0 = a from Fin.ext ha, show i 1 = b from Fin.ext hb, show i 2 = d from Fin.ext hd]

theorem from_zero (n k : ℕ) : 0 * n + 1 * k = k := by omega

theorem from_row {a t : ℕ} (h : a = t) (r : ℕ) : a * 512 + 1 * r = 512 * t + r := by omega

theorem from_one {a t : ℕ} (h : a = t) : a * 1 + 1 * 0 = t := by omega

variable (m : (ℓ : Loc nD τ sig) → Buf (Elt Ideal) ℓ) (c : Dev nD) (t : Fin cfg0.N)

theorem grid_points : cfg0.N = 32 := by decide +kernel

/-- Row `r` of point `t`, -/
abbrev rowOf (r : Fin 512) : Fin 16384 := ⟨512 * t.val + r.val, by
  have := lt_of_lt_of_eq t.isLt grid_points
  omega⟩

/-- its position in its batch -/
abbrev posOf (r : Fin 512) : Fin 2048 := ⟨512 * (t.val % 4) + r.val, by omega⟩

/-- and its batch. -/
abbrev batchOf : Fin 8 := ⟨t.val / 4, by
  have := lt_of_lt_of_eq t.isLt grid_points
  omega⟩

/-- The windows: the rows and the tables of their positions move, -/
theorem iblk0 (r : Fin 512) (k : Fin 1024) : iblk m c 0 t (ix2 r k) = m ((c : Thread nD τ).loc main_arg0) (ix2 (rowOf t r) k) :=
  (congrArg (V m c main_arg0) (eq_ix2_of (from_row (index_row0 t) _) (from_zero _ _))).trans (congrFun (V_main_arg0 m c) _)
theorem iblk1 (r : Fin 512) (k : Fin 128) : iblk m c 1 t (ix2 r k) = V m c main_v65 (ix2 (posOf t r) k) :=
  congrArg (V m c main_v65) (eq_ix2_of (from_row (index_row1 t) _) (from_zero _ _))
theorem iblk2 (r : Fin 512) (k : Fin 128) : iblk m c 2 t (ix2 r k) = V m c main_v72 (ix2 (posOf t r) k) :=
  congrArg (V m c main_v72) (eq_ix2_of (from_row (index_row2 t) _) (from_zero _ _))

/-- and the others hold their arrays whole. -/
theorem iblk3 (k : Fin 1) (j : Fin 1024) : iblk m c 3 t (ix2 k j) = m ((c : Thread nD τ).loc main_arg1) (ix2 k j) :=
  (congrArg (V m c main_arg1) (eq_ix2_of (from_zero _ _) (from_zero _ _))).trans (congrFun (V_main_arg1 m c) _)
theorem iblk4 (k : Fin 1024) (j : Fin 2304) : iblk m c 4 t (ix2 k j) = V m c main_v38 (ix2 k j) :=
  congrArg (V m c main_v38) (eq_ix2_of (from_zero _ _) (from_zero _ _))
theorem iblk6 (k : Fin 1) (j : Fin 128) : iblk m c 6 t (ix2 k j) = m ((c : Thread nD τ).loc main_arg4) (ix2 k j) :=
  (congrArg (V m c main_arg4) (eq_ix2_of (from_zero _ _) (from_zero _ _))).trans (congrFun (V_main_arg4 m c) _)
theorem iblk10 (k : Fin 512) (j : Fin 128) : iblk m c 10 t (ix2 k j) = V m c main_v45 (ix2 k j) :=
  congrArg (V m c main_v45) (eq_ix2_of (from_zero _ _) (from_zero _ _))
theorem iblk11 (k : Fin 1) (j : Fin 128) : iblk m c 11 t (ix2 k j) = V m c main_v35 (ix2 k j) :=
  congrArg (V m c main_v35) (eq_ix2_of (from_zero _ _) (from_zero _ _))
theorem iblk12 (k j : Fin 1024) : iblk m c 12 t (ix2 k j) = V m c main_v44 (ix2 k j) :=
  congrArg (V m c main_v44) (eq_ix2_of (from_zero _ _) (from_zero _ _))

/-- Device `c`'s columns. -/
abbrev colOf (r : Fin 16384) (j : Fin 5032) : EReal :=
  colAt (m ((c : Thread nD τ).loc main_arg0)) (m ((c : Thread nD τ).loc main_arg1)) (m ((c : Thread nD τ).loc main_arg2)) r j

/-- A column of the packed products is the column of the weights packed there. -/
theorem cols_eq (r : Fin 512) {p : Fin 2304} {j : Fin 5032}
    (h : ∀ k, V m c main_v38 (ix2 k p) = m ((c : Thread nD τ).loc main_arg2) (ix2 (n0 := 1024) (n1 := 5032) k j)) :
    cols m c t (ix2 r p) = colOf m c (rowOf t r) j := by
  refine (projected_read _ _ _ _ _).trans ?_
  rw [colOf, colAt]
  simp only [iblk0, iblk3, iblk4, h]

/-- So with the keys' and the values'. -/
theorem rows_eq (r : Fin 512) {p : Fin 1024} {j : Fin 5032}
    (h : ∀ k, V m c main_v44 (ix2 p k) = m ((c : Thread nD τ).loc main_arg2) (ix2 (n0 := 1024) (n1 := 5032) k j)) :
    ∑ k, rows m c t (ix2 r k) * iblk m c 12 t (ix2 p k) = colOf m c (rowOf t r) j := by
  rw [colOf, colAt, col]
  refine Finset.sum_congr rfl fun k _ => ?_
  rw [rows, normed_read]
  simp only [iblk0, iblk3, iblk12, h]

/-- The latent rows of a point. -/
theorem point_latent (r : Fin 512) (d : Fin 128) : (dats m 0 c).after 17 t (ix2 r d)
    = latent (fun k => colOf m c (rowOf t r) ⟨256 + k.val, by omega⟩) (fun k => m ((c : Thread nD τ).loc main_arg4) (ix2 (n0 := 1) (n1 := 128) 0 k)) d := by
  rw [after_latent, latent_read]
  simp only [iblk6, cols_eq m c t r (V_latent m c · _)]

/-- The keys of a point, -/
theorem point_key (j r : Fin 512) : (dats m 0 c).after 22 t (ix3 0 j r) = colOf m c (rowOf t r) ⟨928 + j.val, by omega⟩ := by
  rw [after_key, key_read]
  exact rows_eq m c t r fun k => V_kv m c _ k

/-- its values -/
theorem point_value (j r : Fin 512) : (dats m 0 c).after 23 t (ix3 0 j r) = colOf m c (rowOf t r) ⟨1440 + j.val, by omega⟩ := by
  rw [after_value, value_read]
  exact rows_eq m c t r fun k => (V_kv m c _ k).trans (congrArg (m _) (congrArg (ix2 k) (Fin.ext (by simp only []; omega))))

/-- and its forget gates. -/
theorem point_gate (r : Fin 512) (h : Fin 8) : (dats m 0 c).after 24 t (ix2 r h)
    = logsig (colOf m c (rowOf t r) ⟨1952 + h.val, by omega⟩ + m ((c : Thread nD τ).loc main_arg8) (ix1 h)) := by
  rw [after_gate, gate_read, cols_eq m c t r (V_gate m c · h), iblk11, V_bias]

/-- Its queries, -/
theorem point_query (r j : Fin 512) : (dats m 0 c).after 19 t (ix2 r j) = scaled (colOf m c (rowOf t r) ⟨416 + j.val, by omega⟩) := by
  rw [after_query, query_read, cols_eq m c t r (V_query m c · j)]

/-- its keys as rows, -/
theorem point_key_row (r j : Fin 512) : (dats m 0 c).after 20 t (ix2 r j) = colOf m c (rowOf t r) ⟨928 + j.val, by omega⟩ := by
  rw [after_key_row, key_row_read, cols_eq m c t r (V_key m c · j)]

/-- its values once more -/
theorem point_value_half (j r : Fin 512) : (dats m 0 c).after 21 t (ix3 0 j r) = colOf m c (rowOf t r) ⟨1440 + j.val, by omega⟩ := by
  rw [after_value_half, value_half_read]
  exact rows_eq m c t r fun k => (V_kv m c _ k).trans (congrArg (m _) (congrArg (ix2 k) (Fin.ext (by simp only []; omega))))

/-- and its latent values. -/
theorem point_latent_value (j r : Fin 512) : (dats m 0 c).after 16 t (ix3 0 j r)
    = (∑ k : Fin 128, latentAt (m ((c : Thread nD τ).loc main_arg0)) (m ((c : Thread nD τ).loc main_arg1)) (m ((c : Thread nD τ).loc main_arg2)) (m ((c : Thread nD τ).loc main_arg4)) (ix2 (rowOf t r) k)
        * m ((c : Thread nD τ).loc main_arg7) (ix3 (n0 := 128) (n1 := 8) (n2 := 64) k ⟨j.val / 64, by omega⟩ ⟨j.val % 64, by omega⟩) : EReal) := by
  rw [after_latent_value, latent_value_read]
  show @Eq EReal _ _
  refine Finset.sum_congr rfl fun k _ => congrArg₂ (· * ·) ?_ ?_
  · exact (congrFun (after_latent m c t) (ix2 r k)).symm.trans (point_latent m c t r k)
  · rw [iblk10, V_latent_value]

/-- The rotated rows: the second packing has the halves exchanged, and the table of sines is negated over the first half. -/
theorem point_rope (r : Fin 512) (d : Fin 32) : (dats m 0 c).after 18 t (ix2 r d)
    = rope (fun d => colOf m c (rowOf t r) ⟨384 + d.val, by omega⟩) (posOf t r).val d := by
  rw [after_rope, rotated_read, cols_eq m c t r (V_rope m c · d), iblk1, iblk2, V_cos m c (posOf t r) d]
  obtain ⟨d, hd⟩ := d
  by_cases h : d < 16
  · have e : d % 16 = d := Nat.mod_eq_of_lt h
    rw [cols_eq m c t r (V_rope_low m c · ⟨d, h⟩), V_sin_low m c (posOf t r) ⟨d, h⟩, rope, dif_pos h, rotA, sub_eq_add_neg, mul_neg]
    simp only [e]
    refine congrArg (_ + -· ) (congrArg (· * _) (congrArg (colOf m c _) (Fin.ext ?_)))
    show 400 + d = 384 + (16 + d)
    omega
  · obtain ⟨e, rfl⟩ : ∃ e, d = 16 + e := ⟨d - 16, by omega⟩
    have he : e < 16 := by omega
    have h1 : (16 + e) % 16 = e := by omega
    have h2 : 16 + e - 16 = e := by omega
    rw [rope, dif_neg h, rotB]
    simp only [h1, h2]
    refine congrArg (_ + ·) (congrArg₂ (· * ·) ?_ (V_sin_high m c (posOf t r) ⟨e, he⟩))
    refine Eq.trans ?_ (cols_eq m c t r (V_rope_high m c · ⟨e, he⟩))
    exact congrArg (cols m c t) (congrArg (ix2 r) (Fin.ext (by simp only []; omega)))

/-- The arrays after the run: the points' blocks tile them. -/
theorem final_latent : (dats m 0 c).arrAt 17 cfg0.N
    = latentAt (m ((c : Thread nD τ).loc main_arg0)) (m ((c : Thread nD τ).loc main_arg1)) (m ((c : Thread nD τ).loc main_arg2)) (m ((c : Thread nD τ).loc main_arg4)) := by
  refine (dats m 0 c).arrAt_eq_of_covers 17 _ (by decide +kernel) fun t hf y => ?_
  obtain ⟨r, d, rfl⟩ : ∃ (r : Fin 512) (d : Fin 128), y = ix2 r d := ⟨y 0, y 1, eq_ix2 y⟩
  have e : (win0_17.blk t).view.emb (ix2 r d) = ix2 (rowOf t r) d :=
    eq_ix2_of (from_row (index_row17 t) _) (from_zero _ _)
  blk_simp
  rw [e]
  exact point_latent m c t r d

theorem final_rope : (dats m 0 c).arrAt 18 cfg0.N
    = ropeAt (m ((c : Thread nD τ).loc main_arg0)) (m ((c : Thread nD τ).loc main_arg1)) (m ((c : Thread nD τ).loc main_arg2)) := by
  refine (dats m 0 c).arrAt_eq_of_covers 18 _ (by decide +kernel) fun t hf y => ?_
  obtain ⟨r, d, rfl⟩ : ∃ (r : Fin 512) (d : Fin 32), y = ix2 r d := ⟨y 0, y 1, eq_ix2 y⟩
  have e : (win0_18.blk t).view.emb (ix2 r d) = ix2 (rowOf t r) d :=
    eq_ix2_of (from_row (index_row18 t) _) (from_zero _ _)
  blk_simp
  rw [e]
  exact (point_rope m c t r d).trans (congrArg (rope _ · d) (by
    show 512 * (t.val % 4) + r.val = (512 * t.val + r.val) % 2048
    omega))

/-- A row by its batch and its position. -/
theorem row_eq (r : Fin 512) : rowOf t r = (⟨(batchOf t).val * 2048 + (posOf t r).val, by omega⟩ : Fin 16384) :=
  Fin.ext (by show 512 * t.val + r.val = t.val / 4 * 2048 + (512 * (t.val % 4) + r.val); omega)

theorem final_key : (dats m 0 c).arrAt 22 cfg0.N = keyAt (m ((c : Thread nD τ).loc main_arg0)) (m ((c : Thread nD τ).loc main_arg1)) (m ((c : Thread nD τ).loc main_arg2)) := by
  refine (dats m 0 c).arrAt_eq_of_covers 22 _ (by decide +kernel) fun t hf y => ?_
  obtain ⟨j, r, rfl⟩ : ∃ j r : Fin 512, y = ix3 0 j r := ⟨y 1, y 2, (eq_ix3 y).trans (congrArg (fun b : Fin 1 => ix3 b (y 1) (y 2)) (Subsingleton.elim _ _))⟩
  have e : (win0_22.blk t).view.emb (ix3 0 j r) = ix3 (batchOf t) j (posOf t r) :=
    eq_ix3_of (from_one (index_batch22 t)) (from_zero _ _) (from_row (index_place22 t) _)
  blk_simp
  rw [e]
  exact (point_key m c t j r).trans (congrArg (colOf m c · _) (row_eq t r))

theorem final_value : (dats m 0 c).arrAt 23 cfg0.N = valueAt (m ((c : Thread nD τ).loc main_arg0)) (m ((c : Thread nD τ).loc main_arg1)) (m ((c : Thread nD τ).loc main_arg2)) := by
  refine (dats m 0 c).arrAt_eq_of_covers 23 _ (by decide +kernel) fun t hf y => ?_
  obtain ⟨j, r, rfl⟩ : ∃ j r : Fin 512, y = ix3 0 j r := ⟨y 1, y 2, (eq_ix3 y).trans (congrArg (fun b : Fin 1 => ix3 b (y 1) (y 2)) (Subsingleton.elim _ _))⟩
  have e : (win0_23.blk t).view.emb (ix3 0 j r) = ix3 (batchOf t) j (posOf t r) :=
    eq_ix3_of (from_one (index_batch23 t)) (from_zero _ _) (from_row (index_place23 t) _)
  blk_simp
  rw [e]
  exact (point_value m c t j r).trans (congrArg (colOf m c · _) (row_eq t r))

theorem final_gate : (dats m 0 c).arrAt 24 cfg0.N
    = gateAt (m ((c : Thread nD τ).loc main_arg0)) (m ((c : Thread nD τ).loc main_arg1)) (m ((c : Thread nD τ).loc main_arg2)) (m ((c : Thread nD τ).loc main_arg8)) := by
  refine (dats m 0 c).arrAt_eq_of_covers 24 _ (by decide +kernel) fun t hf y => ?_
  obtain ⟨r, d, rfl⟩ : ∃ (r : Fin 512) (d : Fin 8), y = ix2 r d := ⟨y 0, y 1, eq_ix2 y⟩
  have e : (win0_24.blk t).view.emb (ix2 r d) = ix2 (rowOf t r) d :=
    eq_ix2_of (from_row (index_row24 t) _) (from_zero _ _)
  blk_simp
  rw [e]
  exact point_gate m c t r d

theorem final_latent_value : (dats m 0 c).arrAt 16 cfg0.N
    = latentValueAt (m ((c : Thread nD τ).loc main_arg0)) (m ((c : Thread nD τ).loc main_arg1)) (m ((c : Thread nD τ).loc main_arg2)) (m ((c : Thread nD τ).loc main_arg4)) (m ((c : Thread nD τ).loc main_arg7)) := by
  refine (dats m 0 c).arrAt_eq_of_covers 16 _ (by decide +kernel) fun t hf y => ?_
  obtain ⟨j, r, rfl⟩ : ∃ j r : Fin 512, y = ix3 0 j r := ⟨y 1, y 2, (eq_ix3 y).trans (congrArg (fun b : Fin 1 => ix3 b (y 1) (y 2)) (Subsingleton.elim _ _))⟩
  have e : (win0_16.blk t).view.emb (ix3 0 j r) = ix3 (batchOf t) j (posOf t r) :=
    eq_ix3_of (from_one (index_batch16 t)) (from_zero _ _) (from_row (index_place16 t) _)
  blk_simp
  rw [e]
  refine (point_latent_value m c t j r).trans ?_
  show @Eq EReal _ _
  exact (Finset.sum_congr rfl fun k _ => congrArg (fun r => latentAt _ _ _ _ (ix2 r k) * _) (row_eq t r))

theorem final_query : (dats m 0 c).arrAt 19 cfg0.N
    = queryAt (m ((c : Thread nD τ).loc main_arg0)) (m ((c : Thread nD τ).loc main_arg1)) (m ((c : Thread nD τ).loc main_arg2)) := by
  refine (dats m 0 c).arrAt_eq_of_covers 19 _ (by decide +kernel) fun t hf y => ?_
  obtain ⟨r, j, rfl⟩ : ∃ r j : Fin 512, y = ix2 r j := ⟨y 0, y 1, eq_ix2 y⟩
  have e : (win0_19.blk t).view.emb (ix2 r j) = ix2 (rowOf t r) j :=
    eq_ix2_of (from_row (index_row19 t) _) (from_zero _ _)
  blk_simp
  rw [e]
  exact point_query m c t r j

theorem final_key_row : (dats m 0 c).arrAt 20 cfg0.N
    = keyRowAt (m ((c : Thread nD τ).loc main_arg0)) (m ((c : Thread nD τ).loc main_arg1)) (m ((c : Thread nD τ).loc main_arg2)) := by
  refine (dats m 0 c).arrAt_eq_of_covers 20 _ (by decide +kernel) fun t hf y => ?_
  obtain ⟨r, j, rfl⟩ : ∃ r j : Fin 512, y = ix2 r j := ⟨y 0, y 1, eq_ix2 y⟩
  have e : (win0_20.blk t).view.emb (ix2 r j) = ix2 (rowOf t r) j :=
    eq_ix2_of (from_row (index_row20 t) _) (from_zero _ _)
  blk_simp
  rw [e]
  exact point_key_row m c t r j

theorem final_value_half : (dats m 0 c).arrAt 21 cfg0.N
    = valueHalfAt (m ((c : Thread nD τ).loc main_arg0)) (m ((c : Thread nD τ).loc main_arg1)) (m ((c : Thread nD τ).loc main_arg2)) := by
  refine (dats m 0 c).arrAt_eq_of_covers 21 _ (by decide +kernel) fun t hf y => ?_
  obtain ⟨j, r, rfl⟩ : ∃ j r : Fin 512, y = ix3 0 j r := ⟨y 1, y 2, (eq_ix3 y).trans (congrArg (fun b : Fin 1 => ix3 b (y 1) (y 2)) (Subsingleton.elim _ _))⟩
  have e : (win0_21.blk t).view.emb (ix3 0 j r) = ix3 (batchOf t) j (posOf t r) :=
    eq_ix3_of (from_one (index_batch21 t)) (from_zero _ _) (from_row (index_place21 t) _)
  blk_simp
  rw [e]
  exact (point_value_half m c t j r).trans (congrArg (colOf m c · _) (row_eq t r))

end Cert.ProjIdeal.Gen

end
-- ==== Proof.Proj.Attend.lean ====
module

public import proofs.«01_k».proof.Proof.Proj.Array

@[expose] public section

set_option maxRecDepth 16384

noncomputable section

/-! # The latent attention's queries and keys as functions of the argument arrays -/

namespace Cert.ProjIdeal.Gen

open Cert.ProjIdeal Cert.ProjIdeal.Gen Idealize.ShloMosaic Idealize.ShloMosaic.TcCoe
open Idealize.SL.Sem
open Idealize.ShloMosaic.Pipeline (Dat)
open Cert.Proj.Row

/-- Rows of eight heads of 128 lanes. -/
def heads (f : Fin 16384 → Fin 8 → Fin 128 → EReal) : Vec Ideal S16384x1024 .bf16 := fun i =>
  f (i 0) ⟨(i 1).val / 128, by
    have h : (i 1).val < 1024 := (i 1).isLt
    omega⟩ ⟨(i 1).val % 128, Nat.mod_lt _ (by decide)⟩

theorem heads_at (f : Fin 16384 → Fin 8 → Fin 128 → EReal) (r : Fin 16384) (h : Fin 8) (l : Fin 128) :
    heads f (ix2 (n0 := 16384) (n1 := 1024) r ⟨h.val * 128 + l.val, by omega⟩) = f r h l :=
  congrArg₂ (f r) (Fin.ext (by show (h.val * 128 + l.val) / 128 = h.val; omega)) (Fin.ext (by show (h.val * 128 + l.val) % 128 = l.val; omega))

section Results

variable (x : Vec Ideal S16384x1024 .f32) (n : Vec Ideal S1x1024 .f32) (w : Vec Ideal S1024x5032 .f32)

/-- The rows that make the queries, -/
def wideAt (g : Vec Ideal S1x256 .f32) (r : Fin 16384) (k : Fin 256) : EReal :=
  wide (fun k => colAt x n w r ⟨k.val, by omega⟩) (fun k => g (ix2 0 k)) k

/-- a head's 96 lanes before they are rotated, -/
def upAt (g : Vec Ideal S1x256 .f32) (u : Vec Ideal S256x768 .f32) (r : Fin 16384) (h : Fin 8) (d : Fin 96) : EReal :=
  ∑ k : Fin 256, wideAt x n w g r k * u (ix2 (n0 := 256) (n1 := 768) k ⟨h.val * 96 + d.val, by omega⟩)

/-- the queries: the last 32 lanes rotated and put first, zeros after the others, scaled, -/
def attendQueryAt (g : Vec Ideal S1x256 .f32) (u : Vec Ideal S256x768 .f32) : Vec Ideal S16384x1024 .bf16 := heads fun r h l =>
  packed (rope (fun d => upAt x n w g u r h ⟨64 + d.val, by omega⟩) (r.val % 2048)) (fun d => upAt x n w g u r h ⟨d.val, by omega⟩) l * weight

/-- and the keys: the rotated rows, the latent keys, zeros. -/
def attendKeyAt (g : Vec Ideal S1x128 .f32) (v : Vec Ideal S128x8x64 .f32) : Vec Ideal S16384x1024 .bf16 := heads fun r h l =>
  packed (fun d => ropeAt x n w (ix2 r d)) (fun d => ∑ k : Fin 128, latentAt x n w g (ix2 r k) * v (ix3 k h d)) l

end Results

theorem index_row14 : ∀ t : Fin grid0.N, win0_14.index t 0 = t.val := by decide +kernel
theorem index_row15 : ∀ t : Fin grid0.N, win0_15.index t 0 = t.val := by decide +kernel

variable (m : (ℓ : Loc nD τ sig) → Buf (Elt Ideal) ℓ) (c : Dev nD) (t : Fin cfg0.N)

/-- The windows of the gains and of the packed weights. -/
theorem iblk5 (k : Fin 1) (j : Fin 256) : iblk m c 5 t (ix2 k j) = m ((c : Thread nD τ).loc main_arg3) (ix2 k j) :=
  (congrArg (V m c main_arg3) (eq_ix2_of (from_zero _ _) (from_zero _ _))).trans (congrFun (V_main_arg3 m c) _)
theorem iblk7 (k : Fin 256) (j : Fin 1024) : iblk m c 7 t (ix2 k j) = V m c main_v40 (ix2 k j) :=
  congrArg (V m c main_v40) (eq_ix2_of (from_zero _ _) (from_zero _ _))
theorem iblk8 (k : Fin 256) (j : Fin 1024) : iblk m c 8 t (ix2 k j) = V m c main_v41 (ix2 k j) :=
  congrArg (V m c main_v41) (eq_ix2_of (from_zero _ _) (from_zero _ _))
theorem iblk9 (k : Fin 128) (j : Fin 1024) : iblk m c 9 t (ix2 k j) = V m c main_v42 (ix2 k j) :=
  congrArg (V m c main_v42) (eq_ix2_of (from_zero _ _) (from_zero _ _))

/-- Device `c`'s heads. -/
abbrev upOf (r : Fin 16384) (h : Fin 8) (d : Fin 96) : EReal := upAt (m ((c : Thread nD τ).loc main_arg0)) (m ((c : Thread nD τ).loc main_arg1)) (m ((c : Thread nD τ).loc main_arg2)) (m ((c : Thread nD τ).loc main_arg3)) (m ((c : Thread nD τ).loc main_arg5)) r h d

/-- A column of the first packing makes the lane whose weights are there, -/
theorem first_eq (r : Fin 512) {p : Fin 1024} {h : Fin 8} {d : Fin 96}
    (hp : ∀ k, V m c main_v40 (ix2 k p) = m ((c : Thread nD τ).loc main_arg5) (ix2 (n0 := 256) (n1 := 768) k ⟨h.val * 96 + d.val, by omega⟩)) :
    k0_pay12 (F := Ideal) (iblk m c 5 t) (k0_pay5 (iblk m c 7 t)) (k0_pay9 (iblk m c 0 t) (iblk m c 3 t) (iblk m c 4 t)) (k0_pay10 (iblk m c 0 t) (iblk m c 3 t) (iblk m c 4 t)) (ix2 r p)
      = upOf m c (rowOf t r) h d := by
  refine (first_read _ _ _ _ r p).trans ?_
  refine Finset.sum_congr rfl fun k _ => ?_
  rw [wide_read, iblk7, hp]
  simp only [iblk5, cols_eq m c t r (V_wide m c · _)]
  rfl

/-- and a column of the second. -/
theorem second_eq (r : Fin 512) {p : Fin 1024} {h : Fin 8} {d : Fin 96}
    (hp : ∀ k, V m c main_v41 (ix2 k p) = m ((c : Thread nD τ).loc main_arg5) (ix2 (n0 := 256) (n1 := 768) k ⟨h.val * 96 + d.val, by omega⟩)) :
    k0_pay13 (F := Ideal) (iblk m c 5 t) (k0_pay6 (iblk m c 8 t)) (k0_pay9 (iblk m c 0 t) (iblk m c 3 t) (iblk m c 4 t)) (k0_pay10 (iblk m c 0 t) (iblk m c 3 t) (iblk m c 4 t)) (ix2 r p)
      = upOf m c (rowOf t r) h d := by
  refine (second_read _ _ _ _ r p).trans ?_
  refine Finset.sum_congr rfl fun k _ => ?_
  rw [wide_read, iblk8, hp]
  simp only [iblk5, cols_eq m c t r (V_wide m c · _)]
  rfl

/-- A column of zeros makes zeros. -/
theorem first_zero (r : Fin 512) {p : Fin 1024} (hp : ∀ k, V m c main_v40 (ix2 k p) = (0 : EReal)) :
    k0_pay12 (F := Ideal) (iblk m c 5 t) (k0_pay5 (iblk m c 7 t)) (k0_pay9 (iblk m c 0 t) (iblk m c 3 t) (iblk m c 4 t)) (k0_pay10 (iblk m c 0 t) (iblk m c 3 t) (iblk m c 4 t)) (ix2 r p)
      = (0 : EReal) := by
  refine (first_read _ _ _ _ r p).trans ?_
  refine Finset.sum_eq_zero fun k _ => ?_
  rw [iblk7, hp, mul_zero]

theorem cols_zero (r : Fin 512) {p : Fin 2304} (hp : ∀ k, V m c main_v38 (ix2 k p) = (0 : EReal)) : cols m c t (ix2 r p) = (0 : EReal) := by
  refine (projected_read _ _ _ _ _).trans ?_
  rw [col]
  refine Finset.sum_eq_zero fun k _ => ?_
  rw [iblk4, hp, mul_zero]

/-- The queries of a point. -/
theorem point_attend_query (r : Fin 512) (h : Fin 8) (l : Fin 128) : attendQuery m c t (ix2 (n0 := 512) (n1 := 1024) r ⟨h.val * 128 + l.val, by omega⟩) (ix2 r l)
    = packed (rope (fun d => upOf m c (rowOf t r) h ⟨64 + d.val, by omega⟩) (posOf t r).val) (fun d => upOf m c (rowOf t r) h ⟨d.val, by omega⟩) l * weight := by
  rw [attendQuery, iblk1, iblk2]
  refine congrArg (· * weight) ?_
  revert l
  refine lanes_cases (fun d => ?_) (fun d => ?_) (fun d => ?_)
  · rw [packed_rotated, first_eq m c t r (h := h) (d := ⟨64 + d.val, by omega⟩) (V_first_rotated m c · h d), V_cos m c (posOf t r) d]
    obtain ⟨d, hd⟩ := d
    by_cases h' : d < 16
    · have e : d % 16 = d := Nat.mod_eq_of_lt h'
      rw [second_eq m c t r (d := ⟨80 + d, by omega⟩) (V_second_low m c · h ⟨d, h'⟩), V_sin_low m c (posOf t r) ⟨d, h'⟩, rope, dif_pos h', rotA, sub_eq_add_neg, mul_neg]
      simp only [e]
      refine congrArg (_ + -· ) (congrArg (· * _) (congrArg (upOf m c _ h) (Fin.ext ?_)))
      show 80 + d = 64 + (16 + d)
      omega
    · obtain ⟨e, rfl⟩ : ∃ e, d = 16 + e := ⟨d - 16, by omega⟩
      have he : e < 16 := by omega
      have h1 : (16 + e) % 16 = e := by omega
      have h2 : 16 + e - 16 = e := by omega
      rw [rope, dif_neg h', rotB]
      simp only [h1, h2]
      exact congrArg (_ + ·) (congrArg₂ (· * ·) (second_eq m c t r (d := ⟨64 + e, by omega⟩) (V_second_high m c · h ⟨e, he⟩)) (V_sin_high m c (posOf t r) ⟨e, he⟩))
  · rw [packed_other, first_eq m c t r (d := ⟨d.val, by omega⟩) (V_first_other m c · h d), V_cos_other m c (posOf t r) d, mul_one]
    have e : V m c main_v72 (ix2 (n0 := 2048) (n1 := 128) (posOf t r) ⟨32 + d.val, by omega⟩) = (0 : EReal) := V_sin_other m c (posOf t r) ⟨d.val, by omega⟩
    rw [e, mul_zero, add_zero]
  · rw [packed_zero, first_zero m c t r (V_first_zero m c · h d), zero_mul, zero_add]
    have e : (⟨96 + d.val, by omega⟩ : Fin 128) = ⟨32 + (64 + d.val), by omega⟩ := Fin.ext (by simp only []; omega)
    have e' : V m c main_v72 (ix2 (n0 := 2048) (n1 := 128) (posOf t r) ⟨96 + d.val, by omega⟩) = (0 : EReal) :=
      (congrArg (fun l => V m c main_v72 (ix2 (n0 := 2048) (n1 := 128) (posOf t r) l)) e).trans (V_sin_other m c (posOf t r) ⟨64 + d.val, by omega⟩)
    rw [e', mul_zero]

/-- Its rotated rows before their lanes are cut off: the lanes, -/
theorem point_whole (r : Fin 512) (d : Fin 32) : k0_pay25 (F := Ideal) (k0_pay2 (iblk m c 1 t)) (k0_pay3 (iblk m c 2 t)) (cols m c t) (ix2 (n0 := 512) (n1 := 128) r ⟨d.val, by omega⟩)
    = rope (fun d => colOf m c (rowOf t r) ⟨384 + d.val, by omega⟩) (posOf t r).val d :=
  ((whole_read _ _ _ r _).trans (rotated_read _ _ _ r d).symm).trans ((congrFun (after_rope m c t) (ix2 r d)).symm.trans (point_rope m c t r d))

/-- and zeros. -/
theorem point_whole_zero (r : Fin 512) (d : Fin 96) :
    k0_pay25 (F := Ideal) (k0_pay2 (iblk m c 1 t)) (k0_pay3 (iblk m c 2 t)) (cols m c t) (ix2 (n0 := 512) (n1 := 128) r ⟨32 + d.val, by omega⟩) = (0 : EReal) := by
  rw [whole_read, cols_zero m c t r (V_rope_zero m c · d), iblk2, V_sin_other, zero_mul, mul_zero, add_zero]

/-- The product of the latent rows with a column of weights, -/
theorem plain_eq (r : Fin 512) {p : Fin 1024} {v : Fin 128 → EReal} (hp : ∀ k, V m c main_v42 (ix2 k p) = v k) :
    k0_pay39 (F := Ideal) (k0_pay38 (k0_pay24 (iblk m c 6 t) (k0_pay22 (cols m c t)) (k0_pay23 (cols m c t)))) (iblk m c 9 t) (ix2 r p)
      = (∑ k : Fin 128, latentAt (m ((c : Thread nD τ).loc main_arg0)) (m ((c : Thread nD τ).loc main_arg1)) (m ((c : Thread nD τ).loc main_arg2)) (m ((c : Thread nD τ).loc main_arg4)) (ix2 (rowOf t r) k) * v k : EReal) := by
  rw [plain_key_read]
  show @Eq EReal _ _
  refine Finset.sum_congr rfl fun k _ => congrArg₂ (· * ·) ?_ ?_
  · exact (congrFun (after_latent m c t) (ix2 r k)).symm.trans (point_latent m c t r k)
  · rw [iblk9, hp]

/-- The keys of a point. -/
theorem point_attend_key (r : Fin 512) (h : Fin 8) (l : Fin 128) : attendKey m c t (ix2 (n0 := 512) (n1 := 1024) r ⟨h.val * 128 + l.val, by omega⟩) (ix2 r l)
    = packed (rope (fun d => colOf m c (rowOf t r) ⟨384 + d.val, by omega⟩) (posOf t r).val)
        (fun d => ∑ k : Fin 128, latentAt (m ((c : Thread nD τ).loc main_arg0)) (m ((c : Thread nD τ).loc main_arg1)) (m ((c : Thread nD τ).loc main_arg2)) (m ((c : Thread nD τ).loc main_arg4)) (ix2 (rowOf t r) k) * m ((c : Thread nD τ).loc main_arg6) (ix3 (n0 := 128) (n1 := 8) (n2 := 64) k h d)) l := by
  rw [attendKey]
  revert l
  refine lanes_cases (fun d => ?_) (fun d => ?_) (fun d => ?_)
  · rw [packed_rotated]
    refine (congrArg₂ (· + ·) (plain_eq m c t r (V_plain_rotated m c · h d)) (point_whole m c t r d)).trans ?_
    simp only [mul_zero, Finset.sum_const_zero, zero_add]
  · rw [packed_other]
    refine (congrArg₂ (· + ·) (plain_eq m c t r (V_plain_other m c · h d)) (point_whole_zero m c t r ⟨d.val, by omega⟩)).trans ?_
    rw [add_zero]
  · rw [packed_zero]
    have e : (⟨96 + d.val, by omega⟩ : Fin 128) = ⟨32 + (64 + d.val), by omega⟩ := Fin.ext (by simp only []; omega)
    refine (congrArg₂ (· + ·) (plain_eq m c t r (V_plain_zero m c · h d)) ((congrArg (fun l => k0_pay25 _ _ _ (ix2 r l)) e).trans (point_whole_zero m c t r ⟨64 + d.val, by omega⟩))).trans ?_
    simp only [mul_zero, Finset.sum_const_zero, zero_add]

theorem pos_eq (r : Fin 512) : (posOf t r).val = (rowOf t r).val % 2048 := by
  show 512 * (t.val % 4) + r.val = (512 * t.val + r.val) % 2048
  omega

/-- A place of a block by its head and lane. -/
theorem lane_of (y : S512x1024.Idx) : ∃ (r : Fin 512) (h : Fin 8) (l : Fin 128), y = ix2 (n0 := 512) (n1 := 1024) r ⟨h.val * 128 + l.val, by omega⟩
    ∧ ix2 (n0 := 512) (n1 := 128) (y 0) ⟨(y 1).val % 128, Nat.mod_lt _ (by decide)⟩ = ix2 r l := by
  have hy : (y 1).val < 1024 := (y 1).isLt
  refine ⟨y 0, ⟨(y 1).val / 128, by omega⟩, ⟨(y 1).val % 128, Nat.mod_lt _ (by decide)⟩, eq_ix2_of rfl ?_, rfl⟩
  show (y 1).val = (y 1).val / 128 * 128 + (y 1).val % 128
  omega

/-- The arrays after the run. -/
theorem final_attend_query : (dats m 0 c).arrAt 14 cfg0.N = attendQueryAt (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 14 _ (by decide +kernel) fun t hf y => ?_
  obtain ⟨r, h, l, hy, e'⟩ := lane_of y
  have e : (win0_14.blk t).view.emb y = ix2 (n0 := 16384) (n1 := 1024) (rowOf t r) ⟨h.val * 128 + l.val, by omega⟩ := by
    rw [hy]
    exact eq_ix2_of (from_row (index_row14 t) _) (from_zero _ _)
  blk_simp
  rw [e, after_attend_query, e', hy]
  refine (point_attend_query m c t r h l).trans ?_
  rw [pos_eq]
  refine Eq.trans ?_ (heads_at _ _ h l).symm
  rfl

theorem final_attend_key : (dats m 0 c).arrAt 15 cfg0.N = attendKeyAt (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_covers 15 _ (by decide +kernel) fun t hf y => ?_
  obtain ⟨r, h, l, hy, e'⟩ := lane_of y
  have e : (win0_15.blk t).view.emb y = ix2 (n0 := 16384) (n1 := 1024) (rowOf t r) ⟨h.val * 128 + l.val, by omega⟩ := by
    rw [hy]
    exact eq_ix2_of (from_row (index_row15 t) _) (from_zero _ _)
  blk_simp
  rw [e, after_attend_key, e', hy]
  refine (point_attend_key m c t r h l).trans ?_
  rw [pos_eq]
  refine Eq.trans ?_ (heads_at _ _ h l).symm
  rfl

end Cert.ProjIdeal.Gen

end
-- ==== Proof.Proj.Ref.lean ====
module

public import proofs.«01_k».proof.Proof.Gen.ProjRefIdeal.Run
public import proofs.«01_k».proof.Proof.Merge.Ref
public import proofs.«01_k».proof.Proof.Proj.Row
public import Idealize.ShloMosaic.Lib.Pointwise

@[expose] public section

set_option maxRecDepth 16384

noncomputable section

/-! # The projections' reference, row by row -/

namespace Cert.ProjRefIdeal.Value

open Cert.ProjRefIdeal Cert.ProjRefIdeal.Gen Idealize.ShloMosaic Idealize.ShloMosaic.TcCoe Cert.Proj.Row

variable {F : FTy → Type} [FloatOps F]

/-- The normalised rows against the input weights. -/
def projected (x : FVec F S16384x1024 .f32) (g : FVec F S1x1024 .f32) (w : FVec F S1024x5032 .f32) : FVec F S16384x5032 .f32 :=
  Host.dotGeneral dot_S16384x1024_S1024x5032_S16384x5032_1_0_0_1_n_n none (Cert.MergeRefIdeal.Value.normed x g) w

/-- The latent rows. -/
def latents (z : FVec F S16384x128 .f32) (g : FVec F S1x128 .f32) : FVec F S16384x128 .f32 :=
  mulf (mulf z (broadcastInDim S16384x128 ![0, 1] bcast_S16384x1_S16384x128_0_1 (Host.rsqrt (addf (Host.divf (broadcastInDim S16384x1 ![0] bcast_S16384_S16384x1_0 (Host.reduceAdd (mulf z z) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x358637BD#32))))))
    (broadcastInDim S16384x128 ![0, 1] bcast_S1x128_S16384x128_0_1 g)

/-- The angles. -/
def angles : FVec F S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32))))))

/-- A table of the positions, for every batch and one head. -/
def spread (a : FVec F S2048x16 .f32) : FVec F S8x2048x1x16 .f32 :=
  broadcastInDim S8x2048x1x16 ![0, 1, 2, 3] bcast_S1x2048x1x16_S8x2048x1x16_0_1_2_3 (broadcastInDim S1x2048x1x16 ![1, 2, 3] bcast_S2048x1x16_S1x2048x1x16_1_2_3 (broadcastInDim S2048x1x16 ![0, 2] bcast_S2048x16_S2048x1x16_0_2 a))

/-- The rotated rows. -/
def rotated (z : FVec F S16384x32 .f32) : FVec F S16384x32 .f32 :=
  shapeCast _ (fn_main_v67
    (subf (mulf (extractStridedSlice S8x2048x1x16 ![0, 0, 0, 0] (shapeCast _ z shapeCasts_S16384x32_S8x2048x1x32) slices_S8x2048x1x32_S8x2048x1x16_0_0_0_0) (spread (Host.cos angles)))
      (mulf (extractStridedSlice S8x2048x1x16 ![0, 0, 0, 16] (shapeCast _ z shapeCasts_S16384x32_S8x2048x1x32) slices_S8x2048x1x32_S8x2048x1x16_0_0_0_16) (spread (Host.sin angles))))
    (addf (mulf (extractStridedSlice S8x2048x1x16 ![0, 0, 0, 16] (shapeCast _ z shapeCasts_S16384x32_S8x2048x1x32) slices_S8x2048x1x32_S8x2048x1x16_0_0_0_16) (spread (Host.cos angles)))
      (mulf (extractStridedSlice S8x2048x1x16 ![0, 0, 0, 0] (shapeCast _ z shapeCasts_S16384x32_S8x2048x1x32) slices_S8x2048x1x32_S8x2048x1x16_0_0_0_0) (spread (Host.sin angles)))))
    shapeCasts_S8x2048x1x32_S16384x32

/-- The rows of each batch as columns. -/
def turned (z : FVec F S16384x512 .f32) : FVec F S8x512x2048 .f32 :=
  transpose S8x512x2048 [0, 2, 1] (shapeCast _ z shapeCasts_S16384x512_S8x2048x512) transposes_S8x2048x512_S8x512x2048_0_2_1

/-- A row of zeros. -/
def zeros : FVec F S16384x8 .f32 := broadcastInDim S16384x8 ![] bcast_S_S16384x8 (constant S_ .f32 0x00000000#32)

/-- The logarithm of the logistic function. -/
def logged (z : FVec F S16384x8 .f32) : FVec F S16384x8 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The forget gates' logits. -/
def biased (z : FVec F S16384x8 .f32) (b : FVec F S8 .f32) : FVec F S16384x8 .f32 :=
  addf z (broadcastInDim S16384x8 ![0, 1] bcast_S1x8_S16384x8_0_1 (broadcastInDim S1x8 ![1] bcast_S8_S1x8_1 b))

/-- The latent values. -/
def latentValues (y : FVec F S16384x128 .f32) (v : FVec F S128x8x64 .f32) : FVec F S8x512x2048 .bf16 :=
  truncf .bf16 (transpose S8x512x2048 [0, 2, 1] (shapeCast _ (Host.dotGeneral dot_S16384x128_S128x8x64_S16384x8x64_1_0_0_12_n_n none y v) shapeCasts_S16384x8x64_S8x2048x512) transposes_S8x2048x512_S8x512x2048_0_2_1) bitsLt_bf16_f32

/-- The scaled queries. -/
def queries (z : FVec F S16384x512 .f32) : FVec F S16384x512 .bf16 :=
  truncf .bf16 (mulf (mulf z (broadcastInDim S16384x512 ![] bcast_S_S16384x512 (constant S_ .f32 0x3E000000#32))) (broadcastInDim S16384x512 ![] bcast_S_S16384x512 (constant S_ .f32 0x3FB8AA3B#32))) bitsLt_bf16_f32

/-- The normed rows that make the latent attention's queries, -/
def wides (z : FVec F S16384x256 .f32) (g : FVec F S1x256 .f32) : FVec F S16384x256 .f32 :=
  mulf (mulf z (broadcastInDim S16384x256 ![0, 1] bcast_S16384x1_S16384x256_0_1 (Host.rsqrt (addf (Host.divf (broadcastInDim S16384x1 ![0] bcast_S16384_S16384x1_0 (Host.reduceAdd (mulf z z) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 g)

/-- the queries -/
def latentQueries (y : FVec F S16384x256 .f32) (u : FVec F S256x768 .f32) : FVec F S8x2048x8x96 .f32 :=
  shapeCast _ (Host.dotGeneral dot_S16384x256_S256x768_S16384x768_1_0_0_1_n_n none y u) shapeCasts_S16384x768_S8x2048x8x96

/-- and the keys of that attention. -/
def latentKeys (y : FVec F S16384x128 .f32) (u : FVec F S128x8x64 .f32) : FVec F S16384x8x64 .f32 :=
  Host.dotGeneral dot_S16384x128_S128x8x64_S16384x8x64_1_0_0_12_n_n none y u

/-- A table of the positions, for every batch and head. -/
def spreadHeads (a : FVec F S2048x16 .f32) : FVec F S8x2048x8x16 .f32 :=
  broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 a))

/-- The rotated lanes of every head. -/
def rotatedHeads (z : FVec F S8x2048x8x32 .f32) : FVec F S8x2048x8x32 .f32 :=
  fn_main_v116
    (subf (mulf (extractStridedSlice S8x2048x8x16 ![0, 0, 0, 0] z slices_S8x2048x8x32_S8x2048x8x16_0_0_0_0) (spreadHeads (Host.cos angles)))
      (mulf (extractStridedSlice S8x2048x8x16 ![0, 0, 0, 16] z slices_S8x2048x8x32_S8x2048x8x16_0_0_0_16) (spreadHeads (Host.sin angles))))
    (addf (mulf (extractStridedSlice S8x2048x8x16 ![0, 0, 0, 16] z slices_S8x2048x8x32_S8x2048x8x16_0_0_0_16) (spreadHeads (Host.cos angles)))
      (mulf (extractStridedSlice S8x2048x8x16 ![0, 0, 0, 0] z slices_S8x2048x8x32_S8x2048x8x16_0_0_0_0) (spreadHeads (Host.sin angles))))

/-- The latent attention's queries, rotated, scaled and packed, -/
def packedQueries (q : FVec F S8x2048x8x96 .f32) : FVec F S16384x1024 .bf16 :=
  truncf .bf16 (shapeCast _ (mulf (pad S8x2048x8x128 ![0, 0, 0, 0] ![0, 0, 0, 32] ![0, 0, 0, 0]
    (fn_main_v118 (rotatedHeads (extractStridedSlice S8x2048x8x32 ![0, 0, 0, 64] q slices_S8x2048x8x96_S8x2048x8x32_0_0_0_64))
      (extractStridedSlice S8x2048x8x64 ![0, 0, 0, 0] q slices_S8x2048x8x96_S8x2048x8x64_0_0_0_0))
    (sitofp .f32 (constantI S_ 32 0#32)) pads_S8x2048x8x96_S8x2048x8x128_000_000_000_0320 h_S_) (broadcastInDim S8x2048x8x128 ![] bcast_S_S8x2048x8x128 (constant S_ .f32 0x3E16C740#32))) shapeCasts_S8x2048x8x128_S16384x1024) bitsLt_bf16_f32

/-- and its keys. -/
def packedKeys (r : FVec F S16384x32 .f32) (k : FVec F S16384x8x64 .f32) : FVec F S16384x1024 .bf16 :=
  truncf .bf16 (shapeCast _ (pad S16384x8x128 ![0, 0, 0] ![0, 0, 32] ![0, 0, 0]
    (fn_main_v123 (broadcastInDim S16384x8x32 ![0, 1, 2] bcast_S16384x1x32_S16384x8x32_0_1_2 (broadcastInDim S16384x1x32 ![0, 2] bcast_S16384x32_S16384x1x32_0_2 r)) k)
    (sitofp .f32 (constantI S_ 32 0#32)) pads_S16384x8x96_S16384x8x128_000_000_0320 h_S_) shapeCasts_S16384x8x128_S16384x1024) bitsLt_bf16_f32

theorem projected_read (x : FVec Ideal S16384x1024 .f32) (g : FVec Ideal S1x1024 .f32) (w : FVec Ideal S1024x5032 .f32) (r : Fin 16384) (j : Fin 5032) :
    projected x g w (ix2 r j) = col (fun k => x (ix2 r k)) (fun k => g (ix2 0 k)) (fun k => w (ix2 k j)) := by
  unfold col
  simp only [← Cert.MergeRefIdeal.Value.normed_read]
  unfold projected
  generalize Cert.MergeRefIdeal.Value.normed x g = y
  pointwise

theorem latents_read (z : FVec Ideal S16384x128 .f32) (g : FVec Ideal S1x128 .f32) (r : Fin 16384) (d : Fin 128) :
    latents z g (ix2 r d) = latent (fun k => z (ix2 r k)) (fun k => g (ix2 0 k)) d := by
  pointwise [latents]
  rfl

theorem biased_read (z : FVec Ideal S16384x8 .f32) (b : FVec Ideal S8 .f32) (r : Fin 16384) (h : Fin 8) :
    biased z b (ix2 r h) = z (ix2 r h) + b (ix1 h) := by
  pointwise [biased]

theorem logged_read (z : FVec Ideal S16384x8 .f32) (r : Fin 16384) (h : Fin 8) :
    logged z (ix2 r h) = logsig (z (ix2 r h)) := by
  pointwise [logged, zeros]
  rw [if_neg (by simp)]
  rfl

theorem turned_read (z : FVec Ideal S16384x512 .f32) (b : Fin 8) (j : Fin 512) (t : Fin 2048) :
    turned z (ix3 b j t) = z (ix2 (n0 := 16384) (n1 := 512) ⟨b.val * 2048 + t.val, by omega⟩ j) := by
  pointwise [turned]

theorem latentValues_read (y : FVec Ideal S16384x128 .f32) (v : FVec Ideal S128x8x64 .f32) (b : Fin 8) (j : Fin 512) (t : Fin 2048) :
    latentValues y v (ix3 b j t)
      = ∑ k : Fin 128, y (ix2 (n0 := 16384) (n1 := 128) ⟨b.val * 2048 + t.val, by omega⟩ k) * v (ix3 k ⟨j.val / 64, by omega⟩ ⟨j.val % 64, by omega⟩) := by
  pointwise [latentValues]

theorem queries_read (z : FVec Ideal S16384x512 .f32) (r : Fin 16384) (j : Fin 512) : queries z (ix2 r j) = scaled (z (ix2 r j)) := by
  pointwise [queries]
  rfl

theorem wides_read (z : FVec Ideal S16384x256 .f32) (g : FVec Ideal S1x256 .f32) (r : Fin 16384) (d : Fin 256) :
    wides z g (ix2 r d) = wide (fun k => z (ix2 r k)) (fun k => g (ix2 0 k)) d := by
  pointwise [wides]
  rfl

theorem latentQueries_read (y : FVec Ideal S16384x256 .f32) (u : FVec Ideal S256x768 .f32) (b : Fin 8) (t : Fin 2048) (h : Fin 8) (d : Fin 96) :
    latentQueries y u (ix4 b t h d) = ∑ k : Fin 256, y (ix2 (n0 := 16384) (n1 := 256) ⟨b.val * 2048 + t.val, by omega⟩ k) * u (ix2 (n0 := 256) (n1 := 768) k ⟨h.val * 96 + d.val, by omega⟩) := by
  pointwise [latentQueries]

theorem latentKeys_read (y : FVec Ideal S16384x128 .f32) (u : FVec Ideal S128x8x64 .f32) (r : Fin 16384) (h : Fin 8) (d : Fin 64) :
    latentKeys y u (ix3 r h d) = ∑ k : Fin 128, y (ix2 r k) * u (ix3 k h d) := by
  pointwise [latentKeys]

theorem angles_read (t : Fin 2048) (j : Fin 16) : (angles (F := Ideal)) (ix2 t j) = angle t.val j.val := by
  pointwise [angles]
  rfl

theorem spread_read (a : FVec Ideal S2048x16 .f32) (b : Fin 8) (t : Fin 2048) (j : Fin 16) : spread a (ix4 b t 0 j) = a (ix2 t j) := by
  pointwise [spread]

/-- The packed queries' lanes: the rotated ones below 16 -/
theorem packedQueries_lo (q : FVec Ideal S8x2048x8x96 .f32) (b : Fin 8) (t : Fin 2048) (h : Fin 8) (j : Fin 16) :
    packedQueries q (ix2 (n0 := 16384) (n1 := 1024) ⟨b.val * 2048 + t.val, by omega⟩ ⟨h.val * 128 + j.val, by omega⟩)
      = rotA (q (ix4 b t h ⟨64 + j.val, by omega⟩)) (q (ix4 b t h ⟨80 + j.val, by omega⟩)) (angle t.val j.val) * weight := by
  unfold rotA weight
  rw [← angles_read]
  unfold packedQueries rotatedHeads
  generalize angles (F := Ideal) = a
  pointwise [fn_main_v116, fn_main_v118, spreadHeads]
  have e : (h.val * 128 + j.val) % 128 = j.val := by omega
  have e' : 64 + (16 + j.val) = 80 + j.val := by omega
  rw [dif_pos (by omega), dif_pos (by omega), dif_pos (by omega)]
  simp only [e, e', Fin.eta]

/-- and from 16 on, -/
theorem packedQueries_hi (q : FVec Ideal S8x2048x8x96 .f32) (b : Fin 8) (t : Fin 2048) (h : Fin 8) (j : Fin 16) :
    packedQueries q (ix2 (n0 := 16384) (n1 := 1024) ⟨b.val * 2048 + t.val, by omega⟩ ⟨h.val * 128 + (16 + j.val), by omega⟩)
      = rotB (q (ix4 b t h ⟨64 + j.val, by omega⟩)) (q (ix4 b t h ⟨80 + j.val, by omega⟩)) (angle t.val j.val) * weight := by
  unfold rotB weight
  rw [← angles_read]
  unfold packedQueries rotatedHeads
  generalize angles (F := Ideal) = a
  pointwise [fn_main_v116, fn_main_v118, spreadHeads]
  have e : (h.val * 128 + (16 + j.val)) % 128 - 16 = j.val := by omega
  have e' : 64 + (16 + j.val) = 80 + j.val := by omega
  rw [dif_pos (by omega), dif_pos (by omega), dif_neg (by omega)]
  simp only [e, e', Fin.eta]

/-- the others -/
theorem packedQueries_other (q : FVec Ideal S8x2048x8x96 .f32) (b : Fin 8) (t : Fin 2048) (h : Fin 8) (d : Fin 64) :
    packedQueries q (ix2 (n0 := 16384) (n1 := 1024) ⟨b.val * 2048 + t.val, by omega⟩ ⟨h.val * 128 + (32 + d.val), by omega⟩)
      = q (ix4 b t h ⟨d.val, by omega⟩) * weight := by
  unfold weight packedQueries
  generalize rotatedHeads (F := Ideal) _ = a
  pointwise [fn_main_v118]
  have e : (h.val * 128 + (32 + d.val)) % 128 - 32 = d.val := by omega
  rw [dif_pos (by omega), dif_neg (by omega)]
  simp only [e, Fin.eta]

/-- and the zeros. -/
theorem packedQueries_zero (q : FVec Ideal S8x2048x8x96 .f32) (b : Fin 8) (t : Fin 2048) (h : Fin 8) (d : Fin 32) :
    packedQueries q (ix2 (n0 := 16384) (n1 := 1024) ⟨b.val * 2048 + t.val, by omega⟩ ⟨h.val * 128 + (96 + d.val), by omega⟩) = 0 * weight := by
  unfold weight packedQueries
  generalize fn_main_v118 (F := Ideal) _ _ = a
  pointwise
  rw [dif_neg (by omega), sitofp_zero]

/-- So with the packed keys. -/
theorem packedKeys_rotated (r : FVec Ideal S16384x32 .f32) (k : FVec Ideal S16384x8x64 .f32) (n : Fin 16384) (h : Fin 8) (d : Fin 32) :
    packedKeys r k (ix2 (n0 := 16384) (n1 := 1024) n ⟨h.val * 128 + d.val, by omega⟩) = r (ix2 n d) := by
  pointwise [packedKeys, fn_main_v123]
  have e : (h.val * 128 + d.val) % 128 = d.val := by omega
  rw [dif_pos (by omega), dif_pos (by omega)]
  simp only [e, Fin.eta]

theorem packedKeys_other (r : FVec Ideal S16384x32 .f32) (k : FVec Ideal S16384x8x64 .f32) (n : Fin 16384) (h : Fin 8) (d : Fin 64) :
    packedKeys r k (ix2 (n0 := 16384) (n1 := 1024) n ⟨h.val * 128 + (32 + d.val), by omega⟩) = k (ix3 n h d) := by
  pointwise [packedKeys, fn_main_v123]
  have e : (h.val * 128 + (32 + d.val)) % 128 - 32 = d.val := by omega
  rw [dif_pos (by omega), dif_neg (by omega)]
  simp only [e, Fin.eta]

theorem packedKeys_zero (r : FVec Ideal S16384x32 .f32) (k : FVec Ideal S16384x8x64 .f32) (n : Fin 16384) (h : Fin 8) (d : Fin 32) :
    packedKeys r k (ix2 (n0 := 16384) (n1 := 1024) n ⟨h.val * 128 + (96 + d.val), by omega⟩) = 0 := by
  unfold packedKeys
  generalize fn_main_v123 (F := Ideal) _ _ = a
  pointwise
  rw [dif_neg (by omega), sitofp_zero]

/-- The rotated rows: a lane below 16, -/
theorem rotated_lo (z : FVec Ideal S16384x32 .f32) (b : Fin 8) (t : Fin 2048) (j : Fin 16) :
    rotated z (ix2 (n0 := 16384) (n1 := 32) ⟨b.val * 2048 + t.val, by omega⟩ ⟨j.val, by omega⟩)
      = rotA (z (ix2 (n0 := 16384) (n1 := 32) ⟨b.val * 2048 + t.val, by omega⟩ ⟨j.val, by omega⟩))
        (z (ix2 (n0 := 16384) (n1 := 32) ⟨b.val * 2048 + t.val, by omega⟩ ⟨16 + j.val, by omega⟩)) (angle t.val j.val) := by
  unfold rotA
  rw [← angles_read]
  unfold rotated
  generalize angles (F := Ideal) = a
  pointwise [fn_main_v67, spread]

/-- a lane from 16 on, -/
theorem rotated_hi (z : FVec Ideal S16384x32 .f32) (b : Fin 8) (t : Fin 2048) (j : Fin 16) :
    rotated z (ix2 (n0 := 16384) (n1 := 32) ⟨b.val * 2048 + t.val, by omega⟩ ⟨16 + j.val, by omega⟩)
      = rotB (z (ix2 (n0 := 16384) (n1 := 32) ⟨b.val * 2048 + t.val, by omega⟩ ⟨j.val, by omega⟩))
        (z (ix2 (n0 := 16384) (n1 := 32) ⟨b.val * 2048 + t.val, by omega⟩ ⟨16 + j.val, by omega⟩)) (angle t.val j.val) := by
  unfold rotB
  rw [← angles_read]
  unfold rotated
  generalize angles (F := Ideal) = a
  pointwise [fn_main_v67, spread]

/-- and so every lane. -/
theorem rotated_read (z : FVec Ideal S16384x32 .f32) (r : Fin 16384) (d : Fin 32) :
    rotated z (ix2 r d) = rope (fun d => z (ix2 r d)) (r.val % 2048) d := by
  obtain ⟨b, t, rfl⟩ : ∃ (b : Fin 8) (t : Fin 2048), r = ⟨b.val * 2048 + t.val, by omega⟩ :=
    ⟨⟨r.val / 2048, by omega⟩, ⟨r.val % 2048, by omega⟩, Fin.ext (by show _ = r.val / 2048 * 2048 + r.val % 2048; omega)⟩
  have ht : (b.val * 2048 + t.val) % 2048 = t.val := by omega
  by_cases h : d.val < 16
  · rw [rope, dif_pos h]
    show _ = rotA _ _ (angle ((b.val * 2048 + t.val) % 2048) _)
    rw [ht]
    exact rotated_lo z b t ⟨d.val, h⟩
  · rw [rope, dif_neg h]
    show _ = rotB _ _ (angle ((b.val * 2048 + t.val) % 2048) _)
    rw [ht]
    obtain ⟨d, hd⟩ := d
    have h' : ¬d < 16 := h
    obtain ⟨j, rfl⟩ : ∃ j : Fin 16, d = 16 + j.val := ⟨⟨d - 16, by omega⟩, by show d = 16 + (d - 16); omega⟩
    have hj : 16 + j.val - 16 = j.val := by omega
    simp only [hj]
    exact rotated_hi z b t j

/-- The slices of the projected rows. -/
theorem slice_latent (z : FVec Ideal S16384x5032 .f32) (r : Fin 16384) (k : Fin 128) :
    extractStridedSlice S16384x128 ![0, 256] z slices_S16384x5032_S16384x128_0_256 (ix2 r k) = z (ix2 r ⟨256 + k.val, by omega⟩) := by
  pointwise
theorem slice_wide (z : FVec Ideal S16384x5032 .f32) (r : Fin 16384) (k : Fin 256) :
    extractStridedSlice S16384x256 ![0, 0] z slices_S16384x5032_S16384x256_0_0 (ix2 r k) = z (ix2 r ⟨k.val, by omega⟩) := by
  pointwise
theorem slice_rope (z : FVec Ideal S16384x5032 .f32) (r : Fin 16384) (k : Fin 32) :
    extractStridedSlice S16384x32 ![0, 384] z slices_S16384x5032_S16384x32_0_384 (ix2 r k) = z (ix2 r ⟨384 + k.val, by omega⟩) := by
  pointwise
theorem slice_query (z : FVec Ideal S16384x5032 .f32) (r : Fin 16384) (k : Fin 512) :
    extractStridedSlice S16384x512 ![0, 416] z slices_S16384x5032_S16384x512_0_416 (ix2 r k) = z (ix2 r ⟨416 + k.val, by omega⟩) := by
  pointwise
theorem slice_key (z : FVec Ideal S16384x5032 .f32) (r : Fin 16384) (k : Fin 512) :
    extractStridedSlice S16384x512 ![0, 928] z slices_S16384x5032_S16384x512_0_928 (ix2 r k) = z (ix2 r ⟨928 + k.val, by omega⟩) := by
  pointwise
theorem slice_value (z : FVec Ideal S16384x5032 .f32) (r : Fin 16384) (k : Fin 512) :
    extractStridedSlice S16384x512 ![0, 1440] z slices_S16384x5032_S16384x512_0_1440 (ix2 r k) = z (ix2 r ⟨1440 + k.val, by omega⟩) := by
  pointwise
theorem slice_gate (z : FVec Ideal S16384x5032 .f32) (r : Fin 16384) (k : Fin 8) :
    extractStridedSlice S16384x8 ![0, 1952] z slices_S16384x5032_S16384x8_0_1952 (ix2 r k) = z (ix2 r ⟨1952 + k.val, by omega⟩) := by
  pointwise

end Cert.ProjRefIdeal.Value

end
-- ==== Proof.Proj.Claims.lean ====
module

public import proofs.«01_k».proof.Defs
public import proofs.«01_k».proof.Proof.Gen.Proj.Frame
public import proofs.«01_k».proof.Proof.Gen.ProjIdeal.Value
public import proofs.«01_k».proof.Proof.Proj.Attend
public import proofs.«01_k».proof.Proof.Proj.Ref
public import Idealize.ShloMosaic.Adequacy
public import Idealize.ShloMosaic.Init

@[expose] public section

set_option maxRecDepth 16384

noncomputable section

/-! # The claims about the projections -/

namespace Cert.Proof.ProjClaims

open Idealize.ShloMosaic Idealize.ShloMosaic.TcCoe Idealize.SL.Sem Cert.ProjIdeal Cert.ProjIdeal.Gen Cert.Proj.Row
open Cert.ProjRefIdeal.Value (projected latents rotated turned biased logged latentValues queries wides latentQueries latentKeys packedQueries packedKeys latents_read turned_read
  biased_read logged_read latentValues_read queries_read slice_latent slice_rope slice_query slice_key slice_value slice_gate)

/-- The kernel terminates and leaves its arguments and its counters, -/
theorem frame_p : Cert.quiescent_Proj (hProj := Cert.Proj.Gen.facts) := fun m ρ _ => Cert.Proj.Gen.frame m ρ

/-- over the extended reals too, -/
theorem frame_pi : Cert.quiescent_ProjIdeal := fun m ρ _ => Cert.ProjIdeal.Gen.frame m ρ

/-- and so does the reference. -/
theorem frame_ri : Cert.quiescent_ProjRefIdeal := fun m ρ _ =>
  (θ_run Cert.ProjRefIdeal.defs _ _).mono (fun r h => ⟨fun c => (h c).2.2.2.2.2.2.2.2.2.2.2, sem_eq_zero_of_no_sems (by decide) r.2⟩)
    (Cert.ProjRefIdeal.Value.run (F := Ideal) m ρ)

/-- No operation of the kernel is replaced. -/
theorem preserves : Cert.preserves_Proj_ProjIdeal := trivial

section Results

variable (x : Vec Ideal S16384x1024 .f32) (n : Vec Ideal S1x1024 .f32) (w : Vec Ideal S1024x5032 .f32)

/-- The reference's arrays are the kernel's: the latent rows, -/
theorem latent_eq (g : Vec Ideal S1x128 .f32) :
    latents (extractStridedSlice Cert.ProjRefIdeal.S16384x128 ![0, 256] (projected (F := Ideal) x n w) Cert.ProjRefIdeal.Gen.slices_S16384x5032_S16384x128_0_256) g = latentAt x n w g := by
  funext i
  obtain ⟨r, d, rfl⟩ : ∃ (r : Fin 16384) (d : Fin 128), i = ix2 r d := ⟨i 0, i 1, eq_ix2 i⟩
  refine (latents_read _ _ r d).trans ?_
  simp only [slice_latent, Cert.ProjRefIdeal.Value.projected_read]
  rfl

/-- the rotated rows, -/
theorem rope_eq :
    rotated (extractStridedSlice Cert.ProjRefIdeal.S16384x32 ![0, 384] (projected (F := Ideal) x n w) Cert.ProjRefIdeal.Gen.slices_S16384x5032_S16384x32_0_384) = ropeAt x n w := by
  funext i
  obtain ⟨r, d, rfl⟩ : ∃ (r : Fin 16384) (d : Fin 32), i = ix2 r d := ⟨i 0, i 1, eq_ix2 i⟩
  refine (Cert.ProjRefIdeal.Value.rotated_read _ r d).trans ?_
  simp only [slice_rope, Cert.ProjRefIdeal.Value.projected_read]
  rfl

/-- the keys, -/
theorem key_eq :
    turned (extractStridedSlice Cert.ProjRefIdeal.S16384x512 ![0, 928] (projected (F := Ideal) x n w) Cert.ProjRefIdeal.Gen.slices_S16384x5032_S16384x512_0_928) = keyAt x n w := by
  funext i
  obtain ⟨b, j, t, rfl⟩ : ∃ (b : Fin 8) (j : Fin 512) (t : Fin 2048), i = ix3 b j t := ⟨i 0, i 1, i 2, eq_ix3 i⟩
  refine (turned_read _ b j t).trans ?_
  rw [slice_key, Cert.ProjRefIdeal.Value.projected_read]
  rfl

/-- the values -/
theorem value_eq :
    turned (extractStridedSlice Cert.ProjRefIdeal.S16384x512 ![0, 1440] (projected (F := Ideal) x n w) Cert.ProjRefIdeal.Gen.slices_S16384x5032_S16384x512_0_1440) = valueAt x n w := by
  funext i
  obtain ⟨b, j, t, rfl⟩ : ∃ (b : Fin 8) (j : Fin 512) (t : Fin 2048), i = ix3 b j t := ⟨i 0, i 1, i 2, eq_ix3 i⟩
  refine (turned_read _ b j t).trans ?_
  rw [slice_value, Cert.ProjRefIdeal.Value.projected_read]
  rfl

/-- the forget gates, -/
theorem gate_eq (b : Vec Ideal S8 .f32) :
    logged (biased (extractStridedSlice Cert.ProjRefIdeal.S16384x8 ![0, 1952] (projected (F := Ideal) x n w) Cert.ProjRefIdeal.Gen.slices_S16384x5032_S16384x8_0_1952) b) = gateAt x n w b := by
  funext i
  obtain ⟨r, h, rfl⟩ : ∃ (r : Fin 16384) (h : Fin 8), i = ix2 r h := ⟨i 0, i 1, eq_ix2 i⟩
  refine (logged_read _ r h).trans ?_
  rw [biased_read, slice_gate, Cert.ProjRefIdeal.Value.projected_read]
  rfl

/-- the latent values, -/
theorem latent_value_eq (g : Vec Ideal S1x128 .f32) (v : Vec Ideal S128x8x64 .f32) :
    latentValues (latents (extractStridedSlice Cert.ProjRefIdeal.S16384x128 ![0, 256] (projected (F := Ideal) x n w) Cert.ProjRefIdeal.Gen.slices_S16384x5032_S16384x128_0_256) g) v = latentValueAt x n w g v := by
  rw [latent_eq]
  funext i
  obtain ⟨b, j, t, rfl⟩ : ∃ (b : Fin 8) (j : Fin 512) (t : Fin 2048), i = ix3 b j t := ⟨i 0, i 1, i 2, eq_ix3 i⟩
  exact latentValues_read _ _ b j t

/-- the queries, -/
theorem query_eq : queries (extractStridedSlice Cert.ProjRefIdeal.S16384x512 ![0, 416] (projected (F := Ideal) x n w) Cert.ProjRefIdeal.Gen.slices_S16384x5032_S16384x512_0_416) = queryAt x n w := by
  funext i
  obtain ⟨r, j, rfl⟩ : ∃ (r : Fin 16384) (j : Fin 512), i = ix2 r j := ⟨i 0, i 1, eq_ix2 i⟩
  refine (queries_read _ r j).trans ?_
  rw [slice_query, Cert.ProjRefIdeal.Value.projected_read]
  rfl

/-- the keys as rows, -/
theorem key_row_eq :
    (extractStridedSlice Cert.ProjRefIdeal.S16384x512 ![0, 928] (projected (F := Ideal) x n w) Cert.ProjRefIdeal.Gen.slices_S16384x5032_S16384x512_0_928) = (keyRowAt x n w : Vec Ideal S16384x512 .f32) := by
  funext i
  obtain ⟨r, j, rfl⟩ : ∃ (r : Fin 16384) (j : Fin 512), i = ix2 r j := ⟨i 0, i 1, eq_ix2 i⟩
  rw [slice_key, Cert.ProjRefIdeal.Value.projected_read]
  rfl

/-- a head's lanes of the latent attention's queries before they are rotated, -/
theorem up_read (g : Vec Ideal S1x256 .f32) (u : Vec Ideal S256x768 .f32) (b : Fin 8) (t : Fin 2048) (h : Fin 8) (d : Fin 96) :
    latentQueries (wides (extractStridedSlice Cert.ProjRefIdeal.S16384x256 ![0, 0] (projected (F := Ideal) x n w) Cert.ProjRefIdeal.Gen.slices_S16384x5032_S16384x256_0_0) g) u (ix4 b t h d) = upAt x n w g u ⟨b.val * 2048 + t.val, by omega⟩ h d := by
  refine (Cert.ProjRefIdeal.Value.latentQueries_read _ _ b t h d).trans ?_
  simp only [Cert.ProjRefIdeal.Value.wides_read, Cert.ProjRefIdeal.Value.slice_wide, Cert.ProjRefIdeal.Value.projected_read]
  rfl

/-- A place of the packed rows by its row, head and lane. -/
theorem place_of (i : S16384x1024.Idx) : ∃ (b : Fin 8) (t : Fin 2048) (h : Fin 8) (l : Fin 128),
    i = ix2 (n0 := 16384) (n1 := 1024) ⟨b.val * 2048 + t.val, by omega⟩ ⟨h.val * 128 + l.val, by omega⟩ := by
  have h0 : (i 0).val < 16384 := (i 0).isLt
  have h1 : (i 1).val < 1024 := (i 1).isLt
  refine ⟨⟨(i 0).val / 2048, by omega⟩, ⟨(i 0).val % 2048, Nat.mod_lt _ (by decide)⟩, ⟨(i 1).val / 128, by omega⟩, ⟨(i 1).val % 128, Nat.mod_lt _ (by decide)⟩, eq_ix2_of ?_ ?_⟩
  · show (i 0).val = (i 0).val / 2048 * 2048 + (i 0).val % 2048
    omega
  · show (i 1).val = (i 1).val / 128 * 128 + (i 1).val % 128
    omega

/-- the packing of what is read so, -/
theorem packed_eq (q : FVec Ideal Cert.ProjRefIdeal.S8x2048x8x96 .f32) (b : Fin 8) (t : Fin 2048) (h : Fin 8) {up : Fin 96 → EReal} (hq : ∀ d, q (ix4 b t h d) = up d) (l : Fin 128) :
    packedQueries q (ix2 (n0 := 16384) (n1 := 1024) ⟨b.val * 2048 + t.val, by omega⟩ ⟨h.val * 128 + l.val, by omega⟩)
      = packed (rope (fun d => up ⟨64 + d.val, by omega⟩) t.val) (fun d => up ⟨d.val, by omega⟩) l * weight := by
  revert l
  refine lanes_cases (fun d => ?_) (fun d => ?_) (fun d => ?_)
  · rw [packed_rotated, rope]
    by_cases h' : d.val < 16
    · refine (Cert.ProjRefIdeal.Value.packedQueries_lo q b t h ⟨d.val, h'⟩).trans ?_
      have e : (⟨64 + (16 + d.val), by omega⟩ : Fin 96) = ⟨80 + d.val, by omega⟩ := Fin.ext (by simp only []; omega)
      simp only [hq, dif_pos h', e]
    · refine Eq.trans (congrArg (packedQueries q) (congrArg (ix2 (n0 := 16384) (n1 := 1024) _) (Fin.ext ?_))) ((Cert.ProjRefIdeal.Value.packedQueries_hi q b t h ⟨d.val - 16, by omega⟩).trans ?_)
      · show h.val * 128 + d.val = h.val * 128 + (16 + (d.val - 16))
        omega
      · have e : (⟨80 + (d.val - 16), by omega⟩ : Fin 96) = ⟨64 + d.val, by omega⟩ := Fin.ext (by simp only []; omega)
        simp only [hq, dif_neg h', e]
  · rw [packed_other]
    exact (Cert.ProjRefIdeal.Value.packedQueries_other q b t h d).trans (congrArg (· * weight) (hq _))
  · rw [packed_zero]
    exact Cert.ProjRefIdeal.Value.packedQueries_zero q b t h d

/-- those queries -/
theorem attend_query_eq (g : Vec Ideal S1x256 .f32) (u : Vec Ideal S256x768 .f32) :
    packedQueries (latentQueries (wides (extractStridedSlice Cert.ProjRefIdeal.S16384x256 ![0, 0] (projected (F := Ideal) x n w) Cert.ProjRefIdeal.Gen.slices_S16384x5032_S16384x256_0_0) g) u) = attendQueryAt x n w g u := by
  funext i
  obtain ⟨b, t, h, l, rfl⟩ := place_of i
  refine (packed_eq _ b t h (up_read x n w g u b t h) l).trans (Eq.trans ?_ (heads_at _ _ h l).symm)
  have ht : (b.val * 2048 + t.val) % 2048 = t.val := by omega
  simp only [ht]

/-- and those keys. -/
theorem attend_key_eq (g : Vec Ideal S1x128 .f32) (v : Vec Ideal S128x8x64 .f32) :
    packedKeys (rotated (extractStridedSlice Cert.ProjRefIdeal.S16384x32 ![0, 384] (projected (F := Ideal) x n w) Cert.ProjRefIdeal.Gen.slices_S16384x5032_S16384x32_0_384)) (latentKeys (latents (extractStridedSlice Cert.ProjRefIdeal.S16384x128 ![0, 256] (projected (F := Ideal) x n w) Cert.ProjRefIdeal.Gen.slices_S16384x5032_S16384x128_0_256) g) v) = attendKeyAt x n w g v := by
  rw [rope_eq, latent_eq]
  funext i
  obtain ⟨b, t, h, l, rfl⟩ := place_of i
  refine Eq.trans ?_ (heads_at _ _ h l).symm
  revert l
  refine lanes_cases (fun d => ?_) (fun d => ?_) (fun d => ?_)
  · rw [packed_rotated]
    exact Cert.ProjRefIdeal.Value.packedKeys_rotated _ _ _ h d
  · rw [packed_other]
    exact (Cert.ProjRefIdeal.Value.packedKeys_other _ _ _ h d).trans (Cert.ProjRefIdeal.Value.latentKeys_read _ _ _ h d)
  · rw [packed_zero]
    exact Cert.ProjRefIdeal.Value.packedKeys_zero _ _ _ h d

end Results

/-- Over the extended reals the kernel and the reference compute the same arrays. -/
theorem algebraic : Cert.algebraic_ProjIdeal_ProjRefIdeal := by
  intro m ρ m' ρ' _ hagree
  refine ⟨fun c => latentAt (m ((c : Thread nD τ).loc main_arg0)) (m ((c : Thread nD τ).loc main_arg1)) (m ((c : Thread nD τ).loc main_arg2)) (m ((c : Thread nD τ).loc main_arg4)),
    fun c => ropeAt (m ((c : Thread nD τ).loc main_arg0)) (m ((c : Thread nD τ).loc main_arg1)) (m ((c : Thread nD τ).loc main_arg2)),
    fun c => keyAt (m ((c : Thread nD τ).loc main_arg0)) (m ((c : Thread nD τ).loc main_arg1)) (m ((c : Thread nD τ).loc main_arg2)),
    fun c => valueAt (m ((c : Thread nD τ).loc main_arg0)) (m ((c : Thread nD τ).loc main_arg1)) (m ((c : Thread nD τ).loc main_arg2)),
    fun c => gateAt (m ((c : Thread nD τ).loc main_arg0)) (m ((c : Thread nD τ).loc main_arg1)) (m ((c : Thread nD τ).loc main_arg2)) (m ((c : Thread nD τ).loc main_arg8)),
    fun c => latentValueAt (m ((c : Thread nD τ).loc main_arg0)) (m ((c : Thread nD τ).loc main_arg1)) (m ((c : Thread nD τ).loc main_arg2)) (m ((c : Thread nD τ).loc main_arg4)) (m ((c : Thread nD τ).loc main_arg7)),
    fun c => queryAt (m ((c : Thread nD τ).loc main_arg0)) (m ((c : Thread nD τ).loc main_arg1)) (m ((c : Thread nD τ).loc main_arg2)),
    fun c => keyRowAt (m ((c : Thread nD τ).loc main_arg0)) (m ((c : Thread nD τ).loc main_arg1)) (m ((c : Thread nD τ).loc main_arg2)),
    fun c => valueHalfAt (m ((c : Thread nD τ).loc main_arg0)) (m ((c : Thread nD τ).loc main_arg1)) (m ((c : Thread nD τ).loc main_arg2)),
    fun c => attendQueryAt (m ((c : Thread nD τ).loc main_arg0)) (m ((c : Thread nD τ).loc main_arg1)) (m ((c : Thread nD τ).loc main_arg2)) (m ((c : Thread nD τ).loc main_arg3)) (m ((c : Thread nD τ).loc main_arg5)),
    fun c => attendKeyAt (m ((c : Thread nD τ).loc main_arg0)) (m ((c : Thread nD τ).loc main_arg1)) (m ((c : Thread nD τ).loc main_arg2)) (m ((c : Thread nD τ).loc main_arg4)) (m ((c : Thread nD τ).loc main_arg6)),
    (θ_run Cert.ProjIdeal.defs _ _).mono (fun _ h c => ?_) (Cert.ProjIdeal.Value.run_blocks (F := Ideal) m ρ),
    (θ_run Cert.ProjRefIdeal.defs _ _).mono (fun _ h c => ?_) (Cert.ProjRefIdeal.Value.run (F := Ideal) m' ρ')⟩
  · obtain ⟨h14, h15, h16, h17, h18, h19, h20, h21, h22, h23, h24, -, hargs⟩ := h c
    exact ⟨h17.trans (final_latent m c), h18.trans (final_rope m c), h22.trans (final_key m c), h23.trans (final_value m c),
      h24.trans (final_gate m c), h16.trans (final_latent_value m c), h19.trans (final_query m c), h20.trans (final_key_row m c),
      h21.trans (final_value_half m c), h14.trans (final_attend_query m c), h15.trans (final_attend_key m c), hargs⟩
  · obtain ⟨g0, g1, g2, g3, g4, g5, g6, g7, g8, g9, g10, hargs⟩ := h c
    obtain ⟨a0, a1, a2, a3, a4, a5, a6, a7, a8⟩ := hagree c
    beta_reduce
    rw [← a0, ← a1, ← a2, ← a3, ← a4, ← a5, ← a6, ← a7, ← a8]
    exact ⟨g0.trans (latent_eq _ _ _ _),
      g1.trans (rope_eq _ _ _),
      g2.trans (key_eq _ _ _),
      g3.trans (value_eq _ _ _),
      g4.trans (gate_eq _ _ _ _),
      g5.trans (latent_value_eq _ _ _ _ _),
      g6.trans (query_eq _ _ _),
      g7.trans (key_row_eq _ _ _),
      g8.trans (value_eq _ _ _),
      g9.trans (attend_query_eq _ _ _ _ _),
      g10.trans (attend_key_eq _ _ _ _ _), hargs⟩

end Cert.Proof.ProjClaims

end
-- ==== Proof.ProjS.Open.lean ====
module

public import proofs.«01_k».proof.Proof.Gen.ProjSIdeal.Frame
public import Idealize.ShloMosaic.Lib.Pipeline.ValueKit
public import Idealize.ShloMosaic.Lib.Pipeline.ReadBack

@[expose] public section

set_option maxRecDepth 16384

noncomputable section

/-! # What the one point of the sample's projections leaves in its output blocks -/

namespace Cert.ProjSIdeal.Gen

open Cert.ProjSIdeal Cert.ProjSIdeal.Gen Idealize.ShloMosaic Idealize.ShloMosaic.TcCoe
open Idealize.SL.Sem
open Idealize.ShloMosaic.Pipeline (Dat)

variable (m : (ℓ : Loc nD τ sig) → Buf (Elt Ideal) ℓ) (c : Dev nD) (t : Fin cfg0.N)

/-- The products of the normalised rows with the packed weights. -/
abbrev cols : FVec Ideal S128x2304 .f32 := k0_pay15 (iblk m c 0 t) (iblk m c 1 t) (iblk m c 2 t)

/-- The latent rows, -/
theorem after_latent : (dats m 0 c).after 9 t
    = k0_pay32 (iblk m c 4 t) (k0_pay30 (cols m c t)) (k0_pay31 (cols m c t)) (Scalar.ofBits .f32 897988541#32) := by
  rw [after0_9]
  unfold out0_9 k0_pay57
  frame_out

/-- the rotated rows, -/
theorem after_rope : (dats m 0 c).after 10 t
    = k0_pay37 (k0_pay7 (F := Ideal)) (k0_pay11 (k0_pay6 (F := Ideal)) k0_pay8 k0_pay9 k0_pay10) (cols m c t) := by
  rw [after0_10]
  unfold out0_10 k0_pay57 k0_pay54 k0_pay53
  frame_out

/-- the keys, -/
theorem after_key : (dats m 0 c).after 12 t = k0_pay35 (cols m c t) := by
  rw [after0_12]
  unfold out0_12 k0_pay57
  frame_out

/-- the values -/
theorem after_value : (dats m 0 c).after 13 t = k0_pay36 (cols m c t) := by
  rw [after0_13]
  unfold out0_13 k0_pay57
  frame_out

/-- and the forget gates. -/
theorem after_gate : (dats m 0 c).after 14 t = k0_pay33 (k0_pay14 (iblk m c 8 t)) (cols m c t) := by
  rw [after0_14]
  unfold out0_14 k0_pay57
  frame_out

end Cert.ProjSIdeal.Gen

end
-- ==== Proof.ProjS.Block.lean ====
module

public import proofs.«01_k».proof.Proof.Gen.ProjSIdeal.Skeleton
public import proofs.«01_k».proof.Proof.Proj.Row
public import Idealize.ShloMosaic.Lib.Pointwise

@[expose] public section

set_option maxRecDepth 16384

noncomputable section

/-! # What the sample's projections compute, row by row -/

namespace Cert.ProjSIdeal.Gen

open Cert.ProjSIdeal Cert.ProjSIdeal.Gen Idealize.ShloMosaic Idealize.ShloMosaic.TcCoe Cert.Proj.Row

/-- The rows against the packed input weights. -/
theorem projected_read (x : Vec Ideal S128x1024 .f32) (g : Vec Ideal S1x1024 .f32) (w : Vec Ideal S1024x2304 .bf16) (r : Fin 128) (j : Fin 2304) :
    k0_pay15 x g w (ix2 r j) = col (fun k => x (ix2 r k)) (fun k => g (ix2 0 k)) (fun k => w (ix2 k j)) := by
  pointwise [k0_pay15]
  rfl

/-- The latent rows. -/
theorem latent_read (z : FVec Ideal S128x2304 .f32) (g : Vec Ideal S1x128 .f32) (r d : Fin 128) :
    k0_pay32 g (k0_pay30 z) (k0_pay31 z) (Scalar.ofBits .f32 897988541#32) (ix2 r d)
      = latent (fun k => z (ix2 r ⟨256 + k.val, by omega⟩)) (fun k => g (ix2 0 k)) d := by
  pointwise [k0_pay32, k0_pay30, k0_pay31]
  rfl

/-- The rotated rows, from the two packings of their weights. -/
theorem rotated_read (z : FVec Ideal S128x2304 .f32) (a b : FVec Ideal S128x128 .f32) (r : Fin 128) (d : Fin 32) :
    k0_pay37 a b z (ix2 r d)
      = z (ix2 r ⟨384 + d.val, by omega⟩) * a (ix2 r ⟨d.val, by omega⟩) + z (ix2 r ⟨512 + d.val, by omega⟩) * b (ix2 r ⟨d.val, by omega⟩) := by
  pointwise [k0_pay37]

/-- The forget gates. -/
theorem gate_read (z : FVec Ideal S128x2304 .f32) (b : Vec Ideal S1x128 .f32) (r h : Fin 128) :
    k0_pay33 (k0_pay14 b) z (ix2 r h) = logsig (z (ix2 r ⟨640 + h.val, by omega⟩) + b (ix2 0 h)) := by
  pointwise [k0_pay33, k0_pay14]
  rw [logsig]
  simp only [zero_sub]
  generalize z _ + b _ = y
  show -(_ + Ideal.log (1 + Ideal.exp (-max y (-y)))) = -(_ + Ideal.log (1 + Ideal.exp (-max (-y) (- -y))))
  rw [neg_neg, max_comm y]

/-- The keys -/
theorem key_read (z : FVec Ideal S128x2304 .f32) (r : Fin 128) (j : Fin 512) :
    k0_pay35 z (ix2 r j) = z (ix2 r ⟨1280 + j.val, by omega⟩) := by
  pointwise [k0_pay35]

/-- and the values. -/
theorem value_read (z : FVec Ideal S128x2304 .f32) (r : Fin 128) (j : Fin 512) :
    k0_pay36 z (ix2 r j) = z (ix2 r ⟨1792 + j.val, by omega⟩) := by
  pointwise [k0_pay36]

/-- The angle of a lane. -/
theorem angle_read (r : Fin 128) (d : Fin 32) :
    k0_pay5 (F := Ideal) (ix2 (n0 := 128) (n1 := 128) r ⟨d.val, by omega⟩) = angle 16384 (d.val % 16) := by
  pointwise [k0_pay5]
  refine congrArg₂ (· * ·) rfl (congrArg Ideal.exp (congrArg₂ Ideal.div (congrArg₂ (· * ·) rfl (congrArg (FloatOps.sitofp .f32) ?_)) rfl))
  revert d
  decide +kernel

/-- The table of cosines. -/
theorem cos_read (r : Fin 128) (d : Fin 32) :
    k0_pay7 (F := Ideal) (ix2 (n0 := 128) (n1 := 128) r ⟨d.val, by omega⟩) = Ideal.cos (angle 16384 (d.val % 16)) := by
  rw [← angle_read r d]
  unfold k0_pay7
  generalize k0_pay5 (F := Ideal) = a
  pointwise
  have h : IntOp.cmpi .slt (BitVec.ofNat 32 d.val) 32#32 = 1#1 := by revert d; decide +kernel
  rw [h]
  rfl

/-- The table of sines: negated over the first half. -/
theorem sin_low (r : Fin 128) (d : Fin 16) :
    k0_pay11 (k0_pay6 (F := Ideal)) k0_pay8 k0_pay9 k0_pay10 (ix2 (n0 := 128) (n1 := 128) r ⟨d.val, by omega⟩) = -Ideal.sin (angle 16384 d.val) := by
  have e : _ = angle 16384 (d.val % 16) := angle_read r ⟨d.val, by omega⟩
  rw [Nat.mod_eq_of_lt d.isLt] at e
  rw [← e]
  unfold k0_pay9 k0_pay6
  generalize k0_pay5 (F := Ideal) = a
  clear e
  pointwise [k0_pay11, k0_pay8, k0_pay10]
  have h : IntOp.cmpi .slt (BitVec.ofNat 32 d.val) 16#32 = 1#1 := by revert d; decide +kernel
  rw [h]
  exact zero_sub _

theorem sin_high (r : Fin 128) (d : Fin 16) :
    k0_pay11 (k0_pay6 (F := Ideal)) k0_pay8 k0_pay9 k0_pay10 (ix2 (n0 := 128) (n1 := 128) r ⟨16 + d.val, by omega⟩) = Ideal.sin (angle 16384 d.val) := by
  have e : _ = angle 16384 ((16 + d.val) % 16) := angle_read r ⟨16 + d.val, by omega⟩
  rw [Nat.add_mod_left, Nat.mod_eq_of_lt d.isLt] at e
  rw [← e]
  unfold k0_pay9 k0_pay6
  generalize k0_pay5 (F := Ideal) = a
  clear e
  pointwise [k0_pay11, k0_pay8, k0_pay10]
  have h : IntOp.cmpi .slt (BitVec.ofNat 32 (16 + d.val)) 16#32 = 0#1 := by revert d; decide +kernel
  have h' : IntOp.cmpi .slt (BitVec.ofNat 32 (16 + d.val)) 32#32 = 1#1 := by clear h; revert d; decide +kernel
  rw [h, h']
  rfl

end Cert.ProjSIdeal.Gen

end
-- ==== Proof.ProjS.Host.lean ====
module

public import proofs.«01_k».proof.Proof.Gen.ProjSIdeal.Frame
public import proofs.«01_k».proof.Proof.Proj.Row
public import Idealize.ShloMosaic.Lib.Pointwise
public import Idealize.ShloMosaic.Lib.StableHlo.ReadAt

@[expose] public section

set_option maxRecDepth 16384

noncomputable section

/-! # The operands that the program of the sample's projections prepares -/

namespace Cert.ProjSIdeal.Gen

open Cert.ProjSIdeal Cert.ProjSIdeal.Gen Idealize.ShloMosaic Idealize.ShloMosaic.TcCoe Cert.Proj.Row

variable (m : (ℓ : Loc nD τ sig) → Buf (Elt Ideal) ℓ)

/-- The zero that fills the packings. -/
theorem zero_word : (FloatOps.sitofp (F := Ideal) .f32 (0#32 : BitVec 32) : EReal) = 0 := by
  show (((0#32 : BitVec 32).toInt : ℝ) : EReal) = 0
  simp

/-- The packed forget gates' bias, -/
theorem V_bias (c : Dev nD) (h : Fin 8) :
    V m c main_v35 (ix2 (n0 := 1) (n1 := 128) 0 ⟨h.val, by omega⟩) = m ((c : Thread nD τ).loc main_arg8) (ix1 h) := by
  unfold V
  after_reads_at

/-- zeros beside it. -/
theorem V_bias_pad (c : Dev nD) (h : Fin 120) :
    V m c main_v35 (ix2 (n0 := 1) (n1 := 128) 0 ⟨8 + h.val, by omega⟩) = (0 : EReal) := by
  unfold V
  after_reads_at
  exact zero_word

/-- The packed input weights: the latent's, -/
theorem V_latent (c : Dev nD) (k : Fin 1024) (d : Fin 128) :
    V m c main_v38 (ix2 (n0 := 1024) (n1 := 2304) k ⟨256 + d.val, by omega⟩) = m ((c : Thread nD τ).loc main_arg2) (ix2 (n0 := 1024) (n1 := 5032) k ⟨256 + d.val, by omega⟩) := by
  unfold V
  after_reads_at
  after_reads_at

/-- the rotation's, -/
theorem V_rope (c : Dev nD) (k : Fin 1024) (d : Fin 32) :
    V m c main_v38 (ix2 (n0 := 1024) (n1 := 2304) k ⟨384 + d.val, by omega⟩) = m ((c : Thread nD τ).loc main_arg2) (ix2 (n0 := 1024) (n1 := 5032) k ⟨384 + d.val, by omega⟩) := by
  unfold V
  after_reads_at
  rw [dif_neg (by omega), dif_neg (by omega), dif_pos (by omega)]
  after_reads_at
  rw [dif_pos (by omega)]
  split_ifs <;> after_reads_at
  all_goals exact congrArg (m _) (congrArg (ix2 k) (Fin.ext (by simp only []; omega)))

/-- the rotation's with its halves exchanged, -/
theorem V_rope_low (c : Dev nD) (k : Fin 1024) (d : Fin 16) :
    V m c main_v38 (ix2 (n0 := 1024) (n1 := 2304) k ⟨512 + d.val, by omega⟩) = m ((c : Thread nD τ).loc main_arg2) (ix2 (n0 := 1024) (n1 := 5032) k ⟨400 + d.val, by omega⟩) := by
  unfold V
  after_reads_at
  rw [dif_neg (by omega), dif_neg (by omega), dif_neg (by omega), dif_pos (by omega)]
  after_reads_at
  rw [dif_pos (by omega), dif_pos (by omega)]
  after_reads_at
  exact congrArg (m _) (congrArg (ix2 k) (Fin.ext (by simp only []; omega)))

theorem V_rope_high (c : Dev nD) (k : Fin 1024) (d : Fin 16) :
    V m c main_v38 (ix2 (n0 := 1024) (n1 := 2304) k ⟨528 + d.val, by omega⟩) = m ((c : Thread nD τ).loc main_arg2) (ix2 (n0 := 1024) (n1 := 5032) k ⟨384 + d.val, by omega⟩) := by
  unfold V
  after_reads_at
  rw [dif_neg (by omega), dif_neg (by omega), dif_neg (by omega), dif_pos (by omega)]
  after_reads_at
  rw [dif_pos (by omega), dif_neg (by omega)]
  after_reads_at
  exact congrArg (m _) (congrArg (ix2 k) (Fin.ext (by simp only []; omega)))

/-- the forget gates', -/
theorem V_gate (c : Dev nD) (k : Fin 1024) (h : Fin 8) :
    V m c main_v38 (ix2 (n0 := 1024) (n1 := 2304) k ⟨640 + h.val, by omega⟩) = m ((c : Thread nD τ).loc main_arg2) (ix2 (n0 := 1024) (n1 := 5032) k ⟨1952 + h.val, by omega⟩) := by
  unfold V
  after_reads_at
  rw [dif_neg (by omega), dif_neg (by omega), dif_neg (by omega), dif_neg (by omega), dif_pos (by omega)]
  after_reads_at
  rw [dif_pos (by omega)]
  exact congrArg (m _) (congrArg (ix2 k) (Fin.ext (by simp only []; omega)))

/-- zeros beside them, -/
theorem V_gate_pad (c : Dev nD) (k : Fin 1024) (h : Fin 120) :
    V m c main_v38 (ix2 (n0 := 1024) (n1 := 2304) k ⟨648 + h.val, by omega⟩) = (0 : EReal) := by
  unfold V
  after_reads_at
  rw [dif_neg (by omega), dif_neg (by omega), dif_neg (by omega), dif_neg (by omega), dif_pos (by omega)]
  after_reads_at
  rw [dif_neg (by omega)]
  exact zero_word

/-- the keys' -/
theorem V_key (c : Dev nD) (k : Fin 1024) (j : Fin 512) :
    V m c main_v38 (ix2 (n0 := 1024) (n1 := 2304) k ⟨1280 + j.val, by omega⟩) = m ((c : Thread nD τ).loc main_arg2) (ix2 (n0 := 1024) (n1 := 5032) k ⟨928 + j.val, by omega⟩) := by
  unfold V
  after_reads_at
  rw [dif_neg (by omega), dif_neg (by omega), dif_neg (by omega), dif_neg (by omega), dif_neg (by omega), dif_neg (by omega), dif_pos (by omega)]
  after_reads_at
  exact congrArg (m _) (congrArg (ix2 k) (Fin.ext (by simp only []; omega)))

/-- and the values'. -/
theorem V_value (c : Dev nD) (k : Fin 1024) (j : Fin 512) :
    V m c main_v38 (ix2 (n0 := 1024) (n1 := 2304) k ⟨1792 + j.val, by omega⟩) = m ((c : Thread nD τ).loc main_arg2) (ix2 (n0 := 1024) (n1 := 5032) k ⟨1440 + j.val, by omega⟩) := by
  unfold V
  after_reads_at
  rw [dif_neg (by omega), dif_neg (by omega), dif_neg (by omega), dif_neg (by omega), dif_neg (by omega), dif_neg (by omega), dif_neg (by omega)]
  after_reads_at
  exact congrArg (m _) (congrArg (ix2 k) (Fin.ext (by simp only []; omega)))

end Cert.ProjSIdeal.Gen

end
-- ==== Proof.ProjS.Array.lean ====
module

public import proofs.«01_k».proof.Proof.ProjS.Open
public import proofs.«01_k».proof.Proof.ProjS.Block
public import proofs.«01_k».proof.Proof.ProjS.Host

@[expose] public section

set_option maxRecDepth 16384

noncomputable section

/-! # The result arrays of the sample's projections as functions of the argument arrays -/

namespace Cert.ProjSIdeal.Gen

open Cert.ProjSIdeal Cert.ProjSIdeal.Gen Idealize.ShloMosaic Idealize.ShloMosaic.TcCoe
open Idealize.SL.Sem
open Idealize.ShloMosaic.Pipeline (Dat)
open Cert.Proj.Row

section Results

variable (x : Vec Ideal S128x1024 .f32) (n : Vec Ideal S1x1024 .f32) (w : Vec Ideal S1024x5032 .f32)

/-- Row `r` against column `j` of the input weights. -/
def colAt (r : Fin 128) (j : Fin 5032) : EReal :=
  col (fun k => x (ix2 r k)) (fun k => n (ix2 0 k)) (fun k => w (ix2 k j))

/-- The results: the latent rows, -/
def latentAt (g : Vec Ideal S1x128 .f32) : Vec Ideal S128x128 .f32 := fun i =>
  latent (fun k => colAt x n w (i 0) ⟨256 + k.val, by omega⟩) (fun k => g (ix2 0 k)) (i 1)

/-- the rotated rows, -/
def ropeAt : Vec Ideal S128x32 .f32 := fun i => rope (fun d => colAt x n w (i 0) ⟨384 + d.val, by omega⟩) 16384 (i 1)

/-- the keys, -/
def keyAt : Vec Ideal S128x512 .f32 := fun i =>
  colAt x n w (i 0) ⟨928 + (i 1).val, by have h : (i 1).val < 512 := (i 1).isLt; omega⟩

/-- the values -/
def valueAt : Vec Ideal S128x512 .f32 := fun i =>
  colAt x n w (i 0) ⟨1440 + (i 1).val, by have h : (i 1).val < 512 := (i 1).isLt; omega⟩

/-- and the forget gates, beside which the logit is 0. -/
def gateAt (b : Vec Ideal S8 .f32) : Vec Ideal S128x128 .f32 := fun i =>
  if h : (i 1).val < 8 then logsig (colAt x n w (i 0) ⟨1952 + (i 1).val, by omega⟩ + b (ix1 (n0 := 8) ⟨(i 1).val, h⟩))
  else logsig 0

end Results

theorem eq_ix2_of {n0 n1 : ℕ} {i : (⟨2, ![n0, n1]⟩ : Shape).Idx} {a : Fin n0} {b : Fin n1} (ha : (i 0).val = a.val)
    (hb : (i 1).val = b.val) : i = ix2 (n0 := n0) (n1 := n1) a b := by
  rw [eq_ix2 i, show i 0 = a from Fin.ext ha, show i 1 = b from Fin.ext hb]

theorem from_zero (n k : ℕ) : 0 * n + 1 * k = k := by omega

variable (m : (ℓ : Loc nD τ sig) → Buf (Elt Ideal) ℓ) (c : Dev nD) (t : Fin cfg0.N)

/-- Every window holds its array whole. -/
theorem iblk0 (r : Fin 128) (k : Fin 1024) : iblk m c 0 t (ix2 r k) = m ((c : Thread nD τ).loc main_arg0) (ix2 r k) :=
  (congrArg (V m c main_arg0) (eq_ix2_of (from_zero _ _) (from_zero _ _))).trans (congrFun (V_main_arg0 m c) _)
theorem iblk1 (k : Fin 1) (j : Fin 1024) : iblk m c 1 t (ix2 k j) = m ((c : Thread nD τ).loc main_arg1) (ix2 k j) :=
  (congrArg (V m c main_arg1) (eq_ix2_of (from_zero _ _) (from_zero _ _))).trans (congrFun (V_main_arg1 m c) _)
theorem iblk2 (k : Fin 1024) (j : Fin 2304) : iblk m c 2 t (ix2 k j) = V m c main_v38 (ix2 k j) :=
  congrArg (V m c main_v38) (eq_ix2_of (from_zero _ _) (from_zero _ _))
theorem iblk4 (k : Fin 1) (j : Fin 128) : iblk m c 4 t (ix2 k j) = m ((c : Thread nD τ).loc main_arg4) (ix2 k j) :=
  (congrArg (V m c main_arg4) (eq_ix2_of (from_zero _ _) (from_zero _ _))).trans (congrFun (V_main_arg4 m c) _)
theorem iblk8 (k : Fin 1) (j : Fin 128) : iblk m c 8 t (ix2 k j) = V m c main_v35 (ix2 k j) :=
  congrArg (V m c main_v35) (eq_ix2_of (from_zero _ _) (from_zero _ _))

/-- Device `c`'s columns. -/
abbrev colOf (r : Fin 128) (j : Fin 5032) : EReal :=
  colAt (m ((c : Thread nD τ).loc main_arg0)) (m ((c : Thread nD τ).loc main_arg1)) (m ((c : Thread nD τ).loc main_arg2)) r j

/-- A column of the packed products is the column of the weights packed there. -/
theorem cols_eq (r : Fin 128) {p : Fin 2304} {j : Fin 5032}
    (h : ∀ k, V m c main_v38 (ix2 k p) = m ((c : Thread nD τ).loc main_arg2) (ix2 (n0 := 1024) (n1 := 5032) k j)) :
    cols m c t (ix2 r p) = colOf m c r j := by
  refine (projected_read _ _ _ _ _).trans ?_
  rw [colOf, colAt]
  simp only [iblk0, iblk1, iblk2, h]

/-- A column packed with zeros gives zeros. -/
theorem cols_zero (r : Fin 128) {p : Fin 2304} (h : ∀ k, V m c main_v38 (ix2 k p) = (0 : EReal)) :
    cols m c t (ix2 r p) = (0 : EReal) := by
  refine (projected_read _ _ _ _ _).trans (Finset.sum_eq_zero fun k _ => ?_)
  exact (congrArg (_ * ·) ((iblk2 m c t k p).trans (h k))).trans (mul_zero _)

/-- The latent rows of the point, -/
theorem point_latent (r d : Fin 128) : (dats m 0 c).after 9 t (ix2 r d)
    = latent (fun k => colOf m c r ⟨256 + k.val, by omega⟩) (fun k => m ((c : Thread nD τ).loc main_arg4) (ix2 (n0 := 1) (n1 := 128) 0 k)) d := by
  rw [after_latent, latent_read]
  simp only [iblk4, cols_eq m c t r (V_latent m c · _)]

/-- its keys, -/
theorem point_key (r : Fin 128) (j : Fin 512) : (dats m 0 c).after 12 t (ix2 r j) = colOf m c r ⟨928 + j.val, by omega⟩ := by
  rw [after_key, key_read, cols_eq m c t r (V_key m c · j)]

/-- its values -/
theorem point_value (r : Fin 128) (j : Fin 512) : (dats m 0 c).after 13 t (ix2 r j) = colOf m c r ⟨1440 + j.val, by omega⟩ := by
  rw [after_value, value_read, cols_eq m c t r (V_value m c · j)]

/-- and its forget gates. -/
theorem point_gate (r h : Fin 128) : (dats m 0 c).after 14 t (ix2 r h)
    = gateAt (m ((c : Thread nD τ).loc main_arg0)) (m ((c : Thread nD τ).loc main_arg1)) (m ((c : Thread nD τ).loc main_arg2))
      (m ((c : Thread nD τ).loc main_arg8)) (ix2 r h) := by
  rw [after_gate, gate_read, iblk8]
  obtain ⟨h, hh⟩ := h
  by_cases h8 : h < 8
  · refine Eq.trans ?_ (dif_pos h8).symm
    rw [cols_eq m c t r (V_gate m c · ⟨h, h8⟩), V_bias m c ⟨h, h8⟩]
    rfl
  · refine Eq.trans ?_ (dif_neg h8).symm
    obtain ⟨e, rfl⟩ : ∃ e, h = 8 + e := ⟨h - 8, by omega⟩
    have e0 : cols m c t (ix2 (n0 := 128) (n1 := 2304) r ⟨640 + (8 + e), by omega⟩) = (0 : EReal) :=
      cols_zero m c t r fun k => (congrArg (V m c main_v38) (congrArg (ix2 k) (Fin.ext (by show 640 + (8 + e) = 648 + e; omega)))).trans (V_gate_pad m c k ⟨e, by omega⟩)
    exact congrArg logsig ((congrArg₂ (· + ·) e0 (V_bias_pad m c ⟨e, by omega⟩)).trans (add_zero (0 : EReal)))

/-- The rotated rows: the second packing has the halves exchanged, and the table of sines is negated over the first half. -/
theorem point_rope (r : Fin 128) (d : Fin 32) : (dats m 0 c).after 10 t (ix2 r d)
    = rope (fun d => colOf m c r ⟨384 + d.val, by omega⟩) 16384 d := by
  rw [after_rope, rotated_read, cols_eq m c t r (V_rope m c · d), cos_read r d]
  obtain ⟨d, hd⟩ := d
  by_cases h : d < 16
  · have e : d % 16 = d := Nat.mod_eq_of_lt h
    rw [cols_eq m c t r (V_rope_low m c · ⟨d, h⟩), sin_low r ⟨d, h⟩, rope, dif_pos h, rotA, sub_eq_add_neg, mul_neg]
    simp only [e]
    refine congrArg (_ + -· ) (congrArg (· * _) (congrArg (colOf m c _) (Fin.ext ?_)))
    show 400 + d = 384 + (16 + d)
    omega
  · obtain ⟨e, rfl⟩ : ∃ e, d = 16 + e := ⟨d - 16, by omega⟩
    have he : e < 16 := by omega
    have h1 : (16 + e) % 16 = e := by omega
    have h2 : 16 + e - 16 = e := by omega
    rw [rope, dif_neg h, rotB]
    simp only [h1, h2]
    refine congrArg (_ + ·) (congrArg₂ (· * ·) ?_ (sin_high r ⟨e, he⟩))
    refine Eq.trans ?_ (cols_eq m c t r (V_rope_high m c · ⟨e, he⟩))
    exact congrArg (cols m c t) (congrArg (ix2 r) (Fin.ext (by simp only []; omega)))

/-- The arrays after the run: the point's blocks are the arrays. -/
theorem final_latent : (dats m 0 c).arrAt 9 cfg0.N
    = latentAt (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  obtain ⟨r, d, rfl⟩ : ∃ (r : Fin 128) (d : Fin 128), y = ix2 r d := ⟨y 0, y 1, eq_ix2 y⟩
  have e : (win0_9.blk t).view.emb (ix2 r d) = ix2 r d := eq_ix2_of (from_zero _ _) (from_zero _ _)
  blk_simp
  rw [e]
  exact point_latent m c t r d

theorem final_rope : (dats m 0 c).arrAt 10 cfg0.N
    = ropeAt (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨r, d, rfl⟩ : ∃ (r : Fin 128) (d : Fin 32), y = ix2 r d := ⟨y 0, y 1, eq_ix2 y⟩
  have e : (win0_10.blk t).view.emb (ix2 r d) = ix2 r d := eq_ix2_of (from_zero _ _) (from_zero _ _)
  blk_simp
  rw [e]
  exact point_rope m c t r d

theorem final_key : (dats m 0 c).arrAt 12 cfg0.N
    = keyAt (m ((c : Thread nD τ).loc main_arg0)) (m ((c : Thread nD τ).loc main_arg1)) (m ((c : Thread nD τ).loc main_arg2)) := by
  refine (dats m 0 c).arrAt_eq_of_covers 12 _ (by decide +kernel) fun t hf y => ?_
  obtain ⟨r, j, rfl⟩ : ∃ (r : Fin 128) (j : Fin 512), y = ix2 r j := ⟨y 0, y 1, eq_ix2 y⟩
  have e : (win0_12.blk t).view.emb (ix2 r j) = ix2 r j := eq_ix2_of (from_zero _ _) (from_zero _ _)
  blk_simp
  rw [e]
  exact point_key m c t r j

theorem final_value : (dats m 0 c).arrAt 13 cfg0.N
    = valueAt (m ((c : Thread nD τ).loc main_arg0)) (m ((c : Thread nD τ).loc main_arg1)) (m ((c : Thread nD τ).loc main_arg2)) := by
  refine (dats m 0 c).arrAt_eq_of_covers 13 _ (by decide +kernel) fun t hf y => ?_
  obtain ⟨r, j, rfl⟩ : ∃ (r : Fin 128) (j : Fin 512), y = ix2 r j := ⟨y 0, y 1, eq_ix2 y⟩
  have e : (win0_13.blk t).view.emb (ix2 r j) = ix2 r j := eq_ix2_of (from_zero _ _) (from_zero _ _)
  blk_simp
  rw [e]
  exact point_value m c t r j

theorem final_gate : (dats m 0 c).arrAt 14 cfg0.N
    = gateAt (m ((c : Thread nD τ).loc main_arg0)) (m ((c : Thread nD τ).loc main_arg1)) (m ((c : Thread nD τ).loc main_arg2)) (m ((c : Thread nD τ).loc main_arg8)) := by
  refine (dats m 0 c).arrAt_eq_of_covers 14 _ (by decide +kernel) fun t hf y => ?_
  obtain ⟨r, h, rfl⟩ : ∃ (r : Fin 128) (h : Fin 128), y = ix2 r h := ⟨y 0, y 1, eq_ix2 y⟩
  have e : (win0_14.blk t).view.emb (ix2 r h) = ix2 r h := eq_ix2_of (from_zero _ _) (from_zero _ _)
  blk_simp
  rw [e]
  exact point_gate m c t r h

end Cert.ProjSIdeal.Gen

end
-- ==== Proof.MergeS.Ref.lean ====
module

public import proofs.«01_k».proof.Proof.Gen.MergeSRefIdeal.Run
public import proofs.«01_k».proof.Proof.Merge.Ref
public import Idealize.ShloMosaic.Lib.Pointwise

@[expose] public section

set_option maxRecDepth 16384

noncomputable section

/-! # The reference of the sample's merge, row by row -/

namespace Cert.MergeSRefIdeal.Value

open Cert.MergeSRefIdeal Cert.MergeSRefIdeal.Gen Idealize.ShloMosaic Idealize.ShloMosaic.TcCoe Cert.Merge.Row

variable {F : FTy → Type} [FloatOps F]

/-- The rows over their root mean squares, times the gain. -/
def normed (x : FVec F S128x1024 .f32) (g : FVec F S1x1024 .f32) : FVec F S128x1024 .f32 :=
  mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 g)

/-- The four gates, side by side. -/
def gated (x : FVec F S128x1024 .f32) (g : FVec F S1x1024 .f32) (w : Vec F S1024x3072 .bf16) : FVec F S128x3072 .f32 :=
  Host.dotGeneral dot_S128x1024_S1024x3072_S128x3072_1_0_0_1_n_n none (normed x g) (extf .f32 w bitsLt_bf16_f32)

/-- The logistic function of a matrix of 1024 columns, -/
def sg1024 (z : FVec F S128x1024 .f32) : FVec F S128x1024 .f32 :=
  Host.divf (broadcastInDim S128x1024 ![] bcast_S_S128x1024 (constant S_ .f32 0x3F800000#32)) (addf (broadcastInDim S128x1024 ![] bcast_S_S128x1024 (constant S_ .f32 0x3F800000#32)) (Host.exp (Host.negf z)))

/-- and of 512. -/
def sg512 (z : FVec F S128x512 .f32) : FVec F S128x512 .f32 :=
  Host.divf (broadcastInDim S128x512 ![] bcast_S_S128x512 (constant S_ .f32 0x3F800000#32)) (addf (broadcastInDim S128x512 ![] bcast_S_S128x512 (constant S_ .f32 0x3F800000#32)) (Host.exp (Host.negf z)))

/-- A branch times its gate, projected. -/
def upped (o z : FVec F S128x512 .f32) (w : Vec F S512x1024 .bf16) : FVec F S128x1024 .f32 :=
  Host.dotGeneral dot_S128x512_S512x1024_S128x1024_1_0_0_1_n_n none (mulf o (mulf z (sg512 z))) (extf .f32 w bitsLt_bf16_f32)

/-- The projected branches under their gates, projected and added. -/
def hidden (x a b ya yb : FVec F S128x1024 .f32) (w : Vec F S1024x1024 .bf16) : FVec F S128x1024 .f32 :=
  addf x (Host.dotGeneral dot_S128x1024_S1024x1024_S128x1024_1_0_0_1_n_n none (addf (mulf (sg1024 a) ya) (mulf (sg1024 b) yb)) (extf .f32 w bitsLt_bf16_f32))

/-- The embedding under its gate, added. -/
def lasted (h : FVec F S128x1024 .f32) (wg : Vec F S1024x1024 .bf16) (p : FVec F S128x256 .f32) (w : Vec F S256x1024 .bf16) : FVec F S128x1024 .f32 :=
  addf h (mulf (sg1024 (Host.dotGeneral dot_S128x1024_S1024x1024_S128x1024_1_0_0_1_n_n none h (extf .f32 wg bitsLt_bf16_f32)))
    (Host.dotGeneral dot_S128x256_S256x1024_S128x1024_1_0_0_1_n_n none p (extf .f32 w bitsLt_bf16_f32)))

/-- The whole result, from the gates. -/
def fromGates (z : FVec F S128x3072 .f32) (x : FVec F S128x1024 .f32) (p : FVec F S128x256 .f32) (oa ob : FVec F S128x512 .f32)
    (wua wub : Vec F S512x1024 .bf16) (wo : Vec F S1024x1024 .bf16) (wp : Vec F S256x1024 .bf16) (wpg : Vec F S1024x1024 .bf16)
    (fn : FVec F S1x1024 .f32) : FVec F S128x1024 .f32 :=
  normed (lasted (hidden x (extractStridedSlice S128x1024 ![0, 1024] z slices_S128x3072_S128x1024_0_1024)
      (extractStridedSlice S128x1024 ![0, 2048] z slices_S128x3072_S128x1024_0_2048)
      (upped oa (extractStridedSlice S128x512 ![0, 0] z slices_S128x3072_S128x512_0_0) wua)
      (upped ob (extractStridedSlice S128x512 ![0, 512] z slices_S128x3072_S128x512_0_512) wub) wo) wpg p wp) fn

/-- The run's result in these terms. -/
theorem res_eq (m : (ℓ : Loc nD τ sig) → Buf (Elt F) ℓ) (c : Dev nD) : res_out0 m c
    = fromGates (gated (m ((c.tc : Thread nD τ).loc main_arg0)) (m ((c.tc : Thread nD τ).loc main_arg4)) (m ((c.tc : Thread nD τ).loc main_arg5)))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

theorem normed_read (x : FVec Ideal S128x1024 .f32) (g : FVec Ideal S1x1024 .f32) (r : Fin 128) (d : Fin 1024) :
    normed x g (ix2 r d) = norm (fun k => x (ix2 r k)) (fun k => g (ix2 0 k)) d := by
  pointwise [normed]
  rfl

theorem gated_read (x : FVec Ideal S128x1024 .f32) (g : FVec Ideal S1x1024 .f32) (w : Vec Ideal S1024x3072 .bf16) (r : Fin 128) (j : Fin 3072) :
    gated x g w (ix2 r j) = gates (fun k => x (ix2 r k)) (fun k => g (ix2 0 k)) (fun k j => w (ix2 k j)) j := by
  unfold gates
  simp only [← normed_read]
  unfold gated
  generalize normed x g = y
  pointwise

theorem upped_read (o z : FVec Ideal S128x512 .f32) (w : Vec Ideal S512x1024 .bf16) (r : Fin 128) (j : Fin 1024) :
    upped o z w (ix2 r j) = up (fun k => o (ix2 r k)) (fun k => z (ix2 r k)) (fun k j => w (ix2 k j)) j := by
  pointwise [upped, sg512]
  simp only [Cert.MergeRefIdeal.Value.sg_neg]
  rfl

theorem hidden_read (x a b ya yb : FVec Ideal S128x1024 .f32) (w : Vec Ideal S1024x1024 .bf16) (r : Fin 128) (j : Fin 1024) :
    hidden x a b ya yb w (ix2 r j) = hid (fun k => x (ix2 r k)) (fun k => a (ix2 r k)) (fun k => b (ix2 r k)) (fun k => ya (ix2 r k))
      (fun k => yb (ix2 r k)) (fun k j => w (ix2 k j)) j := by
  pointwise [hidden, sg1024]
  simp only [Cert.MergeRefIdeal.Value.sg_neg]
  rfl

theorem lasted_read (h : FVec Ideal S128x1024 .f32) (wg : Vec Ideal S1024x1024 .bf16) (p : FVec Ideal S128x256 .f32)
    (w : Vec Ideal S256x1024 .bf16) (r : Fin 128) (j : Fin 1024) :
    lasted h wg p w (ix2 r j) = last (fun k => h (ix2 r k)) (fun k j => wg (ix2 k j)) (fun k => p (ix2 r k)) (fun k j => w (ix2 k j)) j := by
  pointwise [lasted, sg1024]
  simp only [Cert.MergeRefIdeal.Value.sg_neg]
  rfl

theorem slice0 (z : FVec Ideal S128x3072 .f32) (r : Fin 128) (k : Fin 512) :
    extractStridedSlice S128x512 ![0, 0] z slices_S128x3072_S128x512_0_0 (ix2 r k) = part0 (fun j => z (ix2 r j)) k := by
  unfold part0
  pointwise
theorem slice1 (z : FVec Ideal S128x3072 .f32) (r : Fin 128) (k : Fin 512) :
    extractStridedSlice S128x512 ![0, 512] z slices_S128x3072_S128x512_0_512 (ix2 r k) = part1 (fun j => z (ix2 r j)) k := by
  unfold part1
  pointwise
theorem slice2 (z : FVec Ideal S128x3072 .f32) (r : Fin 128) (k : Fin 1024) :
    extractStridedSlice S128x1024 ![0, 1024] z slices_S128x3072_S128x1024_0_1024 (ix2 r k) = part2 (fun j => z (ix2 r j)) k := by
  unfold part2
  pointwise
theorem slice3 (z : FVec Ideal S128x3072 .f32) (r : Fin 128) (k : Fin 1024) :
    extractStridedSlice S128x1024 ![0, 2048] z slices_S128x3072_S128x1024_0_2048 (ix2 r k) = part3 (fun j => z (ix2 r j)) k := by
  unfold part3
  pointwise

/-- The reference's result: every row is the merge of that row. -/
theorem result_read (x : FVec Ideal S128x1024 .f32) (p : FVec Ideal S128x256 .f32) (oa ob : FVec Ideal S128x512 .f32)
    (n : FVec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : FVec Ideal S1x1024 .f32) (r : Fin 128) (j : Fin 1024) :
    fromGates (gated x n wg) x p oa ob wua wub wo wp wpg fn (ix2 r j)
      = out (fun k => x (ix2 r k)) (fun k => p (ix2 r k)) (fun k => oa (ix2 r k)) (fun k => ob (ix2 r k))
        (fun k => n (ix2 0 k)) (fun k j => wg (ix2 k j)) (fun k j => wua (ix2 k j)) (fun k j => wub (ix2 k j))
        (fun k j => wo (ix2 k j)) (fun k j => wp (ix2 k j)) (fun k j => wpg (ix2 k j)) (fun k => fn (ix2 0 k)) j := by
  unfold fromGates
  simp only [normed_read, lasted_read, hidden_read, upped_read, slice0, slice1, slice2, slice3, gated_read]
  rfl

end Cert.MergeSRefIdeal.Value

end
-- ==== Proof.ProjS.Ref.lean ====
module

public import proofs.«01_k».proof.Proof.Gen.ProjSRefIdeal.Run
public import proofs.«01_k».proof.Proof.MergeS.Ref
public import proofs.«01_k».proof.Proof.Proj.Row
public import Idealize.ShloMosaic.Lib.Pointwise

@[expose] public section

set_option maxRecDepth 16384

noncomputable section

/-! # The reference of the sample's projections, row by row -/

namespace Cert.ProjSRefIdeal.Value

open Cert.ProjSRefIdeal Cert.ProjSRefIdeal.Gen Idealize.ShloMosaic Idealize.ShloMosaic.TcCoe Cert.Proj.Row

variable {F : FTy → Type} [FloatOps F]

/-- The normalised rows against the input weights. -/
def projected (x : FVec F S128x1024 .f32) (g : FVec F S1x1024 .f32) (w : FVec F S1024x5032 .f32) : FVec F S128x5032 .f32 :=
  Host.dotGeneral dot_S128x1024_S1024x5032_S128x5032_1_0_0_1_n_n none (Cert.MergeSRefIdeal.Value.normed x g) w

/-- The latent rows. -/
def latents (z : FVec F S128x128 .f32) (g : FVec F S1x128 .f32) : FVec F S128x128 .f32 :=
  mulf (mulf z (broadcastInDim S128x128 ![0, 1] bcast_S128x1_S128x128_0_1 (Host.rsqrt (addf (Host.divf (broadcastInDim S128x1 ![0] bcast_S128_S128x1_0 (Host.reduceAdd (mulf z z) (constant S_ .f32 0x00000000#32) reducesTo_S128x128_S128_d1 h_S_)) (broadcastInDim S128x1 ![] bcast_S_S128x1 (constant S_ .f32 0x43000000#32))) (broadcastInDim S128x1 ![] bcast_S_S128x1 (constant S_ .f32 0x358637BD#32))))))
    (broadcastInDim S128x128 ![0, 1] bcast_S1x128_S128x128_0_1 g)

/-- The angles of the one position. -/
def angles : FVec F S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 16384#32)) (iotaInDim S1 32 0)))))
    (broadcastInDim S1x16 ![1] bcast_S16_S1x16_1 (Host.exp (Host.divf (mulf (broadcastInDim S16 ![] bcast_S_S16 (constant S_ .f32 0xC1135D8E#32)) (sitofp .f32 (iotaInDim S16 32 0))) (broadcastInDim S16 ![] bcast_S_S16 (constant S_ .f32 0x41800000#32)))))

/-- A table of the position, for every row and one head. -/
def spread (a : FVec F S1x16 .f32) : FVec F S128x1x1x16 .f32 :=
  broadcastInDim S128x1x1x16 ![0, 1, 2, 3] bcast_S1x1x1x16_S128x1x1x16_0_1_2_3 (broadcastInDim S1x1x1x16 ![1, 2, 3] bcast_S1x1x16_S1x1x1x16_1_2_3 (broadcastInDim S1x1x16 ![0, 2] bcast_S1x16_S1x1x16_0_2 a))

/-- The rotated rows. -/
def rotated (z : FVec F S128x32 .f32) : FVec F S128x32 .f32 :=
  shapeCast _ (concatenate S128x1x1x32 3
    [⟨S128x1x1x16, subf (mulf (extractStridedSlice S128x1x1x16 ![0, 0, 0, 0] (shapeCast _ z shapeCasts_S128x32_S128x1x1x32) slices_S128x1x1x32_S128x1x1x16_0_0_0_0) (spread (Host.cos angles)))
      (mulf (extractStridedSlice S128x1x1x16 ![0, 0, 0, 16] (shapeCast _ z shapeCasts_S128x32_S128x1x1x32) slices_S128x1x1x32_S128x1x1x16_0_0_0_16) (spread (Host.sin angles)))⟩,
     ⟨S128x1x1x16, addf (mulf (extractStridedSlice S128x1x1x16 ![0, 0, 0, 16] (shapeCast _ z shapeCasts_S128x32_S128x1x1x32) slices_S128x1x1x32_S128x1x1x16_0_0_0_16) (spread (Host.cos angles)))
      (mulf (extractStridedSlice S128x1x1x16 ![0, 0, 0, 0] (shapeCast _ z shapeCasts_S128x32_S128x1x1x32) slices_S128x1x1x32_S128x1x1x16_0_0_0_0) (spread (Host.sin angles)))⟩]
    concatenates_S128x1x1x16_S128x1x1x16_S128x1x1x32_d3) shapeCasts_S128x1x1x32_S128x32

/-- A row of zeros. -/
def zeros : FVec F S128x128 .f32 := broadcastInDim S128x128 ![] bcast_S_S128x128 (constant S_ .f32 0x00000000#32)

/-- The logarithm of the logistic function. -/
def logged (z : FVec F S128x128 .f32) : FVec F S128x128 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The forget gates' logits, and zeros beside them. -/
def biased (z : FVec F S128x8 .f32) (b : FVec F S8 .f32) : FVec F S128x128 .f32 :=
  pad S128x128 ![0, 0] ![0, 120] ![0, 0] (addf z (broadcastInDim S128x8 ![0, 1] bcast_S1x8_S128x8_0_1 (broadcastInDim S1x8 ![1] bcast_S8_S1x8_1 b)))
    (sitofp .f32 (constantI S_ 32 0#32)) pads_S128x8_S128x128_000_01200 h_S_

/-- The run's results in these terms. -/
theorem res1_eq (m : (ℓ : Loc nD τ sig) → Buf (Elt F) ℓ) (c : Dev nD) : res_out1 m c
    = rotated (extractStridedSlice S128x32 ![0, 384] (projected (m ((c.tc : Thread nD τ).loc main_arg0)) (m ((c.tc : Thread nD τ).loc main_arg1)) (m ((c.tc : Thread nD τ).loc main_arg2))) slices_S128x5032_S128x32_0_384) := rfl
theorem res4_eq (m : (ℓ : Loc nD τ sig) → Buf (Elt F) ℓ) (c : Dev nD) : res_out4 m c
    = logged (biased (extractStridedSlice S128x8 ![0, 1952] (projected (m ((c.tc : Thread nD τ).loc main_arg0)) (m ((c.tc : Thread nD τ).loc main_arg1)) (m ((c.tc : Thread nD τ).loc main_arg2))) slices_S128x5032_S128x8_0_1952) (m ((c.tc : Thread nD τ).loc main_arg8))) := rfl

theorem projected_read (x : FVec Ideal S128x1024 .f32) (g : FVec Ideal S1x1024 .f32) (w : FVec Ideal S1024x5032 .f32) (r : Fin 128) (j : Fin 5032) :
    projected x g w (ix2 r j) = col (fun k => x (ix2 r k)) (fun k => g (ix2 0 k)) (fun k => w (ix2 k j)) := by
  unfold col
  simp only [← Cert.MergeSRefIdeal.Value.normed_read]
  unfold projected
  generalize Cert.MergeSRefIdeal.Value.normed x g = y
  pointwise

theorem latents_read (z : FVec Ideal S128x128 .f32) (g : FVec Ideal S1x128 .f32) (r d : Fin 128) :
    latents z g (ix2 r d) = latent (fun k => z (ix2 r k)) (fun k => g (ix2 0 k)) d := by
  pointwise [latents]
  rfl

/-- The logits: a lane of a head, -/
theorem biased_lo (z : FVec Ideal S128x8 .f32) (b : FVec Ideal S8 .f32) (r : Fin 128) (h : Fin 8) :
    biased z b (ix2 (n0 := 128) (n1 := 128) r ⟨h.val, by omega⟩) = z (ix2 r h) + b (ix1 h) := by
  pointwise [biased]

/-- and a lane beside them. -/
theorem biased_hi (z : FVec Ideal S128x8 .f32) (b : FVec Ideal S8 .f32) (r : Fin 128) (h : Fin 120) :
    biased z b (ix2 (n0 := 128) (n1 := 128) r ⟨8 + h.val, by omega⟩) = 0 := by
  pointwise [biased]
  show (((0#32 : BitVec 32).toInt : ℝ) : EReal) = 0
  simp

theorem logged_read (z : FVec Ideal S128x128 .f32) (r h : Fin 128) :
    logged z (ix2 r h) = logsig (z (ix2 r h)) := by
  pointwise [logged, zeros]
  rw [if_neg (by simp)]
  rfl

theorem angles_read (j : Fin 16) : (angles (F := Ideal)) (ix2 0 j) = angle 16384 j.val := by
  pointwise [angles]
  rfl

/-- The rotated rows: a lane below 16, -/
theorem rotated_lo (z : FVec Ideal S128x32 .f32) (r : Fin 128) (j : Fin 16) :
    rotated z (ix2 (n0 := 128) (n1 := 32) r ⟨j.val, by omega⟩)
      = rotA (z (ix2 (n0 := 128) (n1 := 32) r ⟨j.val, by omega⟩))
        (z (ix2 (n0 := 128) (n1 := 32) r ⟨16 + j.val, by omega⟩)) (angle 16384 j.val) := by
  unfold rotA
  rw [← angles_read]
  unfold rotated
  generalize angles (F := Ideal) = a
  pointwise [spread]

/-- a lane from 16 on, -/
theorem rotated_hi (z : FVec Ideal S128x32 .f32) (r : Fin 128) (j : Fin 16) :
    rotated z (ix2 (n0 := 128) (n1 := 32) r ⟨16 + j.val, by omega⟩)
      = rotB (z (ix2 (n0 := 128) (n1 := 32) r ⟨j.val, by omega⟩))
        (z (ix2 (n0 := 128) (n1 := 32) r ⟨16 + j.val, by omega⟩)) (angle 16384 j.val) := by
  unfold rotB
  rw [← angles_read]
  unfold rotated
  generalize angles (F := Ideal) = a
  pointwise [spread]

/-- and so every lane. -/
theorem rotated_read (z : FVec Ideal S128x32 .f32) (r : Fin 128) (d : Fin 32) :
    rotated z (ix2 r d) = rope (fun d => z (ix2 r d)) 16384 d := by
  by_cases h : d.val < 16
  · rw [rope, dif_pos h]
    exact rotated_lo z r ⟨d.val, h⟩
  · rw [rope, dif_neg h]
    obtain ⟨d, hd⟩ := d
    have h' : ¬d < 16 := h
    obtain ⟨j, rfl⟩ : ∃ j : Fin 16, d = 16 + j.val := ⟨⟨d - 16, by omega⟩, by show d = 16 + (d - 16); omega⟩
    have hj : 16 + j.val - 16 = j.val := by omega
    simp only [hj]
    exact rotated_hi z r j

/-- The slices of the projected rows. -/
theorem slice_latent (z : FVec Ideal S128x5032 .f32) (r k : Fin 128) :
    extractStridedSlice S128x128 ![0, 256] z slices_S128x5032_S128x128_0_256 (ix2 r k) = z (ix2 r ⟨256 + k.val, by omega⟩) := by
  pointwise
theorem slice_rope (z : FVec Ideal S128x5032 .f32) (r : Fin 128) (k : Fin 32) :
    extractStridedSlice S128x32 ![0, 384] z slices_S128x5032_S128x32_0_384 (ix2 r k) = z (ix2 r ⟨384 + k.val, by omega⟩) := by
  pointwise
theorem slice_key (z : FVec Ideal S128x5032 .f32) (r : Fin 128) (k : Fin 512) :
    extractStridedSlice S128x512 ![0, 928] z slices_S128x5032_S128x512_0_928 (ix2 r k) = z (ix2 r ⟨928 + k.val, by omega⟩) := by
  pointwise
theorem slice_value (z : FVec Ideal S128x5032 .f32) (r : Fin 128) (k : Fin 512) :
    extractStridedSlice S128x512 ![0, 1440] z slices_S128x5032_S128x512_0_1440 (ix2 r k) = z (ix2 r ⟨1440 + k.val, by omega⟩) := by
  pointwise
theorem slice_gate (z : FVec Ideal S128x5032 .f32) (r : Fin 128) (k : Fin 8) :
    extractStridedSlice S128x8 ![0, 1952] z slices_S128x5032_S128x8_0_1952 (ix2 r k) = z (ix2 r ⟨1952 + k.val, by omega⟩) := by
  pointwise

end Cert.ProjSRefIdeal.Value

end
-- ==== Proof.ProjS.Claims.lean ====
module

public import proofs.«01_k».proof.Defs
public import proofs.«01_k».proof.Proof.Gen.ProjS.Frame
public import proofs.«01_k».proof.Proof.Gen.ProjSIdeal.Value
public import proofs.«01_k».proof.Proof.ProjS.Array
public import proofs.«01_k».proof.Proof.ProjS.Ref
public import Idealize.ShloMosaic.Adequacy
public import Idealize.ShloMosaic.Init

@[expose] public section

set_option maxRecDepth 16384

noncomputable section

/-! # The claims about the sample's projections -/

namespace Cert.Proof.ProjSClaims

open Idealize.ShloMosaic Idealize.ShloMosaic.TcCoe Idealize.SL.Sem Cert.ProjSIdeal Cert.ProjSIdeal.Gen Cert.Proj.Row
open Cert.ProjSRefIdeal.Value (projected latents rotated biased logged latents_read biased_lo biased_hi logged_read
  slice_latent slice_rope slice_key slice_value slice_gate)

/-- The kernel terminates and leaves its arguments and its counters, -/
theorem frame_p : Cert.quiescent_ProjS (hProjS := Cert.ProjS.Gen.facts) := fun m ρ _ => Cert.ProjS.Gen.frame m ρ

/-- over the extended reals too, -/
theorem frame_pi : Cert.quiescent_ProjSIdeal := fun m ρ _ => Cert.ProjSIdeal.Gen.frame m ρ

/-- and so does the reference. -/
theorem frame_ri : Cert.quiescent_ProjSRefIdeal := fun m ρ _ =>
  (θ_run Cert.ProjSRefIdeal.defs _ _).mono (fun r h => ⟨fun c => (h c).2.2.2.2.2, sem_eq_zero_of_no_sems (by decide) r.2⟩)
    (Cert.ProjSRefIdeal.Value.run (F := Ideal) m ρ)

/-- No operation of the kernel is replaced. -/
theorem preserves : Cert.preserves_ProjS_ProjSIdeal := trivial

section Results

variable (x : Vec Ideal S128x1024 .f32) (n : Vec Ideal S1x1024 .f32) (w : Vec Ideal S1024x5032 .f32)

/-- The reference's arrays are the kernel's: the latent rows, -/
theorem latent_eq (g : Vec Ideal S1x128 .f32) :
    latents (extractStridedSlice Cert.ProjSRefIdeal.S128x128 ![0, 256] (projected (F := Ideal) x n w) Cert.ProjSRefIdeal.Gen.slices_S128x5032_S128x128_0_256) g = latentAt x n w g := by
  funext i
  obtain ⟨r, d, rfl⟩ : ∃ (r : Fin 128) (d : Fin 128), i = ix2 r d := ⟨i 0, i 1, eq_ix2 i⟩
  refine (latents_read _ _ r d).trans ?_
  simp only [slice_latent, Cert.ProjSRefIdeal.Value.projected_read]
  rfl

/-- the rotated rows, -/
theorem rope_eq :
    rotated (extractStridedSlice Cert.ProjSRefIdeal.S128x32 ![0, 384] (projected (F := Ideal) x n w) Cert.ProjSRefIdeal.Gen.slices_S128x5032_S128x32_0_384) = ropeAt x n w := by
  funext i
  obtain ⟨r, d, rfl⟩ : ∃ (r : Fin 128) (d : Fin 32), i = ix2 r d := ⟨i 0, i 1, eq_ix2 i⟩
  refine (Cert.ProjSRefIdeal.Value.rotated_read _ r d).trans ?_
  simp only [slice_rope, Cert.ProjSRefIdeal.Value.projected_read]
  rfl

/-- the keys, -/
theorem key_eq :
    extractStridedSlice Cert.ProjSRefIdeal.S128x512 ![0, 928] (projected (F := Ideal) x n w) Cert.ProjSRefIdeal.Gen.slices_S128x5032_S128x512_0_928 = keyAt x n w := by
  funext i
  obtain ⟨r, j, rfl⟩ : ∃ (r : Fin 128) (j : Fin 512), i = ix2 r j := ⟨i 0, i 1, eq_ix2 i⟩
  exact (slice_key _ r j).trans (Cert.ProjSRefIdeal.Value.projected_read _ _ _ _ _)

/-- the values -/
theorem value_eq :
    extractStridedSlice Cert.ProjSRefIdeal.S128x512 ![0, 1440] (projected (F := Ideal) x n w) Cert.ProjSRefIdeal.Gen.slices_S128x5032_S128x512_0_1440 = valueAt x n w := by
  funext i
  obtain ⟨r, j, rfl⟩ : ∃ (r : Fin 128) (j : Fin 512), i = ix2 r j := ⟨i 0, i 1, eq_ix2 i⟩
  exact (slice_value _ r j).trans (Cert.ProjSRefIdeal.Value.projected_read _ _ _ _ _)

/-- and the forget gates. -/
theorem gate_eq (b : Vec Ideal S8 .f32) :
    logged (biased (extractStridedSlice Cert.ProjSRefIdeal.S128x8 ![0, 1952] (projected (F := Ideal) x n w) Cert.ProjSRefIdeal.Gen.slices_S128x5032_S128x8_0_1952) b) = gateAt x n w b := by
  funext i
  obtain ⟨r, h, rfl⟩ : ∃ (r : Fin 128) (h : Fin 128), i = ix2 r h := ⟨i 0, i 1, eq_ix2 i⟩
  refine (logged_read _ r h).trans ?_
  obtain ⟨h, hh⟩ := h
  by_cases h8 : h < 8
  · refine Eq.trans ?_ (dif_pos h8).symm
    refine congrArg logsig ((biased_lo _ _ r ⟨h, h8⟩).trans ?_)
    rw [slice_gate, Cert.ProjSRefIdeal.Value.projected_read]
    rfl
  · refine Eq.trans ?_ (dif_neg h8).symm
    obtain ⟨e, rfl⟩ : ∃ e, h = 8 + e := ⟨h - 8, by omega⟩
    exact congrArg logsig (biased_hi _ _ r ⟨e, by omega⟩)

end Results

/-- Over the extended reals the kernel and the reference compute the same arrays. -/
theorem algebraic : Cert.algebraic_ProjSIdeal_ProjSRefIdeal := by
  intro m ρ m' ρ' _ hagree
  refine ⟨fun c => latentAt (m ((c : Thread nD τ).loc main_arg0)) (m ((c : Thread nD τ).loc main_arg1)) (m ((c : Thread nD τ).loc main_arg2)) (m ((c : Thread nD τ).loc main_arg4)),
    fun c => ropeAt (m ((c : Thread nD τ).loc main_arg0)) (m ((c : Thread nD τ).loc main_arg1)) (m ((c : Thread nD τ).loc main_arg2)),
    fun c => keyAt (m ((c : Thread nD τ).loc main_arg0)) (m ((c : Thread nD τ).loc main_arg1)) (m ((c : Thread nD τ).loc main_arg2)),
    fun c => valueAt (m ((c : Thread nD τ).loc main_arg0)) (m ((c : Thread nD τ).loc main_arg1)) (m ((c : Thread nD τ).loc main_arg2)),
    fun c => gateAt (m ((c : Thread nD τ).loc main_arg0)) (m ((c : Thread nD τ).loc main_arg1)) (m ((c : Thread nD τ).loc main_arg2)) (m ((c : Thread nD τ).loc main_arg8)),
    (θ_run Cert.ProjSIdeal.defs _ _).mono (fun _ h c => ?_) (Cert.ProjSIdeal.Value.run_blocks (F := Ideal) m ρ),
    (θ_run Cert.ProjSRefIdeal.defs _ _).mono (fun _ h c => ?_) (Cert.ProjSRefIdeal.Value.run (F := Ideal) m' ρ')⟩
  · obtain ⟨h9, h10, -, h12, h13, h14, -, hargs⟩ := h c
    exact ⟨h9.trans (final_latent m c), h10.trans (final_rope m c), h12.trans (final_key m c), h13.trans (final_value m c),
      h14.trans (final_gate m c), hargs⟩
  · obtain ⟨g0, g1, g2, g3, g4, hargs⟩ := h c
    obtain ⟨a0, a1, a2, -, a4, -, -, -, a8⟩ := hagree c
    refine ⟨g0.trans ?_, g1.trans ?_, g2.trans ?_, g3.trans ?_, g4.trans ?_, hargs⟩
    · rw [a0, a1, a2, a4]
      exact latent_eq _ _ _ _
    · refine (Cert.ProjSRefIdeal.Value.res1_eq m' c).trans ?_
      rw [a0, a1, a2]
      exact rope_eq _ _ _
    · rw [a0, a1, a2]
      exact key_eq _ _ _
    · rw [a0, a1, a2]
      exact value_eq _ _ _
    · refine (Cert.ProjSRefIdeal.Value.res4_eq m' c).trans ?_
      rw [a0, a1, a2, a8]
      exact gate_eq _ _ _ _

end Cert.Proof.ProjSClaims

end
-- ==== Proof.MergeS.Block.lean ====
module

public import proofs.«01_k».proof.Proof.Gen.MergeSIdeal.Value
public import proofs.«01_k».proof.Proof.Merge.Row
public import Idealize.ShloMosaic.Lib.Pipeline.Value
public import Idealize.ShloMosaic.Lib.Pointwise

@[expose] public section

set_option maxRecDepth 16384

noncomputable section

/-! # The sample's merged rows -/

namespace Cert.MergeSIdeal.Gen

open Idealize.ShloMosaic Idealize.ShloMosaic.TcCoe Cert.Merge.Row

theorem gates_read (x : Vec Ideal S128x1024 .f32) (g : Vec Ideal S1x1024 .f32) (w : Vec Ideal S1024x3072 .bf16) (r : Fin 128) (j : Fin 3072) :
    k0_pay2 x g w (ix2 r j) = gates (fun k => x (ix2 r k)) (fun k => g (ix2 0 k)) (fun k j => w (ix2 k j)) j := by
  pointwise [k0_pay2]
  rfl

/-- The first branch times its gate. -/
theorem first_read (x : Vec Ideal S128x1024 .f32) (g : Vec Ideal S1x1024 .f32) (w : Vec Ideal S1024x3072 .bf16)
    (o : Vec Ideal S128x512 .f32) (r : Fin 128) (k : Fin 512) :
    k0_pay6 x g w o (ix2 r k) = o (ix2 r k) * (k0_pay2 x g w (ix2 r ⟨k.val, by omega⟩) * sg (k0_pay2 x g w (ix2 r ⟨k.val, by omega⟩))) := by
  unfold k0_pay6
  generalize k0_pay2 x g w = z
  pointwise
  rfl

/-- The second branch's gate, -/
theorem second_read (x : Vec Ideal S128x1024 .f32) (g : Vec Ideal S1x1024 .f32) (w : Vec Ideal S1024x3072 .bf16) (r : Fin 128) (k : Fin 512) :
    k0_pay3 x g w (ix2 r k) = k0_pay2 x g w (ix2 r ⟨512 + k.val, by omega⟩) := by
  unfold k0_pay3
  generalize k0_pay2 x g w = z
  pointwise

/-- and its nonlinearity. -/
theorem second_sg (x : Vec Ideal S128x1024 .f32) (g : Vec Ideal S1x1024 .f32) (w : Vec Ideal S1024x3072 .bf16) (r : Fin 128) (k : Fin 512) :
    Ideal.div (k0_pay8 (F := Ideal) (ix2 r k)) (k0_pay7 x g w (ix2 r k)) = sg (k0_pay2 x g w (ix2 r ⟨512 + k.val, by omega⟩)) := by
  rw [← second_read]
  unfold k0_pay7
  generalize k0_pay3 x g w = z
  pointwise [k0_pay8]
  rfl

theorem third_read (x : Vec Ideal S128x1024 .f32) (g : Vec Ideal S1x1024 .f32) (w : Vec Ideal S1024x3072 .bf16) (r : Fin 128) (k : Fin 1024) :
    k0_pay4 x g w (ix2 r k) = k0_pay2 x g w (ix2 r ⟨1024 + k.val, by omega⟩) := by
  unfold k0_pay4
  generalize k0_pay2 x g w = z
  pointwise

theorem fourth_read (x : Vec Ideal S128x1024 .f32) (g : Vec Ideal S1x1024 .f32) (w : Vec Ideal S1024x3072 .bf16) (r : Fin 128) (k : Fin 1024) :
    k0_pay5 x g w (ix2 r k) = k0_pay2 x g w (ix2 r ⟨2048 + k.val, by omega⟩) := by
  unfold k0_pay5
  generalize k0_pay2 x g w = z
  pointwise

/-- The merged branches, added to the row: from the gates and the first branch. -/
theorem hid_read (x : Vec Ideal S128x1024 .f32) (zb : FVec Ideal S128x512 .f32) (a b : FVec Ideal S128x1024 .f32)
    (ua : FVec Ideal S128x512 .bf16) (ob : Vec Ideal S128x512 .f32) (d n : FVec Ideal S128x512 .f32)
    (wua wub : Vec Ideal S512x1024 .bf16) (wo : Vec Ideal S1024x1024 .bf16) (r : Fin 128) (j : Fin 1024) :
    k0_pay9 x zb a b ua ob d n wua wub wo (ix2 r j) = hid (fun k => x (ix2 r k)) (fun k => a (ix2 r k)) (fun k => b (ix2 r k))
      (fun k => ∑ i, ua (ix2 r i) * wua (ix2 i k))
      (fun k => ∑ i, ob (ix2 r i) * (zb (ix2 r i) * Ideal.div (n (ix2 r i)) (d (ix2 r i))) * wub (ix2 i k))
      (fun k j => wo (ix2 k j)) j := by
  pointwise [k0_pay9]
  rfl

/-- The embedding's gate. -/
theorem gate_read (x : Vec Ideal S128x1024 .f32) (zb : FVec Ideal S128x512 .f32) (a b : FVec Ideal S128x1024 .f32)
    (ua : FVec Ideal S128x512 .bf16) (ob : Vec Ideal S128x512 .f32) (d n : FVec Ideal S128x512 .f32)
    (wua wub : Vec Ideal S512x1024 .bf16) (wo wpg : Vec Ideal S1024x1024 .bf16) (r : Fin 128) (j : Fin 1024) :
    k0_pay10 x zb a b ua ob d n wua wub wo wpg (ix2 r j)
      = sg (∑ k, k0_pay9 x zb a b ua ob d n wua wub wo (ix2 r k) * wpg (ix2 k j)) := by
  unfold k0_pay10
  generalize k0_pay9 x zb a b ua ob d n wua wub wo = h
  pointwise
  rfl

/-- The end: the gated embedding added, the row normalised. -/
theorem end_read (h s : FVec Ideal S128x1024 .f32) (p : Vec Ideal S128x256 .f32) (w : Vec Ideal S256x1024 .bf16)
    (g : Vec Ideal S1x1024 .f32) (r : Fin 128) (j : Fin 1024) :
    k0_pay1 h s p w g (ix2 r j)
      = norm (fun j => h (ix2 r j) + s (ix2 r j) * ∑ k, p (ix2 r k) * w (ix2 k j)) (fun k => g (ix2 0 k)) j := by
  pointwise [k0_pay1]
  rfl

/-- The result: every row is the merge of that row. -/
theorem block_read (x : Vec Ideal S128x1024 .f32) (p : Vec Ideal S128x256 .f32) (oa ob : Vec Ideal S128x512 .f32)
    (n : Vec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : Vec Ideal S1x1024 .f32) (r : Fin 128) (j : Fin 1024) :
    Value.G12 x p oa ob n wg wua wub wo wp wpg fn (ix2 r j)
      = out (fun k => x (ix2 r k)) (fun k => p (ix2 r k)) (fun k => oa (ix2 r k)) (fun k => ob (ix2 r k))
        (fun k => n (ix2 0 k)) (fun k j => wg (ix2 k j)) (fun k j => wua (ix2 k j)) (fun k j => wub (ix2 k j))
        (fun k j => wo (ix2 k j)) (fun k j => wp (ix2 k j)) (fun k j => wpg (ix2 k j)) (fun k => fn (ix2 0 k)) j := by
  have hz : (![0, 0] : Fin 2 → Nat) = fun _ => 0 := by decide
  have l0 : ∀ {e : EltTy} (y : Vec Ideal S128x1024 e), View.ld y r0_0 = y := fun y => View.ld_unit_zero hz _ y
  have l1 : ∀ {e : EltTy} (y : Vec Ideal S1x1024 e), View.ld y r0_1 = y := fun y => View.ld_unit_zero hz _ y
  have l2 : ∀ {e : EltTy} (y : Vec Ideal S1024x3072 e), View.ld y r0_2 = y := fun y => View.ld_unit_zero hz _ y
  have l3 : ∀ {e : EltTy} (y : Vec Ideal S128x512 e), View.ld y r0_3 = y := fun y => View.ld_unit_zero hz _ y
  unfold Value.G12 k0_pay16 k0_pay15 k0_pay14 k0_pay13 k0_pay12 k0_pay11
  rw [l0 x, l1 n, l2 wg, l3 oa, end_read]
  simp only [gate_read, hid_read, second_sg, second_read, third_read, fourth_read, first_read, gates_read]
  rfl

end Cert.MergeSIdeal.Gen

end
-- ==== Proof.MergeS.Claims.lean ====
module

public import proofs.«01_k».proof.Defs
public import proofs.«01_k».proof.Proof.Gen.MergeS.Frame
public import proofs.«01_k».proof.Proof.MergeS.Block
public import proofs.«01_k».proof.Proof.MergeS.Ref
public import Idealize.ShloMosaic.Adequacy
public import Idealize.ShloMosaic.Init

@[expose] public section

set_option maxRecDepth 16384

noncomputable section

/-! # The claims about the sample's merge -/

namespace Cert.Proof.MergeSClaims

open Idealize.ShloMosaic Idealize.ShloMosaic.TcCoe Idealize.SL.Sem Cert.MergeSIdeal Cert.MergeSIdeal.Gen
open Cert.MergeSRefIdeal.Value (gated fromGates result_read)

/-- The kernel terminates and leaves its arguments and its counters, -/
theorem frame_p : Cert.quiescent_MergeS (hMergeS := Cert.MergeS.Gen.facts) := fun m ρ _ => Cert.MergeS.Gen.frame m ρ

/-- over the extended reals too, -/
theorem frame_pi : Cert.quiescent_MergeSIdeal := fun m ρ _ => Cert.MergeSIdeal.Gen.frame m ρ

/-- and so does the reference. -/
theorem frame_ri : Cert.quiescent_MergeSRefIdeal := fun m ρ _ =>
  (θ_run Cert.MergeSRefIdeal.defs _ _).mono (fun r h => ⟨fun c => (h c).2, sem_eq_zero_of_no_sems (by decide) r.2⟩)
    (Cert.MergeSRefIdeal.Value.run (F := Ideal) m ρ)

/-- No operation of the kernel is replaced. -/
theorem preserves : Cert.preserves_MergeS_MergeSIdeal := trivial

/-- The kernel's result array is the reference's. -/
theorem result_eq (x : Vec Ideal S128x1024 .f32) (p : Vec Ideal S128x256 .f32) (oa ob : Vec Ideal S128x512 .f32)
    (n : Vec Ideal S1x1024 .f32) (wg : Vec Ideal S1024x3072 .bf16) (wua wub : Vec Ideal S512x1024 .bf16)
    (wo : Vec Ideal S1024x1024 .bf16) (wp : Vec Ideal S256x1024 .bf16) (wpg : Vec Ideal S1024x1024 .bf16)
    (fn : Vec Ideal S1x1024 .f32) :
    fromGates (gated x n wg) x p oa ob wua wub wo wp wpg fn = Cert.MergeSIdeal.Value.G12 x p oa ob n wg wua wub wo wp wpg fn := by
  funext i
  obtain ⟨r, j, rfl⟩ : ∃ (r : Fin 128) (j : Fin 1024), i = ix2 r j := ⟨i 0, i 1, eq_ix2 i⟩
  exact (result_read x p oa ob n wg wua wub wo wp wpg fn r j).trans (block_read x p oa ob n wg wua wub wo wp wpg fn r j).symm

/-- Over the extended reals the kernel and the reference compute the same array. -/
theorem algebraic : Cert.algebraic_MergeSIdeal_MergeSRefIdeal := by
  intro m ρ m' ρ' _ hagree
  refine ⟨_, Cert.MergeSIdeal.Value.run (F := Ideal) m ρ, ?_⟩
  refine (θ_run Cert.MergeSRefIdeal.defs _ _).mono (fun _ h c => ⟨(h c).1.trans ?_, (h c).2⟩)
    (Cert.MergeSRefIdeal.Value.run (F := Ideal) m' ρ')
  refine (Cert.MergeSRefIdeal.Value.res_eq m' c).trans ?_
  obtain ⟨h0, h1, h2, h3, h4, h5, h6, h7, h8, h9, h10, h11⟩ := hagree c
  rw [h0, h1, h2, h3, h4, h5, h6, h7, h8, h9, h10, h11]
  exact result_eq _ _ _ _ _ _ _ _ _ _ _ _

end Cert.Proof.MergeSClaims

end
-- ==== Proof.Fox.Steps.lean ====
module

public import proofs.«01_k».proof.Proof.Gen.FoxIdeal.Skeleton
public import proofs.«01_k».proof.Proof.Mla.Body

@[expose] public section

set_option maxRecDepth 16384

noncomputable section

/-! # One tile of the forgetting attention over the prompt

The kernel is that of the latent attention with other scores: a head's 64 lanes of the queries and keys are picked by a
mask, and three lanes of biases of the keys are added by lanes of ones beside the queries. What a tile does to the
running state is as in `Mla/Steps`. -/

namespace Cert.FoxIdeal.Gen

open Idealize.ShloMosaic Idealize.ShloMosaic.TcCoe Cert.Flash
open Cert.MlaIdeal.Gen (pos vTile mStep aStep flat masked valRows oneRow)

variable {F : FTy → Type} [FloatOps F] [Named F]

/-- The scores of a tile: keys and biases side by side against the queries of a head. -/
def score (q : FVec F S512x256 .bf16) (k b : Vec F S512x128 .bf16) : Vec F S1x512x512 .f32 := k0_pay2 q k b

/-- The `n`-th tile of keys, or of biases. -/
def tile (x : Vec F S2048x128 .bf16) (n : ℕ) : Vec F S512x128 .bf16 :=
  fun i => x (ix2 (n0 := 2048) (n1 := 128) (pos n (i 0)) (i 1))

/-- The scores of the `n`-th tile. -/
def tsc (q : FVec F S512x256 .bf16) (k b : Vec F S2048x128 .bf16) (n : ℕ) : Vec F S1x512x512 .f32 := score q (tile k n) (tile b n)

/-- The running maximum before the `n`-th tile. -/
def mAt (q : FVec F S512x256 .bf16) (k b : Vec F S2048x128 .bf16) : ℕ → Vec F S1x1x512 .f32
  | 0 => fun _ => Named.named κ "mask" 0xF149F2CA#32
  | n + 1 => mStep (flat (tsc q k b n)) (mAt q k b n)

/-- The running sums of head `j` before the `n`-th tile. -/
def aAt (o : FVec F S16x512 .bf16) (q : FVec F S512x256 .bf16) (k b : Vec F S2048x128 .bf16) (y : Vec F S1x128x2048 .bf16)
    (j : Fin 2) : ℕ → Vec F S1x80x512 .f32
  | 0 => fun _ => Scalar.ofBits .f32 0x00000000#32
  | n + 1 => aStep o (flat (tsc q k b n)) (mAt q k b n) (vTile y n j) (aAt o q k b y j n)

/-- The sums of head `j` after the tile on the diagonal, the `n`-th. -/
def aEnd (o : FVec F S16x512 .bf16) (q : FVec F S512x256 .bf16) (k b : Vec F S2048x128 .bf16) (y : Vec F S1x128x2048 .bf16)
    (j : Fin 2) (n : ℕ) : Vec F S1x80x512 .f32 :=
  aStep o (masked (tsc q k b n)) (mAt q k b n) (vTile y n j) (aAt o q k b y j n)

/-- What the kernel leaves in its block of the result, at the block of queries whose diagonal tile is the `n`-th. -/
def outBlock (n : ℕ) (x : Vec F S512x128 .bf16) (k : Vec F S2048x128 .bf16) (y : Vec F S1x128x2048 .bf16)
    (b : Vec F S2048x128 .bf16) : Vec F S512x128 .f32 :=
  k0_pay1 (valRows (aEnd k0_pay93 (k0_pay88 x) k b y 0 n)) (oneRow (aEnd k0_pay93 (k0_pay88 x) k b y 0 n))
    (valRows (aEnd k0_pay93 (k0_pay89 x) k b y 1 n)) (oneRow (aEnd k0_pay93 (k0_pay89 x) k b y 1 n))

/-! ## Where the kernel loads -/

theorem trips1 : ∀ i : grid0.Coords, (k0_t1_loop i).trips = (i 2).val / 2 := by decide +kernel
theorem trips2 : ∀ i : grid0.Coords, (k0_t2_loop i).trips = 0 := by decide +kernel
theorem off1a : ∀ (i : grid0.Coords) (k : Fin (k0_t1_loop i).trips), k0_off1 i k 1#32 = ![512 * (2 * k.val + 1), 0] := by decide +kernel
theorem off1b : ∀ (i : grid0.Coords) (k : Fin (k0_t1_loop i).trips), k0_off1 i k 2#32 = ![512 * (2 * k.val + 2), 0] := by decide +kernel
theorem off2 : ∀ (i : grid0.Coords) (k : Fin (k0_t1_loop i).trips), k0_off2 i k = ![0, 0, 512 * (2 * k.val)] := by decide +kernel
theorem off3 : ∀ (i : grid0.Coords) (k : Fin (k0_t1_loop i).trips), k0_off3 i k = ![0, 64, 512 * (2 * k.val)] := by decide +kernel
theorem off4 : ∀ (i : grid0.Coords) (k : Fin (k0_t1_loop i).trips), k0_off4 i k = ![0, 0, 512 * (2 * k.val + 1)] := by decide +kernel
theorem off5 : ∀ (i : grid0.Coords) (k : Fin (k0_t1_loop i).trips), k0_off5 i k = ![0, 64, 512 * (2 * k.val + 1)] := by decide +kernel
theorem off12 : ∀ i : grid0.Coords, k0_cond1 i = 1#1 → k0_off12 i = ![0, 0, 512 * ((i 2).val - 1)] := by decide +kernel
theorem off13 : ∀ i : grid0.Coords, k0_cond1 i = 1#1 → k0_off13 i = ![0, 64, 512 * ((i 2).val - 1)] := by decide +kernel
theorem cond1_iff : ∀ i : grid0.Coords, k0_cond1 i = 1#1 ↔ (i 2).val % 2 = 1 := by decide +kernel
theorem cond2_iff : ∀ i : grid0.Coords, k0_cond2 i = 1#1 ↔ (i 2).val % 2 = 0 := by decide +kernel

theorem load_tile {sig' : RefSig} {κ' : Kind} {sp : Space} {m : Memref sig' κ' sp S2048x128 .bf16} (h : m.IsWhole)
    (x : Vec F S2048x128 .bf16) {off : Fin 2 → ℕ} (n : ℕ) (hn : n < 4) (ho : off = ![512 * n, 0]) (inb) :
    View.readAt (Elt F) m.view (Rect.unit (s := S2048x128) off S512x128.size inb).toLoadRect (h.unread x) = tile x n := by
  subst ho
  funext i
  rw [h.readAt_unread]
  unfold tile pos
  have h0 : (i 0).val < 512 := (i 0).isLt
  refine congrArg x ?_
  funext a
  refine Fin.ext ?_
  fin_cases a
  · show 512 * n + 1 * (i 0).val = (512 * n + (i 0).val) % 2048
    rw [Nat.mod_eq_of_lt (by omega)]; omega
  · show 0 + 1 * (i 1).val = (i 1).val
    omega

theorem load_all {sig' : RefSig} {κ' : Kind} {sp : Space} {m : Memref sig' κ' sp S512x128 .bf16} (h : m.IsWhole)
    (x : Vec F S512x128 .bf16) (inb) :
    View.readAt (Elt F) m.view (Rect.unit (s := S512x128) ![0, 0] S512x128.size inb).toLoadRect (h.unread x) = x := by
  funext i
  rw [h.readAt_unread]
  refine congrArg x ?_
  funext a
  refine Fin.ext ?_
  fin_cases a
  · show 0 + 1 * (i 0).val = (i 0).val
    omega
  · show 0 + 1 * (i 1).val = (i 1).val
    omega

end Cert.FoxIdeal.Gen

end
-- ==== Proof.Fox.Trip.lean ====
module

public import proofs.«01_k».proof.Proof.Gen.FoxIdeal.Frame.Runs
public import proofs.«01_k».proof.Proof.Fox.Steps

@[expose] public section

set_option maxRecDepth 16384
set_option maxHeartbeats 2000000

noncomputable section

/-! # A trip of the kernel's loop over pairs of tiles -/

namespace Cert.FoxIdeal.Gen

open Idealize.ShloMosaic Idealize.ShloMosaic.TcCoe Idealize.ShloMosaic.Tactic Cert.Flash
open Idealize.SL Idealize.SL.RA Idealize.SL.BI
open scoped Idealize.SL.BI
open Idealize.SL.BI.BIBase Idealize.SL.BI.Laws Idealize.SL.ProofMode Idealize.SL.Sem
open Cert.MlaIdeal.Gen (load_vTile)

variable {F : FTy → Type} [FloatOps F] [Named F]

local notation "𝕄G" => MT nD τ sig Unit (Elt F) ℕ (UR sig nD τ) ℕ

/-- What is held before the trip that consumes tiles `n` and `n + 1`: keys, values and biases, the state before tile
`n`, the scores of tile `n`, and the other buffer of scores at anything. -/
def Held (c : Dev nD) (arg4 : Memref sig .tc .vmem S2048x128 .bf16) (arg5 : Memref sig .tc .vmem S1x128x2048 .bf16)
    (arg6 : Memref sig .tc .vmem S2048x128 .bf16)
    (arg8 : Memref sig .tc .vmem S2x1x512 .f32) (arg9 : Memref sig .tc .vmem S2x80x512 .f32)
    (arg10 : Memref sig .tc .vmem S2x512x512 .f32) (arg11 : Memref sig .tc .vmem S2x512x512 .f32)
    (q0 q1 : FVec F S512x256 .bf16) (o : FVec F S16x512 .bf16) (x4 : Vec F S2048x128 .bf16) (x5 : Vec F S1x128x2048 .bf16)
    (x6 : Vec F S2048x128 .bf16) (n : ℕ) : sProp 𝕄G :=
  iprop(owns (c : Thread nD τ) arg4 fullShare x4 ∗ owns (c : Thread nD τ) arg5 fullShare x5 ∗ owns (c : Thread nD τ) arg6 fullShare x6
    ∗ owns (c : Thread nD τ) arg8 fullShare (pair (mAt q0 x4 x6 n) (mAt q1 x4 x6 n))
    ∗ owns (c : Thread nD τ) arg9 fullShare (pair (aAt o q0 x4 x6 x5 0 n) (aAt o q1 x4 x6 x5 1 n))
    ∗ owns (c : Thread nD τ) arg10 fullShare (pair (tsc q0 x4 x6 n) (tsc q1 x4 x6 n))
    ∗ (∃ d, owns (c : Thread nD τ) arg11 fullShare d))

theorem trip (𝒱 : Variants) (c : Dev nD) (bd : Option 𝒱.V) (i : grid0.Coords)
    (arg3 : Memref sig .tc .vmem S512x128 .bf16) (harg3 : arg3.IsWhole)
    (arg4 : Memref sig .tc .vmem S2048x128 .bf16) (harg4 : arg4.IsWhole)
    (arg5 : Memref sig .tc .vmem S1x128x2048 .bf16) (harg5 : arg5.IsWhole)
    (arg6 : Memref sig .tc .vmem S2048x128 .bf16) (harg6 : arg6.IsWhole)
    (arg7 : Memref sig .tc .vmem S512x128 .f32) (harg7 : arg7.IsWhole)
    (arg8 : Memref sig .tc .vmem S2x1x512 .f32) (harg8 : arg8.IsWhole)
    (arg9 : Memref sig .tc .vmem S2x80x512 .f32) (harg9 : arg9.IsWhole)
    (arg10 : Memref sig .tc .vmem S2x512x512 .f32) (harg10 : arg10.IsWhole)
    (arg11 : Memref sig .tc .vmem S2x512x512 .f32) (harg11 : arg11.IsWhole)
    (arg2 : BitVec 32) (q0 q1 : FVec F S512x256 .bf16) (o : FVec F S16x512 .bf16) (v56 : BitVec 32) (v70 : BitVec 1)
    (c1_i32 : BitVec 32) (k : Fin (k0_t1_loop i).trips)
    (x4 : Vec F S2048x128 .bf16) (x5 : Vec F S1x128x2048 .bf16) (x6 : Vec F S2048x128 .bf16) (E : Set ℕ) :
    Held c arg4 arg5 arg6 arg8 arg9 arg10 arg11 q0 q1 o x4 x5 x6 (2 * k.val)
      ⊢ (wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg2 q0 q1 o v56 v70 c1_i32 k PUnit.unit)
          (fun _ => Held c arg4 arg5 arg6 arg8 arg9 arg10 arg11 q0 q1 o x4 x5 x6 (2 * (k.val + 1))) : sProp 𝕄G) := by
  have hk : k.val < 1 := lt_of_lt_of_le k.isLt (by rw [trips1]; have := (i 2).isLt; change _ < 4 at this; omega)
  unfold k0_t1_body Held
  simp only [k0_part1_eq_skeleton, k0_part2_eq_skeleton, k0_part3_eq_skeleton, k0_part4_eq_skeleton]
  unfold owns
  iintro ⟨⟨%f4, %hf4, H4⟩, ⟨%f5, %hf5, H5⟩, ⟨%f6, %hf6, H6⟩, ⟨%f8, %hf8, H8⟩, ⟨%f9, %hf9, H9⟩, ⟨%f10, %hf10, H10⟩, ⟨%d11, %f11, -, H11⟩⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec
  sl_step
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro
    sl_unfold_run_names
    rw [load_tile harg4 x4 (2 * k.val + 1) (by omega) (off1a i k), load_tile harg6 x6 (2 * k.val + 1) (by omega) (off1a i k)]
    simp only [readAt_pair_zero, readAt_pair_one, readCov_skip_one, readCov_skip_zero, View.readCov_cons_toLoadRect]
    exact read_pair _ _ _ _ _ _ _
  isplitl [H9]
  · iexists _; isplitr; swap; · iexact H9
    ipureintro
    sl_unfold_run_names
    rw [load_tile harg4 x4 (2 * k.val + 1) (by omega) (off1a i k), load_tile harg6 x6 (2 * k.val + 1) (by omega) (off1a i k),
      load_vTile harg5 x5 (2 * k.val) 0 (by omega) (off2 i k), load_vTile harg5 x5 (2 * k.val) 1 (by omega) (off3 i k),
      load_vTile harg5 x5 (2 * k.val + 1) 0 (by omega) (off4 i k), load_vTile harg5 x5 (2 * k.val + 1) 1 (by omega) (off5 i k)]
    simp only [readAt_pair_zero, readAt_pair_one, readCov_skip_one, readCov_skip_zero, View.readCov_cons_toLoadRect]
    exact read_pair _ _ _ _ _ _ _
  isplitl [H10]
  · iexists _; isplitr; swap; · iexact H10
    ipureintro
    sl_unfold_run_names
    rw [load_tile harg4 x4 (2 * k.val + 2) (by omega) (off1b i k), load_tile harg6 x6 (2 * k.val + 2) (by omega) (off1b i k)]
    exact read_pair _ _ _ _ _ _ _
  · iexists _, _; isplitr; swap; · iexact H11
    ipureintro
    rfl

end Cert.FoxIdeal.Gen

end
-- ==== Proof.Fox.Body.lean ====
module

public import proofs.«01_k».proof.Proof.Fox.Trip
public import Idealize.ShloMosaic.Lib.VecWindow

@[expose] public section

set_option maxRecDepth 16384
set_option maxHeartbeats 4000000

noncomputable section

/-! # The kernel's body at a point of its grid -/

namespace Cert.FoxIdeal.Gen

open Idealize.ShloMosaic Idealize.ShloMosaic.TcCoe Idealize.ShloMosaic.Tactic Cert.Flash
open Idealize.SL Idealize.SL.RA Idealize.SL.BI
open scoped Idealize.SL.BI
open Idealize.SL.BI.BIBase Idealize.SL.BI.Laws Idealize.SL.ProofMode Idealize.SL.Sem
open Cert.MlaIdeal.Gen (load_vTile load_val_zero load_val_one load_one_zero load_one_one)

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg3 : Memref sig .tc .vmem S512x128 .bf16) (harg3 : arg3.IsWhole)
  (arg4 : Memref sig .tc .vmem S2048x128 .bf16) (harg4 : arg4.IsWhole)
  (arg5 : Memref sig .tc .vmem S1x128x2048 .bf16) (harg5 : arg5.IsWhole)
  (arg6 : Memref sig .tc .vmem S2048x128 .bf16) (harg6 : arg6.IsWhole)
  (arg7 : Memref sig .tc .vmem S512x128 .f32) (harg7 : arg7.IsWhole)
  (arg8 : Memref sig .tc .vmem S2x1x512 .f32) (harg8 : arg8.IsWhole)
  (arg9 : Memref sig .tc .vmem S2x80x512 .f32) (harg9 : arg9.IsWhole)
  (arg10 : Memref sig .tc .vmem S2x512x512 .f32) (harg10 : arg10.IsWhole)
  (arg11 : Memref sig .tc .vmem S2x512x512 .f32) (harg11 : arg11.IsWhole)
  (x3 : Vec F S512x128 .bf16) (x4 : Vec F S2048x128 .bf16) (x5 : Vec F S1x128x2048 .bf16) (x6 : Vec F S2048x128 .bf16) (E : Set ℕ)

/-- First the queries of both heads are formed, and the running maximum is set to nothing seen. -/
theorem queries :
    iprop(owns (c : Thread nD τ) arg3 fullShare x3
      ∗ (∃ d, owns (c : Thread nD τ) arg8 fullShare d) ∗ (∃ d, owns (c : Thread nD τ) arg9 fullShare d))
      ⊢ (wp frame (wpE (defs₀ (F := F)) 𝒱 (c : Thread nD τ) bd) E (k0_part14 (F := F) i arg3 harg3 arg4 harg4 arg5 harg5 arg6 harg6 arg7 harg7 arg8 harg8 arg9 harg9 arg10 harg10 arg11 harg11)
          (fun r => iprop(⌜r = ⟨BitVec.ofNat 32 (i 2).val, k0_pay88 x3, k0_pay89 x3, k0_pay91⟩⌝
            ∗ owns (c : Thread nD τ) arg3 fullShare x3
            ∗ owns (c : Thread nD τ) arg8 fullShare (pair (mAt (k0_pay88 x3) x4 x6 0) (mAt (k0_pay89 x3) x4 x6 0))
            ∗ (∃ d, owns (c : Thread nD τ) arg9 fullShare d))) : sProp 𝕄G) := by
  simp only [k0_part14_eq_skeleton]; unfold k0_part14_skel owns
  iintro ⟨⟨%f3, %hf3, H3⟩, ⟨%d8, %f8, -, H8⟩, ⟨%d9, %f9, -, H9⟩⟩
  obtain rfl := harg3.eq_unread hf3
  sl_exec
  sl_step
  isplitr
  · ipureintro
    rw [load_all harg3 x3]
  isplitl [H3]
  · iexists _; isplitr; · ipureintro; exact harg3.read_unread _
    iexact H3
  isplitl [H8]
  · iexists _; isplitr; swap; · iexact H8
    ipureintro
    refine (View.read_writes_full _ _ _ _ _).trans ?_
    funext y; unfold pair; split <;> rfl
  · iexists _, _; isplitr; swap; · iexact H9
    ipureintro
    rfl

/-- Then the running sums are set to zero and the scores of the first tile are formed. -/
theorem opening (arg2 : BitVec 32) (q0 q1 : FVec F S512x256 .bf16) :
    iprop(owns (c : Thread nD τ) arg4 fullShare x4 ∗ owns (c : Thread nD τ) arg5 fullShare x5 ∗ owns (c : Thread nD τ) arg6 fullShare x6
      ∗ owns (c : Thread nD τ) arg8 fullShare (pair (mAt q0 x4 x6 0) (mAt q1 x4 x6 0))
      ∗ (∃ d, owns (c : Thread nD τ) arg9 fullShare d)
      ∗ (∃ d, owns (c : Thread nD τ) arg10 fullShare d) ∗ (∃ d, owns (c : Thread nD τ) arg11 fullShare d))
      ⊢ (wp frame (wpE (defs₀ (F := F)) 𝒱 (c : Thread nD τ) bd) E (k0_part15 (F := F) i arg3 harg3 arg4 harg4 arg5 harg5 arg6 harg6 arg7 harg7 arg8 harg8 arg9 harg9 arg10 harg10 arg11 harg11 arg2 q0 q1 k0_pay91)
          (fun r => iprop(∃ v56 v70, ⌜r = ⟨k0_pay93, v56, v70, 1#32⟩⌝
            ∗ Held c arg4 arg5 arg6 arg8 arg9 arg10 arg11 q0 q1 k0_pay93 x4 x5 x6 0)) : sProp 𝕄G) := by
  simp only [k0_part15_eq_skeleton]; unfold k0_part15_skel Held owns
  iintro ⟨⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩⟩
  obtain rfl := harg4.eq_unread hf4; obtain rfl := harg5.eq_unread hf5; obtain rfl := harg6.eq_unread hf6
  sl_exec
  sl_step
  iexists _, _
  isplitr
  · ipureintro
    rfl
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact hf8
    iexact H8
  isplitl [H9]
  · iexists _; isplitr; swap; · iexact H9
    ipureintro
    refine (View.read_writes_full _ _ _ _ _).trans ?_
    funext y; unfold pair; split <;> rfl
  isplitl [H10]
  · iexists _; isplitr; swap; · iexact H10
    ipureintro
    rw [load_tile (off := ![0, 0]) harg4 x4 0 (by omega) rfl, load_tile (off := ![0, 0]) harg6 x6 0 (by omega) rfl]
    exact read_pair _ _ _ _ _ _ _
  · iexists _, _; isplitr; swap; · iexact H11
    ipureintro
    rfl

/-- What is held once the tile on the diagonal, the `n`-th, has been taken. -/
def Ended (q0 q1 : FVec F S512x256 .bf16) (o : FVec F S16x512 .bf16) (n : ℕ) : sProp 𝕄G :=
  iprop(owns (c : Thread nD τ) arg4 fullShare x4 ∗ owns (c : Thread nD τ) arg5 fullShare x5 ∗ owns (c : Thread nD τ) arg6 fullShare x6
    ∗ (∃ d, owns (c : Thread nD τ) arg8 fullShare d)
    ∗ owns (c : Thread nD τ) arg9 fullShare (pair (aEnd o q0 x4 x6 x5 0 n) (aEnd o q1 x4 x6 x5 1 n))
    ∗ (∃ d, owns (c : Thread nD τ) arg10 fullShare d) ∗ (∃ d, owns (c : Thread nD τ) arg11 fullShare d))

/-- At an even block of queries the loop over pairs of tiles ends at the diagonal, and the diagonal tile is taken with
its mask. -/
theorem loops_even (hc0 : ¬ k0_cond1 i = 1#1) (hc1 : k0_cond2 i = 1#1) (q0 q1 : FVec F S512x256 .bf16) (o : FVec F S16x512 .bf16)
    (arg2 v56 : BitVec 32) (v70 : BitVec 1) (c1_i32 : BitVec 32) :
    Held c arg4 arg5 arg6 arg8 arg9 arg10 arg11 q0 q1 o x4 x5 x6 0
      ⊢ (wp frame (wpE (defs₀ (F := F)) 𝒱 (c : Thread nD τ) bd) E (k0_part16 (F := F) i arg3 harg3 arg4 harg4 arg5 harg5 arg6 harg6 arg7 harg7 arg8 harg8 arg9 harg9 arg10 harg10 arg11 harg11 arg2 q0 q1 o v56 v70 c1_i32)
          (fun _ => Ended c arg4 arg5 arg6 arg8 arg9 arg10 arg11 x4 x5 x6 q0 q1 o (i 2).val) : sProp 𝕄G) := by
  simp only [k0_part16_eq_skeleton]; unfold k0_part16_skel Ended
  simp only [k0_part13_eq_skeleton]
  iintro HH
  sl_for (fun k _ => Held c arg4 arg5 arg6 arg8 arg9 arg10 arg11 q0 q1 o x4 x5 x6 (2 * k)) $$ [HH]
  case region =>
    intro k _
    exact trip 𝒱 c bd i arg3 harg3 arg4 harg4 arg5 harg5 arg6 harg6 arg7 harg7 arg8 harg8 arg9 harg9 arg10 harg10 arg11 harg11 _ _ _ _ _ _ _ k x4 x5 x6 E
  · iexact HH
  iintro %_ HH
  have htr := trips2 i
  sl_for0 htr
  have heven := (cond2_iff i).mp hc1
  have h4 : (i 2).val < 4 := (i 2).isLt
  have h1 : Scf.trips (k0_t1_loop i).lb (k0_t1_loop i).ub (k0_t1_loop i).st = (i 2).val / 2 := trips1 i
  rw [show 2 * Scf.trips (k0_t1_loop i).lb (k0_t1_loop i).ub (k0_t1_loop i).st = (i 2).val by omega]
  unfold Held owns
  icases HH with ⟨⟨%f4, %hf4, H4⟩, ⟨%f5, %hf5, H5⟩, ⟨%f6, %hf6, H6⟩, ⟨%f8, %hf8, H8⟩, ⟨%f9, %hf9, H9⟩, ⟨%f10, %hf10, H10⟩, ⟨%d11, %f11, -, H11⟩⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _, _; isplitr; swap; · iexact H8
    ipureintro
    rfl
  isplitl [H9]
  · iexists _; isplitr; swap; · iexact H9
    ipureintro
    sl_unfold_run_names
    rw [load_vTile harg5 x5 (i 2).val 0 h4 (k0_off16_eq i), load_vTile harg5 x5 (i 2).val 1 h4 (k0_off17_eq i)]
    simp only [readAt_pair_zero, readAt_pair_one, readCov_skip_one, readCov_skip_zero, View.readCov_cons_toLoadRect]
    exact read_pair _ _ _ _ _ _ _
  isplitl [H10]
  · iexists _, _; isplitr; swap; · iexact H10
    ipureintro
    rfl
  · iexists _, _; isplitr; swap; · iexact H11
    ipureintro
    rfl

/-- At an odd block of queries the loop ends one tile before the diagonal: that tile is taken, then the diagonal tile
with its mask. -/
theorem loops_odd (hc0 : k0_cond1 i = 1#1) (hc1 : ¬ k0_cond2 i = 1#1) (q0 q1 : FVec F S512x256 .bf16) (o : FVec F S16x512 .bf16)
    (arg2 v56 : BitVec 32) (v70 : BitVec 1) (c1_i32 : BitVec 32) :
    Held c arg4 arg5 arg6 arg8 arg9 arg10 arg11 q0 q1 o x4 x5 x6 0
      ⊢ (wp frame (wpE (defs₀ (F := F)) 𝒱 (c : Thread nD τ) bd) E (k0_part16 (F := F) i arg3 harg3 arg4 harg4 arg5 harg5 arg6 harg6 arg7 harg7 arg8 harg8 arg9 harg9 arg10 harg10 arg11 harg11 arg2 q0 q1 o v56 v70 c1_i32)
          (fun _ => Ended c arg4 arg5 arg6 arg8 arg9 arg10 arg11 x4 x5 x6 q0 q1 o (i 2).val) : sProp 𝕄G) := by
  simp only [k0_part16_eq_skeleton]; unfold k0_part16_skel Ended
  simp only [k0_part9_eq_skeleton, k0_part10_eq_skeleton, k0_part11_eq_skeleton, k0_part12_eq_skeleton]
  iintro HH
  sl_for (fun k _ => Held c arg4 arg5 arg6 arg8 arg9 arg10 arg11 q0 q1 o x4 x5 x6 (2 * k)) $$ [HH]
  case region =>
    intro k _
    exact trip 𝒱 c bd i arg3 harg3 arg4 harg4 arg5 harg5 arg6 harg6 arg7 harg7 arg8 harg8 arg9 harg9 arg10 harg10 arg11 harg11 _ _ _ _ _ _ _ k x4 x5 x6 E
  · iexact HH
  iintro %_ HH
  have htr := trips2 i
  sl_for0 htr
  have hodd := (cond1_iff i).mp hc0
  have h4 : (i 2).val < 4 := (i 2).isLt
  have h1 : Scf.trips (k0_t1_loop i).lb (k0_t1_loop i).ub (k0_t1_loop i).st = (i 2).val / 2 := trips1 i
  obtain ⟨n, hn⟩ : ∃ n, (i 2).val = n + 1 := ⟨(i 2).val - 1, by omega⟩
  rw [show 2 * Scf.trips (k0_t1_loop i).lb (k0_t1_loop i).ub (k0_t1_loop i).st = n by omega]
  unfold Held owns
  icases HH with ⟨⟨%f4, %hf4, H4⟩, ⟨%f5, %hf5, H5⟩, ⟨%f6, %hf6, H6⟩, ⟨%f8, %hf8, H8⟩, ⟨%f9, %hf9, H9⟩, ⟨%f10, %hf10, H10⟩, ⟨%d11, %f11, -, H11⟩⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _, _; isplitr; swap; · iexact H8
    ipureintro
    rfl
  isplitl [H9]
  · iexists _; isplitr; swap; · iexact H9
    ipureintro
    sl_unfold_run_names
    rw [load_vTile harg5 x5 n 0 (by omega) ((off12 i hc0).trans (by rw [hn]; rfl)), load_vTile harg5 x5 n 1 (by omega) ((off13 i hc0).trans (by rw [hn]; rfl)),
      load_vTile harg5 x5 (n + 1) 0 (by omega) ((k0_off14_eq i).trans (by rw [hn]; rfl)), load_vTile harg5 x5 (n + 1) 1 (by omega) ((k0_off15_eq i).trans (by rw [hn]; rfl)),
      load_tile harg4 x4 (n + 1) (by omega) ((k0_off11_eq i).trans (by rw [hn])), load_tile harg6 x6 (n + 1) (by omega) ((k0_off11_eq i).trans (by rw [hn]))]
    simp only [readAt_pair_zero, readAt_pair_one, readCov_skip_one, readCov_skip_zero, View.readCov_cons_toLoadRect]
    rw [hn]
    exact read_pair _ _ _ _ _ _ _
  isplitl [H10]
  · iexists _, _; isplitr; swap; · iexact H10
    ipureintro
    rfl
  · iexists _, _; isplitr; swap; · iexact H11
    ipureintro
    rfl

/-- The body: from the blocks of queries, keys, values and biases it leaves `outBlock` of them. -/
theorem body (hc : k0_cond1 i = 1#1 ↔ ¬ k0_cond2 i = 1#1) :
    iprop(owns (c : Thread nD τ) arg3 fullShare x3 ∗ owns (c : Thread nD τ) arg4 fullShare x4 ∗ owns (c : Thread nD τ) arg5 fullShare x5
      ∗ owns (c : Thread nD τ) arg6 fullShare x6 ∗ (∃ d, owns (c : Thread nD τ) arg7 fullShare d)
      ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d))
      ⊢ (wp frame (wpE (defs₀ (F := F)) 𝒱 (c : Thread nD τ) bd) E (cc0_fox_prompt_attention (F := F) i arg3 harg3 arg4 harg4 arg5 harg5 arg6 harg6 arg7 harg7 arg8 harg8 arg9 harg9 arg10 harg10 arg11 harg11)
          (fun _ => iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (outBlock (i 2).val x3 x4 x5 x6)
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d))) : sProp 𝕄G) := by
  simp only [cc0_fox_prompt_attention_eq_skeleton]; unfold cc0_fox_prompt_attention_skel
  rw [wp_bind]
  iintro ⟨H3, H4, H5, H6, H7, H8, H9, H10, H11⟩
  iapply (wp_wand_r Idealize.ShloMosaic.frame (wpE (defs₀ (F := F)) 𝒱 (c : Thread nD τ) bd) E)
  isplitl [H3 H8 H9]
  · iapply (queries 𝒱 c bd i arg3 harg3 arg4 harg4 arg5 harg5 arg6 harg6 arg7 harg7 arg8 harg8 arg9 harg9 arg10 harg10 arg11 harg11 x3 x4 x6 E)
    isplitl [H3]; · iexact H3
    isplitl [H8]; · iexact H8
    iexact H9
  iintro %r ⟨%hr, H3, H8, H9⟩
  subst hr
  dsimp only
  rw [wp_bind]
  iapply (wp_wand_r Idealize.ShloMosaic.frame (wpE (defs₀ (F := F)) 𝒱 (c : Thread nD τ) bd) E)
  isplitl [H4 H5 H6 H8 H9 H10 H11]
  · iapply (opening 𝒱 c bd i arg3 harg3 arg4 harg4 arg5 harg5 arg6 harg6 arg7 harg7 arg8 harg8 arg9 harg9 arg10 harg10 arg11 harg11 x4 x5 x6 E)
    isplitl [H4]; · iexact H4
    isplitl [H5]; · iexact H5
    isplitl [H6]; · iexact H6
    isplitl [H8]; · iexact H8
    isplitl [H9]; · iexact H9
    isplitl [H10]; · iexact H10
    iexact H11
  iintro %r ⟨%v56, %v70, %hr, HH⟩
  subst hr
  dsimp only
  rw [wp_bind]
  iapply (wp_wand_r Idealize.ShloMosaic.frame (wpE (defs₀ (F := F)) 𝒱 (c : Thread nD τ) bd) E)
  isplitl [HH]
  · by_cases hc1 : k0_cond2 i = 1#1
    · iapply (loops_even 𝒱 c bd i arg3 harg3 arg4 harg4 arg5 harg5 arg6 harg6 arg7 harg7 arg8 harg8 arg9 harg9 arg10 harg10 arg11 harg11 x4 x5 x6 E (fun h => hc.mp h hc1) hc1)
      iexact HH
    · iapply (loops_odd 𝒱 c bd i arg3 harg3 arg4 harg4 arg5 harg5 arg6 harg6 arg7 harg7 arg8 harg8 arg9 harg9 arg10 harg10 arg11 harg11 x4 x5 x6 E (hc.mpr hc1) hc1)
      iexact HH
  iintro %_ HH
  unfold Ended
  icases HH with ⟨H4, H5, H6, H8, H9, H10, H11⟩
  icases H7 with ⟨%d7, H7⟩
  unfold owns
  icases H7 with ⟨%f7, -, H7⟩
  icases H9 with ⟨%f9, %hf9, H9⟩
  obtain rfl := harg9.eq_unread hf9
  sl_exec
  sl_step
  isplitl [H3]; · iexact H3
  isplitl [H4]; · iexact H4
  isplitl [H5]; · iexact H5
  isplitl [H6]; · iexact H6
  isplitl [H7]
  · iexists _; isplitr; swap; · iexact H7
    ipureintro
    refine (View.read_writes_full _ _ _ _ _).trans ?_
    sl_unfold_run_names
    rw [load_val_zero _ _ _ _ hf9, load_val_one _ _ _ _ hf9, load_one_zero _ _ _ _ hf9, load_one_one _ _ _ _ hf9]
    rfl
  isplitl [H8]; · iexact H8
  isplitl [H9]
  · iexists _, _; isplitr; swap; · iexact H9
    ipureintro
    rfl
  isplitl [H10]; · iexact H10
  iexact H11

end Cert.FoxIdeal.Gen

end
-- ==== Proof.Fox.Launch.lean ====
module

public import proofs.«01_k».proof.Proof.Fox.Body
public import Idealize.ShloMosaic.Lib.Claim
public import Idealize.ShloMosaic.Lib.Pipeline.Value

@[expose] public section

set_option maxRecDepth 16384

noncomputable section

/-! # The kernel's run: every point leaves `outBlock` of its blocks in its block of the result -/

namespace Cert.FoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves at a point: `outBlock` of its blocks of queries, keys, values and biases. -/
abbrev outAt (c : Dev nD) (t : Fin cfg0.N) : Vec F S512x128 .f32 :=
  outBlock ((grid0.coords t) 2).val (iblk m c 0 t) (iblk m c 1 t) (iblk m c 2 t) (iblk m c 3 t)

/-- What the pipeline needs to know of the one kernel: its arrays as found; each input's buffer unchanged by the body
and the result's at `outAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- What the body leaves in each window's block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at a point: from the inputs' blocks and the scratch buffers at anything, it leaves the result's block at
`outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hc : k0_cond1 (grid0.coords t) = 1#1 ↔ ¬ k0_cond2 (grid0.coords t) = 1#1 := by
    rw [cond1_iff, cond2_iff]; omega
  iintro ⟨⟨⟨HS0, HS1, HS2, HS3⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4 HS0 HS1 HS2 HS3]
  · iapply (body Variants.none c none (grid0.coords t) _ _ _ _ _ _ _ _ _ _ _ _ _ _ _ _ _ _ (iblk m c 0 t) (iblk m c 1 t) (iblk m c 2 t) (iblk m c 3 t) Set.univ hc)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iexact HS3
  iintro %_ ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

/-- The body the call names, at point `t`. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: the result array block by block, the arguments unchanged, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without its counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel terminates, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FoxIdeal.Gen

end
-- ==== Proof.Fox.Words.lean ====
module

public import proofs.«01_k».proof.Defs
public import proofs.«01_k».proof.Proof.Gen.Fox
public import proofs.«01_k».proof.Proof.Fox.Launch

@[expose] public section

set_option maxRecDepth 16384

noncomputable section

/-! # The kernel over words

`Launch` runs the kernel for any float values and any reading of its named constant. Over words, with the constant
read as its own word, that is the kernel itself. -/

namespace Cert.Proof.FoxClaims

open Idealize.ShloMosaic Idealize.SL.Sem

/-- A named constant read as its word. -/
abbrev wordsNamed : Named Bits := ⟨fun _ _ _ bits => Scalar.ofBits _ bits⟩

attribute [local instance] wordsNamed

/-- Read so, the two kernels have the same body, -/
theorem words_defs₀ : Cert.FoxIdeal.defs₀ (F := Bits) = Cert.Fox.defs₀ (F := Bits) := by
  unfold Cert.FoxIdeal.defs₀ Cert.Fox.defs₀
  refine congrArg Defs.onTc ?_
  funext l x
  match l, x with
  | 0, (t, s) => rfl
  | ⟨_ + 1, h⟩, _ => exact absurd h (Nat.not_lt.2 (Nat.le_add_left _ _))

/-- and the same pipeline. -/
theorem words_defs : Cert.FoxIdeal.defs (F := Bits) = Cert.Fox.defs (F := Bits) :=
  congrArg (Pipeline.defs _) words_defs₀

/-- The kernel terminates, leaves its arguments and its counters. -/
theorem frame_p : Cert.quiescent_Fox (hFox := Cert.Fox.Gen.facts) := fun m ρ _ => by
  have h := @Cert.FoxIdeal.Gen.frame Bits _ wordsNamed m ρ
  rw [words_defs] at h
  exact h

end Cert.Proof.FoxClaims

end
-- ==== Proof.Fox.Array.lean ====
module

public import proofs.«01_k».proof.Proof.Fox.Launch
public import proofs.«01_k».proof.Proof.Mla.Array

@[expose] public section

set_option maxRecDepth 16384

noncomputable section

/-! # The kernel's result array as one function of the argument arrays -/

namespace Cert.FoxIdeal.Gen

open Idealize.ShloMosaic Idealize.ShloMosaic.TcCoe
open Idealize.SL.Sem
open Idealize.ShloMosaic.Pipeline (Dat)
open Cert.MlaIdeal.Gen (vBlock ix2_ext ix3_ext)

variable {F : FTy → Type} [FloatOps F] [Named F]

/-- The block of queries of batch row block `p` and head pair `h`. -/
def qBlock (q : Vec F S16384x512 .bf16) (p : Fin 32) (h : Fin 4) : Vec F S512x128 .bf16 :=
  fun i => q (ix2 (n0 := 16384) (n1 := 512) ⟨512 * p.val + (i 0).val, by
    have h0 : (i 0).val < 512 := (i 0).isLt
    have := p.isLt
    omega⟩ ⟨128 * h.val + (i 1).val, by
    have h1 : (i 1).val < 128 := (i 1).isLt
    have := h.isLt
    omega⟩)

/-- The keys, or the keys' biases, of batch `b` and head pair `h`. -/
def kBlock (k : Vec F S16384x512 .bf16) (b : Fin 8) (h : Fin 4) : Vec F S2048x128 .bf16 :=
  fun i => k (ix2 (n0 := 16384) (n1 := 512) ⟨2048 * b.val + (i 0).val, by
    have h0 : (i 0).val < 2048 := (i 0).isLt
    have := b.isLt
    omega⟩ ⟨128 * h.val + (i 1).val, by
    have h1 : (i 1).val < 128 := (i 1).isLt
    have := h.isLt
    omega⟩)

/-- The result array at row `r` and column `d`: the entry of the block of its 512 rows and 128 columns. -/
def resAt (q k : Vec F S16384x512 .bf16) (v : Vec F S8x512x2048 .bf16) (bias : Vec F S16384x512 .bf16) : Vec F S16384x512 .f32 := fun i =>
  have h0 : (i 0).val < 16384 := (i 0).isLt
  have h1 : (i 1).val < 512 := (i 1).isLt
  outBlock ((i 0).val / 512 % 4) (qBlock q ⟨(i 0).val / 512, by omega⟩ ⟨(i 1).val / 128, by omega⟩)
    (kBlock k ⟨(i 0).val / 2048, by omega⟩ ⟨(i 1).val / 128, by omega⟩)
    (vBlock v ⟨(i 0).val / 2048, by omega⟩ ⟨(i 1).val / 128, by omega⟩)
    (kBlock bias ⟨(i 0).val / 2048, by omega⟩ ⟨(i 1).val / 128, by omega⟩)
    (ix2 (n0 := 512) (n1 := 128) ⟨(i 0).val % 512, by omega⟩ ⟨(i 1).val % 128, by omega⟩)

theorem coord2 : ∀ t : Fin grid0.N, ((grid0.coords t) 2).val = t.val % 4 := by decide +kernel
theorem index0 : ∀ t : Fin grid0.N, win0_0.index t 0 = t.val / 16 * 4 + t.val % 4 ∧ win0_0.index t 1 = t.val / 4 % 4 := by decide +kernel
theorem index1 : ∀ t : Fin grid0.N, win0_1.index t 0 = t.val / 16 ∧ win0_1.index t 1 = t.val / 4 % 4 := by decide +kernel
theorem index2 : ∀ t : Fin grid0.N, win0_2.index t 0 = t.val / 16 ∧ win0_2.index t 1 = t.val / 4 % 4 ∧ win0_2.index t 2 = 0 := by decide +kernel
theorem index3 : ∀ t : Fin grid0.N, win0_3.index t 0 = t.val / 16 ∧ win0_3.index t 1 = t.val / 4 % 4 := by decide +kernel
theorem index4 : ∀ t : Fin grid0.N, win0_4.index t 0 = t.val / 16 * 4 + t.val % 4 ∧ win0_4.index t 1 = t.val / 4 % 4 := by decide +kernel

/-- Blocks at equal positions are equal. -/
theorem outBlock_congr (q k : Vec F S16384x512 .bf16) (v : Vec F S8x512x2048 .bf16) (bias : Vec F S16384x512 .bf16) {n n' : ℕ} {p p' : Fin 32} {h h' : Fin 4}
    {b b' : Fin 8} {j j' : S512x128.Idx} (hn : n = n') (hp : p.val = p'.val) (hh : h.val = h'.val) (hb : b.val = b'.val) (hj : j = j') :
    outBlock n (qBlock q p h) (kBlock k b h) (vBlock v b h) (kBlock bias b h) j = outBlock n' (qBlock q p' h') (kBlock k b' h') (vBlock v b' h') (kBlock bias b' h') j' := by
  rw [hn, Fin.ext hp, Fin.ext hh, Fin.ext hb, hj]

variable (m : (ℓ : Loc nD τ sig) → Buf (Elt F) ℓ) (ρ : Dev nD → PrngReg)

/-- The whole result of device `c`. -/
abbrev result (c : Dev nD) : Buf (Elt F) ((c : Thread nD τ).loc main_v0) :=
  resAt (m ((c : Thread nD τ).loc main_arg0)) (m ((c : Thread nD τ).loc main_arg1)) (m ((c : Thread nD τ).loc main_arg2)) (m ((c : Thread nD τ).loc main_arg3))

theorem iblk0 (c : Dev nD) (t : Fin cfg0.N) (ht : t.val < 128) :
    iblk m c 0 t = qBlock (m ((c : Thread nD τ).loc main_arg0)) ⟨t.val / 16 * 4 + t.val % 4, by omega⟩ ⟨t.val / 4 % 4, by omega⟩ := by
  funext j
  show m ((c : Thread nD τ).loc main_arg0) _ = m ((c : Thread nD τ).loc main_arg0) _
  refine congrArg _ ((eq_ix2 _).trans (ix2_ext ?_ ?_))
  · show win0_0.index t 0 * 512 + 1 * (j 0).val = 512 * (t.val / 16 * 4 + t.val % 4) + (j 0).val
    rw [(index0 t).1]; omega
  · show win0_0.index t 1 * 128 + 1 * (j 1).val = 128 * (t.val / 4 % 4) + (j 1).val
    rw [(index0 t).2]; omega

theorem iblk1 (c : Dev nD) (t : Fin cfg0.N) (ht : t.val < 128) :
    iblk m c 1 t = kBlock (m ((c : Thread nD τ).loc main_arg1)) ⟨t.val / 16, by omega⟩ ⟨t.val / 4 % 4, by omega⟩ := by
  funext j
  show m ((c : Thread nD τ).loc main_arg1) _ = m ((c : Thread nD τ).loc main_arg1) _
  refine congrArg _ ((eq_ix2 _).trans (ix2_ext ?_ ?_))
  · show win0_1.index t 0 * 2048 + 1 * (j 0).val = 2048 * (t.val / 16) + (j 0).val
    rw [(index1 t).1]; omega
  · show win0_1.index t 1 * 128 + 1 * (j 1).val = 128 * (t.val / 4 % 4) + (j 1).val
    rw [(index1 t).2]; omega

theorem iblk2 (c : Dev nD) (t : Fin cfg0.N) (ht : t.val < 128) :
    iblk m c 2 t = vBlock (m ((c : Thread nD τ).loc main_arg2)) ⟨t.val / 16, by omega⟩ ⟨t.val / 4 % 4, by omega⟩ := by
  funext j
  show m ((c : Thread nD τ).loc main_arg2) _ = m ((c : Thread nD τ).loc main_arg2) _
  refine congrArg _ ((eq_ix3 _).trans (ix3_ext ?_ ?_ ?_))
  · have h0 : (j 0).val < 1 := (j 0).isLt
    show win0_2.index t 0 * 1 + 1 * (j 0).val = t.val / 16
    rw [(index2 t).1]; omega
  · show win0_2.index t 1 * 128 + 1 * (j 1).val = 128 * (t.val / 4 % 4) + (j 1).val
    rw [(index2 t).2.1]; omega
  · show win0_2.index t 2 * 2048 + 1 * (j 2).val = (j 2).val
    rw [(index2 t).2.2]; omega

theorem iblk3 (c : Dev nD) (t : Fin cfg0.N) (ht : t.val < 128) :
    iblk m c 3 t = kBlock (m ((c : Thread nD τ).loc main_arg3)) ⟨t.val / 16, by omega⟩ ⟨t.val / 4 % 4, by omega⟩ := by
  funext j
  show m ((c : Thread nD τ).loc main_arg3) _ = m ((c : Thread nD τ).loc main_arg3) _
  refine congrArg _ ((eq_ix2 _).trans (ix2_ext ?_ ?_))
  · show win0_3.index t 0 * 2048 + 1 * (j 0).val = 2048 * (t.val / 16) + (j 0).val
    rw [(index3 t).1]; omega
  · show win0_3.index t 1 * 128 + 1 * (j 1).val = 128 * (t.val / 4 % 4) + (j 1).val
    rw [(index3 t).2]; omega

/-- What a point writes back is its block of `result`. -/
theorem flushed_eq (c : Dev nD) (t : Fin cfg0.N) :
    (dats m 0 c).flushed 4 t = (win0_4.blk t).view.read (Elt F) (result m c) := by
  show (cfg0.win 4).cut (grid0.coords t) ((dats m 0 c).after 4 t) = _
  have ht : t.val < 128 := lt_of_lt_of_eq t.isLt N_0
  rw [after0_4, outAt, iblk0 m c t ht, iblk1 m c t ht, iblk2 m c t ht, iblk3 m c t ht, coord2 t]
  funext j
  have h0 : (j 0).val < 512 := (j 0).isLt
  have h1 : (j 1).val < 128 := (j 1).isLt
  have e0 : ((((win0_4.blk t).view.emb j) 0 : Fin _) : ℕ) = 512 * (t.val / 16 * 4 + t.val % 4) + (j 0).val := by
    show win0_4.index t 0 * 512 + 1 * (j 0).val = _
    rw [(index4 t).1]; omega
  have e1 : ((((win0_4.blk t).view.emb j) 1 : Fin _) : ℕ) = 128 * (t.val / 4 % 4) + (j 1).val := by
    show win0_4.index t 1 * 128 + 1 * (j 1).val = _
    rw [(index4 t).2]; omega
  show _ = result m c ((win0_4.blk t).view.emb j)
  unfold result resAt
  simp only [e0, e1]
  refine outBlock_congr _ _ _ _ ?_ ?_ ?_ ?_ ((eq_ix2 j).trans (ix2_ext ?_ ?_))
  · omega
  · dsimp only; omega
  · dsimp only; omega
  · dsimp only; omega
  · dsimp only; omega
  · dsimp only; omega

/-- An index of the result array is in point `t`'s block. -/
theorem mem_blk (t : Fin cfg0.N) (i : S16384x512.Idx) :
    i ∈ ((cfg0.win 4).blk t).view.set ↔
      (512 * (t.val / 16 * 4 + t.val % 4) ≤ (i 0 : ℕ) ∧ (i 0 : ℕ) < 512 * (t.val / 16 * 4 + t.val % 4) + 512)
      ∧ 128 * (t.val / 4 % 4) ≤ (i 1 : ℕ) ∧ (i 1 : ℕ) < 128 * (t.val / 4 % 4) + 128 := by
  show i ∈ ((View.whole main_v0).slice (win0_4.rect t)).set ↔ _
  rw [View.set_slice_whole, Rect.mem_set_unit]
  have e0 := (index4 t).1
  have e1 := (index4 t).2
  refine ⟨fun h => ⟨?_, ?_⟩, fun h a => ?_⟩
  · have := h 0
    change win0_4.index t 0 * 512 ≤ (i 0 : ℕ) ∧ (i 0 : ℕ) < win0_4.index t 0 * 512 + 512 at this
    rw [e0] at this; omega
  · have := h 1
    change win0_4.index t 1 * 128 ≤ (i 1 : ℕ) ∧ (i 1 : ℕ) < win0_4.index t 1 * 128 + 128 at this
    rw [e1] at this; omega
  · match a with
    | ⟨0, _⟩ =>
      show win0_4.index t 0 * 512 ≤ (i 0 : ℕ) ∧ (i 0 : ℕ) < win0_4.index t 0 * 512 + 512
      rw [e0]; omega
    | ⟨1, _⟩ =>
      show win0_4.index t 1 * 128 ≤ (i 1 : ℕ) ∧ (i 1 : ℕ) < win0_4.index t 1 * 128 + 128
      rw [e1]; omega

/-- The blocks cover the result. -/
theorem cover (i : S16384x512.Idx) :
    ∃ t : Fin cfg0.N, (cfg0.win 4).flush t = true ∧ i ∈ ((cfg0.win 4).blk t).view.set := by
  have h0 : (i 0 : ℕ) < 16384 := (i 0).isLt
  have h1 : (i 1 : ℕ) < 512 := (i 1).isLt
  have hN : cfg0.N = 128 := N_0
  refine ⟨⟨(i 0 : ℕ) / 2048 * 16 + (i 1 : ℕ) / 128 * 4 + (i 0 : ℕ) / 512 % 4, by omega⟩, flush0_4 _, ?_⟩
  rw [mem_blk]
  dsimp only
  omega

/-- So the result array ends holding `result`, -/
theorem final_o (c : Dev nD) : (dats m 0 c).arrAt 4 cfg0.N = result m c :=
  (dats m 0 c).arrAt_eq_of_cover 4 (result m c) (fun t _ => flushed_eq m c t) cover

/-- and the run, read: the result array at `result`, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_o m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩)
    (run_main m ρ)

end Cert.FoxIdeal.Gen

end
-- ==== Proof.Fox.Read.lean ====
module

public import proofs.«01_k».proof.Proof.Fox.Steps
public import proofs.«01_k».proof.Proof.Mla.Read

@[expose] public section

set_option maxRecDepth 16384

noncomputable section

/-! # A block of the result over the extended reals -/

namespace Cert.FoxIdeal.Gen

open Idealize.ShloMosaic Idealize.ShloMosaic.TcCoe Cert.Flash
open Cert.MlaIdeal.Gen (pos vTile mStep aStep flat masked valRows oneRow key row vl step masked_read tile_val out_read)

/-- A sum over the lanes `w * j`, …, `w * j + w - 1` only. -/
theorem sum_group {N w j : ℕ} (hw : 0 < w) (h : w * j + w ≤ N) (f : Fin N → EReal) :
    ∑ d : Fin N, (if d.val / w = j then f d else 0) = ∑ i : Fin w, f ⟨w * j + i.val, by omega⟩ := by
  symm
  refine Finset.sum_of_injOn (fun i : Fin w => (⟨w * j + i.val, by omega⟩ : Fin N)) (fun a _ b _ e => ?_) (fun _ _ => Finset.mem_coe.2 (Finset.mem_univ _)) (fun d _ hd => ?_) (fun i _ => ?_)
  · have := congrArg Fin.val e
    dsimp only at this
    exact Fin.ext (by omega)
  · refine if_neg fun e => hd ?_
    have e1 := Nat.div_add_mod d.val w
    rw [e] at e1
    exact ⟨⟨d.val % w, Nat.mod_lt _ hw⟩, Finset.mem_coe.2 (Finset.mem_univ _), Fin.ext e1⟩
  · have hi := i.isLt
    refine (if_pos ?_).symm
    show (w * j + i.val) / w = j
    rw [Nat.mul_add_div (by omega), Nat.div_eq_of_lt hi, Nat.add_zero]

/-- Head `j`'s queries: its own lanes of the block, and ones against the parts of its own bias. -/
def qw (x : Vec Ideal S512x128 .bf16) : Fin 2 → FVec Ideal S512x256 .bf16
  | 0 => k0_pay88 x
  | 1 => k0_pay89 x

/-- The words that pick a head's lanes. -/
theorem lanes0 : ∀ d : Fin 128, IntOp.cmpi .slt (BitVec.ofNat 32 d.val) 64#32 = BitVec.ofBool (decide (d.val / 64 = 0)) := by decide +kernel
theorem lanes1 : ∀ d : Fin 128, IntOp.xori (IntOp.cmpi .slt (BitVec.ofNat 32 d.val) 64#32) 1#1 = BitVec.ofBool (decide (d.val / 64 = 1)) := by
  decide +kernel
/-- The words that pick the parts of a head's bias. -/
theorem parts0 : ∀ d : Fin 128, IntOp.andi (IntOp.cmpi .sge (BitVec.ofNat 32 d.val) 0#32) (IntOp.cmpi .slt (BitVec.ofNat 32 d.val) 3#32)
    = BitVec.ofBool (decide (d.val / 3 = 0)) := by decide +kernel
theorem parts1 : ∀ d : Fin 128, IntOp.andi (IntOp.cmpi .sge (BitVec.ofNat 32 d.val) 3#32) (IntOp.cmpi .slt (BitVec.ofNat 32 d.val) 6#32)
    = BitVec.ofBool (decide (d.val / 3 = 1)) := by decide +kernel

theorem qw_low (x : Vec Ideal S512x128 .bf16) (r : Fin 512) (d : Fin 128) : ∀ j : Fin 2,
    qw x j (ix2 r (Fin.castAdd 128 d)) = if d.val / 64 = j.val then x (ix2 r d) else 0
  | 0 => by
    unfold qw
    pointwise [k0_pay88, k0_pay87, k0_pay86]
    rw [dif_pos (show (Fin.castAdd 128 d).val < 128 from d.isLt)]
    show Scalar.select (IntOp.cmpi .slt (BitVec.ofNat 32 d.val) 64#32) _ _ = _
    rw [lanes0, WordCmp.select_ofBool]
    simp only [decide_eq_true_eq]
    rfl
  | 1 => by
    unfold qw
    pointwise [k0_pay89, k0_pay87, k0_pay86]
    rw [dif_pos (show (Fin.castAdd 128 d).val < 128 from d.isLt)]
    show Scalar.select (IntOp.xori (IntOp.cmpi .slt (BitVec.ofNat 32 d.val) 64#32) 1#1) _ _ = _
    rw [lanes1, WordCmp.select_ofBool]
    simp only [decide_eq_true_eq]
    rfl

theorem qw_high (x : Vec Ideal S512x128 .bf16) (r : Fin 512) (d : Fin 128) : ∀ j : Fin 2,
    qw x j (ix2 r (Fin.natAdd 128 d)) = if d.val / 3 = j.val then 1 else 0
  | 0 => by
    unfold qw
    pointwise [k0_pay88, k0_pay87, k0_pay86]
    rw [dif_neg (show ¬ (Fin.natAdd 128 d).val < 128 from by simp), Fin.val_natAdd, Nat.add_sub_cancel_left, parts0, WordCmp.select_ofBool]
    simp only [decide_eq_true_eq]
  | 1 => by
    unfold qw
    pointwise [k0_pay89, k0_pay87, k0_pay86]
    rw [dif_neg (show ¬ (Fin.natAdd 128 d).val < 128 from by simp), Fin.val_natAdd, Nat.add_sub_cancel_left, parts1, WordCmp.select_ofBool]
    simp only [decide_eq_true_eq]

/-- The scores of a tile: one product over the keys' lanes and the biases' lanes. -/
theorem score_read (q : FVec Ideal S512x256 .bf16) (k b : Vec Ideal S512x128 .bf16) (c r : Fin 512) :
    flat (score q k b) (ix2 c r) = (∑ d : Fin 128, k (ix2 c d) * q (ix2 r (Fin.castAdd 128 d)))
      + ∑ d : Fin 128, b (ix2 c d) * q (ix2 r (Fin.natAdd 128 d)) := by
  unfold flat score
  pointwise [k0_pay2, Cert.MlaIdeal.Gen.k0_pay26]
  rfl

/-! ## The state before each tile -/

/-- Part `i` of head `j`'s bias. -/
def part (j : Fin 2) (i : Fin 3) : Fin 128 := ⟨3 * j.val + i.val, by omega⟩

/-- The score of key `p` against query `r` of the block, for head `j`. -/
def sc (x : Vec Ideal S512x128 .bf16) (k b : Vec Ideal S2048x128 .bf16) (j : Fin 2) (r : Fin 512) (p : ℕ) : EReal :=
  (∑ d : Fin 64, k (ix2 (key p) (row j d)) * x (ix2 r (row j d))) + ∑ i : Fin 3, b (ix2 (key p) (part j i))

/-- The same, masked: the block's queries begin at position `512 * n`. -/
def sm (n : ℕ) (x : Vec Ideal S512x128 .bf16) (k b : Vec Ideal S2048x128 .bf16) (j : Fin 2) (r : Fin 512) (p : ℕ) : EReal :=
  if p ≤ 512 * n + r.val then sc x k b j r p else ⊥

theorem tile_score (x : Vec Ideal S512x128 .bf16) (k b : Vec Ideal S2048x128 .bf16) (j : Fin 2) (n : ℕ) (c r : Fin 512) :
    flat (tsc (qw x j) k b n) (ix2 c r) = sc x k b j r (512 * n + c.val) := by
  rw [tsc, score_read]
  simp only [qw_low, qw_high, mul_ite, mul_zero, mul_one]
  rw [sum_group (by decide) (by have := j.isLt; omega), sum_group (by decide) (by have := j.isLt; omega)]
  rfl

theorem tile_before (x : Vec Ideal S512x128 .bf16) (k b : Vec Ideal S2048x128 .bf16) (j : Fin 2) {n m : ℕ} (h : m < n) (c r : Fin 512) :
    flat (tsc (qw x j) k b m) (ix2 c r) = sm n x k b j r (512 * m + c.val) := by
  rw [tile_score, sm, if_pos (by have := c.isLt; omega)]

theorem tile_diag (x : Vec Ideal S512x128 .bf16) (k b : Vec Ideal S2048x128 .bf16) (j : Fin 2) (n : ℕ) (c r : Fin 512) :
    masked (tsc (qw x j) k b n) (ix2 c r) = sm n x k b j r (512 * n + c.val) := by
  rw [masked_read, tile_score, sm]
  exact if_congr (by omega) rfl rfl

/-- Before tile `m` the state is the running softmax of the first `512 * m` keys. -/
theorem state (n : ℕ) (x : Vec Ideal S512x128 .bf16) (k b : Vec Ideal S2048x128 .bf16) (y : Vec Ideal S1x128x2048 .bf16)
    (j : Fin 2) (i : Fin 80) (r : Fin 512) : ∀ m : ℕ, m ≤ n →
    mAt (qw x j) k b m (ix3 0 0 r) = top (sm n x k b j r) (512 * m) ∧
      aAt k0_pay93 (qw x j) k b y j m (ix3 0 i r) = acc (sm n x k b j r) (vl y j i) (512 * m)
  | 0, _ => ⟨rfl, by
      show Ideal.ofBits .f32 0x00000000#32 = _
      rw [Ideal.ofBits_zero]; rfl⟩
  | m + 1, h => by
    obtain ⟨hm, ha⟩ := state n x k b y j i r m (by omega)
    exact step _ _ _ _ _ _ i r m (fun c => tile_before x k b j (by omega) c r) (fun c => tile_val y j i m c) hm ha

/-- After the diagonal tile the sums are those of all the keys. -/
theorem sums (n : ℕ) (hn : n < 4) (x : Vec Ideal S512x128 .bf16) (k b : Vec Ideal S2048x128 .bf16) (y : Vec Ideal S1x128x2048 .bf16)
    (j : Fin 2) (i : Fin 80) (r : Fin 512) :
    aEnd k0_pay93 (qw x j) k b y j n (ix3 0 i r) = acc (sm n x k b j r) (vl y j i) 2048 := by
  obtain ⟨hm, ha⟩ := state n x k b y j i r n le_rfl
  have e := (step (sm n x k b j r) (vl y j i) _ _ (vTile y n j) _ i r n (fun c => tile_diag x k b j n c r) (fun c => tile_val y j i n c) hm ha).2
  refine Eq.trans e ?_
  refine (acc_tail _ _ (by omega) fun p hp => ?_).symm
  rw [sm, if_neg (by have := r.isLt; omega)]

/-- A block of the result: head `j`'s values averaged with the weights of the softmax. -/
theorem outBlock_read (n : ℕ) (hn : n < 4) (x : Vec Ideal S512x128 .bf16) (k : Vec Ideal S2048x128 .bf16)
    (y : Vec Ideal S1x128x2048 .bf16) (b : Vec Ideal S2048x128 .bf16) (r : Fin 512) (j : Fin 2) (d : Fin 64) :
    outBlock n x k y b (ix2 r (row j d)) = Ideal.div (acc (sm n x k b j r) (fun p => y (ix3 0 (row j d) (key p))) 2048)
      (acc (sm n x k b j r) (fun _ => 1) 2048) := by
  have hd := d.isLt
  have num : ∀ j : Fin 2, aEnd k0_pay93 (qw x j) k b y j n (ix3 0 ⟨d.val, by omega⟩ r)
      = acc (sm n x k b j r) (fun p => y (ix3 0 (row j d) (key p))) 2048 := fun j => by
    rw [sums n hn]
    refine acc_congr _ (fun _ _ => rfl) fun p _ => ?_
    rw [vl, dif_pos hd]
  have den : ∀ j : Fin 2, aEnd k0_pay93 (qw x j) k b y j n (ix3 0 ⟨64, by decide⟩ r)
      = acc (sm n x k b j r) (fun _ => 1) 2048 := fun j => by
    rw [sums n hn]
    refine acc_congr _ (fun _ _ => rfl) fun p _ => ?_
    rw [vl, dif_neg (by decide)]
  rw [← num j, ← den j, outBlock]
  refine (out_read _ _ _ _ r (row j d)).trans ?_
  match j with
  | 0 => rw [dif_pos (by show 64 * 0 + d.val < 64; omega)]; unfold valRows oneRow row; simp [ix3, qw]
  | 1 => rw [dif_neg (by show ¬ 64 * 1 + d.val < 64; omega)]; unfold valRows oneRow row; simp [ix3, qw]

end Cert.FoxIdeal.Gen

end
-- ==== Proof.Fox.Ref.lean ====
module

public import proofs.«01_k».proof.Proof.Gen.FoxRefIdeal.Run
public import proofs.«01_k».proof.Proof.Mla.Ref

@[expose] public section

set_option maxRecDepth 16384

noncomputable section

/-! # The reference's result at an index -/

namespace Cert.FoxRefIdeal.Value

open Cert.FoxRefIdeal Cert.FoxRefIdeal.Gen Idealize.ShloMosaic Idealize.ShloMosaic.TcCoe Cert.Flash
open Cert.MlaRefIdeal.Value (weights mean mean_read acc_fin sup_fin log_two key key_val negInf)

variable {F : FTy → Type} [FloatOps F]

/-- The masked scores, times `ln 2`: each key's product with the query and the sum of the three parts of its bias. -/
def scores (q k x : Vec F S16384x512 .bf16) : FVec F S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (addf (Host.dotGeneral dot_S8x2048x8x64_S8x2048x8x64_S8x8x2048x2048_3_3_1_1_02_02 none (shapeCast _ (extf .f32 q bitsLt_bf16_f32) shapeCasts_S16384x512_S8x2048x8x64) (shapeCast _ (extf .f32 k bitsLt_bf16_f32) shapeCasts_S16384x512_S8x2048x8x64))
      (broadcastInDim S8x8x2048x2048 ![0, 1, 2, 3] bcast_S8x8x1x2048_S8x8x2048x2048_0_1_2_3 (broadcastInDim S8x8x1x2048 ![0, 1, 3] bcast_S8x8x2048_S8x8x1x2048_0_1_3 (transpose S8x8x2048 [0, 2, 1] (Host.reduceAdd (shapeCast _ (extractStridedSlice S8x2048x4x6 ![0, 0, 0, 0] (shapeCast _ (extf .f32 x bitsLt_bf16_f32) shapeCasts_S16384x512_S8x2048x4x128) slices_S8x2048x4x128_S8x2048x4x6_0_0_0_0) shapeCasts_S8x2048x4x6_S8x2048x8x3) (constant S_ .f32 0x00000000#32) reducesTo_S8x2048x8x3_S8x2048x8_d3 h_S_) transposes_S8x2048x8_S8x8x2048_0_2_1))))
      (broadcastInDim S8x8x2048x2048 ![] bcast_S_S8x8x2048x2048 (Host.log (constant S_ .f32 0x40000000#32))))
    (broadcastInDim S8x8x2048x2048 ![] bcast_S_S8x8x2048x2048 (id (constant S_ .f32 0xFF800000#32)))

/-- The run's result in these terms. -/
theorem res_eq (m : (ℓ : Loc nD τ sig) → Buf (Elt F) ℓ) (c : Dev nD) : res_out0 m c
    = mean (weights (scores (m ((c.tc : Thread nD τ).loc main_arg0)) (m ((c.tc : Thread nD τ).loc main_arg1)) (m ((c.tc : Thread nD τ).loc main_arg3))))
      (m ((c.tc : Thread nD τ).loc main_arg2)) := rfl

/-- Row `t` of batch `b`, and head `h`'s lane `d`. -/
def at2 (x : Vec Ideal S16384x512 .bf16) (b h : Fin 8) (t : Fin 2048) (d : Fin 64) : EReal :=
  x (ix2 (n0 := 16384) (n1 := 512) ⟨b.val * 2048 + t.val, by omega⟩ ⟨h.val * 64 + d.val, by omega⟩)

/-- Part `i` of the bias of key `t` of batch `b`, for head `h`. -/
def part (x : Vec Ideal S16384x512 .bf16) (b h : Fin 8) (t : Fin 2048) (i : Fin 3) : EReal :=
  x (ix2 (n0 := 16384) (n1 := 512) ⟨b.val * 2048 + t.val, by omega⟩ ⟨h.val / 2 * 128 + (h.val % 2 * 3 + i.val), by omega⟩)

/-- The score in base two of key `p` against query `t`, `⊥` past the query. -/
def logit (q k x : Vec Ideal S16384x512 .bf16) (b h : Fin 8) (t : Fin 2048) (p : ℕ) : EReal :=
  if p ≤ t.val then (∑ d : Fin 64, at2 k b h (key p) d * at2 q b h t d) + ∑ i : Fin 3, part x b h (key p) i else ⊥

theorem scores_read (q k x : Vec Ideal S16384x512 .bf16) (b h : Fin 8) (t p : Fin 2048) :
    scores q k x (ix4 b h t p) = logit q k x b h t p.val * ln2 := by
  pointwise [scores]
  rw [log_two, WordCmp.cmpi_sle_ofNat (by have := p.isLt; omega) (by have := t.isLt; omega), WordCmp.select_ofBool]
  simp only [decide_eq_true_eq]
  unfold logit
  by_cases hp : p.val ≤ t.val
  · rw [if_pos hp, if_pos hp, key_val]
    exact congrArg (· * ln2) (congrArg₂ (· + ·) (Finset.sum_congr rfl fun d _ => mul_comm _ _) rfl)
  · rw [if_neg hp, if_neg hp, bot_mul_ln2]
    exact negInf

theorem weights_read (q k x : Vec Ideal S16384x512 .bf16) (b h : Fin 8) (t p : Fin 2048) :
    weights (scores q k x) (ix4 b h t p) = wt (logit q k x b h t p.val) (top (logit q k x b h t) 2048) := by
  pointwise [weights]
  rw [negInf, scores_read, ← exp_ln2, ← sup_fin, ← sup_mul_ln2]
  simp only [scores_read]
  rfl

/-- The reference's result: the values of the keys up to the query, averaged with the weights of the softmax. -/
theorem result_read (q k x : Vec Ideal S16384x512 .bf16) (v : Vec Ideal S8x512x2048 .bf16) (r : Fin 16384) (c : Fin 512)
    (b h : Fin 8) (t : Fin 2048) (hb : r.val / 2048 = b.val) (hh : c.val / 64 = h.val) (ht : r.val % 2048 = t.val) :
    mean (weights (scores q k x)) v (ix2 r c) = Ideal.div
      (acc (logit q k x b h t) (fun p => v (ix3 (n0 := 8) (n1 := 512) (n2 := 2048) b c (key p))) 2048)
      (acc (logit q k x b h t) (fun _ => 1) 2048) := by
  have eb : (⟨r.val / 2048, by omega⟩ : Fin 8) = b := Fin.ext hb
  have eh : (⟨c.val / 64, by omega⟩ : Fin 8) = h := Fin.ext hh
  have et : (⟨r.val % 2048, by omega⟩ : Fin 2048) = t := Fin.ext ht
  rw [mean_read, eb, eh, et, acc_fin, acc_fin]
  simp only [weights_read, key_val, one_mul]

end Cert.FoxRefIdeal.Value

end
-- ==== Proof.Fox.Claims.lean ====
module

public import proofs.«01_k».proof.Defs
public import proofs.«01_k».proof.Proof.Fox.Words
public import proofs.«01_k».proof.Proof.Fox.Array
public import proofs.«01_k».proof.Proof.Fox.Read
public import proofs.«01_k».proof.Proof.Fox.Ref
public import Idealize.ShloMosaic.Adequacy
public import Idealize.ShloMosaic.Init

@[expose] public section

set_option maxRecDepth 16384

noncomputable section

/-! # The claims about the forgetting attention over the prompt -/

namespace Cert.Proof.FoxClaims

open Idealize.ShloMosaic Idealize.ShloMosaic.TcCoe Idealize.SL.Sem Cert.Flash Cert.FoxIdeal Cert.FoxIdeal.Gen
open Cert.FoxRefIdeal.Value (logit at2 scores result_read)
open Cert.MlaRefIdeal.Value (mean weights)
open Cert.MlaIdeal.Gen (vBlock ix2_ext ix3_ext row)

local notation "Rows" => Vec Ideal (⟨2, ![16384, 512]⟩ : Shape) EltTy.bf16
local notation "Cols" => Vec Ideal (⟨3, ![8, 512, 2048]⟩ : Shape) EltTy.bf16

/-- The masked scores of a block are the reference's. -/
theorem sm_eq (q k x : Rows) (r : Fin 16384) (c : Fin 512) (j : Fin 2) (b h : Fin 8) (t : Fin 2048)
    (hb : r.val / 2048 = b.val) (hh : c.val / 64 = h.val) (ht : r.val % 2048 = t.val) (hj : c.val % 128 / 64 = j.val) (p : ℕ) :
    sm (r.val / 512 % 4) (qBlock q ⟨r.val / 512, by omega⟩ ⟨c.val / 128, by omega⟩) (kBlock k ⟨r.val / 2048, by omega⟩ ⟨c.val / 128, by omega⟩)
      (kBlock x ⟨r.val / 2048, by omega⟩ ⟨c.val / 128, by omega⟩) j ⟨r.val % 512, by omega⟩ p = logit q k x b h t p := by
  unfold sm logit sc
  refine if_congr (by dsimp only; omega) (congrArg₂ (· + ·) (Finset.sum_congr rfl fun d _ => congrArg₂ (· * ·) ?_ ?_)
    (Finset.sum_congr rfl fun i _ => ?_)) rfl
  · unfold kBlock at2 Cert.MlaIdeal.Gen.key row
    refine congrArg k (ix2_ext ?_ ?_)
    · show 2048 * (r.val / 2048) + p % 2048 = b.val * 2048 + p % 2048; omega
    · show 128 * (c.val / 128) + (64 * j.val + d.val) = h.val * 64 + d.val; omega
  · unfold qBlock at2 row
    refine congrArg q (ix2_ext ?_ ?_)
    · show 512 * (r.val / 512) + r.val % 512 = b.val * 2048 + t.val; omega
    · show 128 * (c.val / 128) + (64 * j.val + d.val) = h.val * 64 + d.val; omega
  · unfold kBlock Cert.FoxRefIdeal.Value.part Cert.MlaIdeal.Gen.key Cert.FoxIdeal.Gen.part
    refine congrArg x (ix2_ext ?_ ?_)
    · show 2048 * (r.val / 2048) + p % 2048 = b.val * 2048 + p % 2048; omega
    · show 128 * (c.val / 128) + (3 * j.val + i.val) = h.val / 2 * 128 + (h.val % 2 * 3 + i.val); omega

/-- The kernel's result array is the reference's. -/
theorem result_eq (q k x : Rows) (v : Cols) : resAt (F := Ideal) q k v x = mean (weights (scores q k x)) v := by
  funext i
  obtain ⟨r, c, rfl⟩ : ∃ (r : Fin 16384) (c : Fin 512), i = ix2 r c := ⟨i 0, i 1, eq_ix2 i⟩
  have hr := r.isLt
  have hc := c.isLt
  rw [result_read q k x v r c ⟨r.val / 2048, by omega⟩ ⟨c.val / 64, by omega⟩ ⟨r.val % 2048, by omega⟩ rfl rfl rfl]
  have e : (ix2 (n0 := 512) (n1 := 128) ⟨r.val % 512, by omega⟩ ⟨c.val % 128, by omega⟩)
      = ix2 ⟨r.val % 512, by omega⟩ (row ⟨c.val % 128 / 64, by omega⟩ ⟨c.val % 64, by omega⟩) :=
    ix2_ext rfl (by show c.val % 128 = 64 * (c.val % 128 / 64) + c.val % 64; omega)
  show outBlock (r.val / 512 % 4) (qBlock q ⟨r.val / 512, by omega⟩ ⟨c.val / 128, by omega⟩)
    (kBlock k ⟨r.val / 2048, by omega⟩ ⟨c.val / 128, by omega⟩) (vBlock v ⟨r.val / 2048, by omega⟩ ⟨c.val / 128, by omega⟩)
    (kBlock x ⟨r.val / 2048, by omega⟩ ⟨c.val / 128, by omega⟩)
    (ix2 (n0 := 512) (n1 := 128) ⟨r.val % 512, by omega⟩ ⟨c.val % 128, by omega⟩) = _
  rw [e, outBlock_read _ (by omega)]
  have hs := sm_eq q k x r c ⟨c.val % 128 / 64, by omega⟩ ⟨r.val / 2048, by omega⟩ ⟨c.val / 64, by omega⟩ ⟨r.val % 2048, by omega⟩ rfl rfl rfl rfl
  refine congrArg₂ Ideal.div (acc_congr _ (fun p _ => hs p) fun p _ => ?_) (acc_congr _ (fun p _ => hs p) fun _ _ => rfl)
  unfold vBlock row
  refine congrArg v (ix3_ext rfl ?_ rfl)
  show 128 * (c.val / 128) + (64 * (c.val % 128 / 64) + c.val % 64) = c.val
  omega

/-- Over the extended reals too the kernel terminates and leaves its arguments and its counters, -/
theorem frame_pi : Cert.quiescent_FoxIdeal := fun m ρ _ => Cert.FoxIdeal.Gen.frame m ρ

/-- and so does the reference. -/
theorem frame_ri : Cert.quiescent_FoxRefIdeal := fun m ρ _ =>
  (θ_run Cert.FoxRefIdeal.defs _ _).mono (fun r h => ⟨fun c => ⟨(h c).2.1, (h c).2.2.1, (h c).2.2.2.1, (h c).2.2.2.2⟩,
      sem_eq_zero_of_no_sems (by decide) r.2⟩)
    (Cert.FoxRefIdeal.Value.run (F := Ideal) m ρ)

/-- The mask's constant is read as `⊥`. -/
theorem preserves : Cert.preserves_Fox_FoxIdeal := IdealRules.named_const.statement Cert.FoxIdeal.κ "mask" .f32 0xF149F2CA#32 ⊥ rfl

/-- Over the extended reals the kernel and the reference compute the same array. -/
theorem algebraic : Cert.algebraic_FoxIdeal_FoxRefIdeal := by
  intro m ρ m' ρ' _ hagree
  refine ⟨fun c => result m c, run (F := Ideal) m ρ, ?_⟩
  refine (θ_run Cert.FoxRefIdeal.defs _ _).mono (fun _ h c => ⟨(h c).1.trans ?_, (h c).2⟩)
    (Cert.FoxRefIdeal.Value.run (F := Ideal) m' ρ')
  refine (Cert.FoxRefIdeal.Value.res_eq m' c).trans ?_
  rw [(hagree c).1, (hagree c).2.1, (hagree c).2.2.1, (hagree c).2.2.2]
  exact (result_eq _ _ _ _).symm

end Cert.Proof.FoxClaims

end
-- ==== Proof.lean ====
module

public import proofs.«01_k».proof.Defs
public import proofs.«01_k».proof.Proof.Mla.Claims
public import proofs.«01_k».proof.Proof.Gen.MlaRefIdeal.Run
public import proofs.«01_k».proof.Proof.Gen.MergeRefIdeal.Run
public import proofs.«01_k».proof.Proof.Gen.MergeIdeal.Value
public import proofs.«01_k».proof.Proof.Gen.Merge.Frame
public import proofs.«01_k».proof.Proof.Merge.Claims
public import proofs.«01_k».proof.Proof.Gen.ProjIdeal.Value
public import proofs.«01_k».proof.Proof.Gen.ProjRefIdeal.Run
public import proofs.«01_k».proof.Proof.Proj.Claims
public import proofs.«01_k».proof.Proof.Gen.ProjS.Frame
public import proofs.«01_k».proof.Proof.Gen.ProjSIdeal.Value
public import proofs.«01_k».proof.Proof.Gen.ProjSRefIdeal.Run
public import proofs.«01_k».proof.Proof.ProjS.Claims
public import proofs.«01_k».proof.Proof.Gen.MergeS.Frame
public import proofs.«01_k».proof.Proof.Gen.MergeSIdeal.Value
public import proofs.«01_k».proof.Proof.Gen.MergeSRefIdeal.Run
public import proofs.«01_k».proof.Proof.MergeS.Claims
public import proofs.«01_k».proof.Proof.Gen.Fox
public import proofs.«01_k».proof.Proof.Gen.FoxIdeal.Frame.Runs
public import proofs.«01_k».proof.Proof.Gen.FoxRefIdeal.Run
public import proofs.«01_k».proof.Proof.Fox.Claims

@[expose] public section

noncomputable section

namespace Cert.Proof

open Idealize.ShloMosaic Idealize.SL.Sem

/-- Every claim of the certificate. -/
theorem claim : Cert.Claim := ⟨Cert.Mla.Gen.facts, Cert.MlaIdeal.Gen.facts, Cert.MlaRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts,
  Cert.ProjS.Gen.facts, Cert.ProjSIdeal.Gen.facts, Cert.ProjSRefIdeal.Gen.facts,
  Cert.MergeS.Gen.facts, Cert.MergeSIdeal.Gen.facts, Cert.MergeSRefIdeal.Gen.facts,
  Cert.Fox.Gen.facts, Cert.FoxIdeal.Gen.facts, Cert.FoxRefIdeal.Gen.facts,
  MlaClaims.frame_p, MlaClaims.frame_pi, MlaClaims.frame_ri,
  MergeClaims.frame_p, MergeClaims.frame_pi, MergeClaims.frame_ri,
  ProjClaims.frame_p, ProjClaims.frame_pi, ProjClaims.frame_ri,
  ProjSClaims.frame_p, ProjSClaims.frame_pi, ProjSClaims.frame_ri,
  MergeSClaims.frame_p, MergeSClaims.frame_pi, MergeSClaims.frame_ri,
  FoxClaims.frame_p, FoxClaims.frame_pi, FoxClaims.frame_ri,
  MlaClaims.preserves, MlaClaims.algebraic, MergeClaims.preserves, MergeClaims.algebraic,
  ProjClaims.preserves, ProjClaims.algebraic,
  ProjSClaims.preserves, ProjSClaims.algebraic, MergeSClaims.preserves, MergeSClaims.algebraic,
  FoxClaims.preserves, FoxClaims.algebraic⟩

end Cert.Proof

end
